-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Pyramid (m : (ℓ : Loc Cert.Pyramid.nD Cert.Pyramid.τ Cert.Pyramid.sig) → Buf (Elt Bits) ℓ) : Prop :=
  True

def Pre_PyramidIdeal (m : (ℓ : Loc Cert.PyramidIdeal.nD Cert.PyramidIdeal.τ Cert.PyramidIdeal.sig) → Buf (Elt Ideal) ℓ) : Prop :=
  True

def Pre_WindowsIdeal (m : (ℓ : Loc Cert.WindowsIdeal.nD Cert.WindowsIdeal.τ Cert.WindowsIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Pyramid [hPyramid : Cert.Pyramid.Facts] : Prop :=
  ∀ (m : (ℓ : Loc Cert.Pyramid.nD Cert.Pyramid.τ Cert.Pyramid.sig) → Buf (Elt Bits) ℓ) (g : Dev Cert.Pyramid.nD → PrngReg), Pre_Pyramid m →
    θ_run (Cert.Pyramid.defs (F := Bits)) (onTc (τ := Cert.Pyramid.τ) (Cert.Pyramid.main (F := Bits))) ⟨m, fun _ => 0, g⟩ (fun r => (∀ c : Dev Cert.Pyramid.nD,
      r.2.mem ((c.tc : Thread Cert.Pyramid.nD Cert.Pyramid.τ).loc Cert.Pyramid.main_arg0) = m ((c.tc : Thread Cert.Pyramid.nD Cert.Pyramid.τ).loc Cert.Pyramid.main_arg0)
      ∧ r.2.mem ((c.tc : Thread Cert.Pyramid.nD Cert.Pyramid.τ).loc Cert.Pyramid.main_arg1) = m ((c.tc : Thread Cert.Pyramid.nD Cert.Pyramid.τ).loc Cert.Pyramid.main_arg1)
      ∧ r.2.mem ((c.tc : Thread Cert.Pyramid.nD Cert.Pyramid.τ).loc Cert.Pyramid.main_arg2) = m ((c.tc : Thread Cert.Pyramid.nD Cert.Pyramid.τ).loc Cert.Pyramid.main_arg2)
      ∧ r.2.mem ((c.tc : Thread Cert.Pyramid.nD Cert.Pyramid.τ).loc Cert.Pyramid.main_arg3) = m ((c.tc : Thread Cert.Pyramid.nD Cert.Pyramid.τ).loc Cert.Pyramid.main_arg3)
      ∧ r.2.mem ((c.tc : Thread Cert.Pyramid.nD Cert.Pyramid.τ).loc Cert.Pyramid.main_arg4) = m ((c.tc : Thread Cert.Pyramid.nD Cert.Pyramid.τ).loc Cert.Pyramid.main_arg4)
      ∧ r.2.mem ((c.tc : Thread Cert.Pyramid.nD Cert.Pyramid.τ).loc Cert.Pyramid.main_arg5) = m ((c.tc : Thread Cert.Pyramid.nD Cert.Pyramid.τ).loc Cert.Pyramid.main_arg5))
      ∧ r.2.sem = fun _ => 0)

def quiescent_PyramidIdeal [hPyramidIdeal : Cert.PyramidIdeal.Facts] : Prop :=
  ∀ (m : (ℓ : Loc Cert.PyramidIdeal.nD Cert.PyramidIdeal.τ Cert.PyramidIdeal.sig) → Buf (Elt Ideal) ℓ) (g : Dev Cert.PyramidIdeal.nD → PrngReg), Pre_PyramidIdeal m →
    θ_run (Cert.PyramidIdeal.defs (F := Ideal)) (onTc (τ := Cert.PyramidIdeal.τ) (Cert.PyramidIdeal.main (F := Ideal))) ⟨m, fun _ => 0, g⟩ (fun r => (∀ c : Dev Cert.PyramidIdeal.nD,
      r.2.mem ((c.tc : Thread Cert.PyramidIdeal.nD Cert.PyramidIdeal.τ).loc Cert.PyramidIdeal.main_arg0) = m ((c.tc : Thread Cert.PyramidIdeal.nD Cert.PyramidIdeal.τ).loc Cert.PyramidIdeal.main_arg0)
      ∧ r.2.mem ((c.tc : Thread Cert.PyramidIdeal.nD Cert.PyramidIdeal.τ).loc Cert.PyramidIdeal.main_arg1) = m ((c.tc : Thread Cert.PyramidIdeal.nD Cert.PyramidIdeal.τ).loc Cert.PyramidIdeal.main_arg1)
      ∧ r.2.mem ((c.tc : Thread Cert.PyramidIdeal.nD Cert.PyramidIdeal.τ).loc Cert.PyramidIdeal.main_arg2) = m ((c.tc : Thread Cert.PyramidIdeal.nD Cert.PyramidIdeal.τ).loc Cert.PyramidIdeal.main_arg2)
      ∧ r.2.mem ((c.tc : Thread Cert.PyramidIdeal.nD Cert.PyramidIdeal.τ).loc Cert.PyramidIdeal.main_arg3) = m ((c.tc : Thread Cert.PyramidIdeal.nD Cert.PyramidIdeal.τ).loc Cert.PyramidIdeal.main_arg3)
      ∧ r.2.mem ((c.tc : Thread Cert.PyramidIdeal.nD Cert.PyramidIdeal.τ).loc Cert.PyramidIdeal.main_arg4) = m ((c.tc : Thread Cert.PyramidIdeal.nD Cert.PyramidIdeal.τ).loc Cert.PyramidIdeal.main_arg4)
      ∧ r.2.mem ((c.tc : Thread Cert.PyramidIdeal.nD Cert.PyramidIdeal.τ).loc Cert.PyramidIdeal.main_arg5) = m ((c.tc : Thread Cert.PyramidIdeal.nD Cert.PyramidIdeal.τ).loc Cert.PyramidIdeal.main_arg5))
      ∧ r.2.sem = fun _ => 0)

def quiescent_WindowsIdeal [hWindowsIdeal : Cert.WindowsIdeal.Facts] : Prop :=
  ∀ (m : (ℓ : Loc Cert.WindowsIdeal.nD Cert.WindowsIdeal.τ Cert.WindowsIdeal.sig) → Buf (Elt Ideal) ℓ) (g : Dev Cert.WindowsIdeal.nD → PrngReg), Pre_WindowsIdeal m →
    θ_run (Cert.WindowsIdeal.defs (F := Ideal)) (onTc (τ := Cert.WindowsIdeal.τ) (Cert.WindowsIdeal.main (F := Ideal))) ⟨m, fun _ => 0, g⟩ (fun r => (∀ c : Dev Cert.WindowsIdeal.nD,
      r.2.mem ((c.tc : Thread Cert.WindowsIdeal.nD Cert.WindowsIdeal.τ).loc Cert.WindowsIdeal.main_arg0) = m ((c.tc : Thread Cert.WindowsIdeal.nD Cert.WindowsIdeal.τ).loc Cert.WindowsIdeal.main_arg0)
      ∧ r.2.mem ((c.tc : Thread Cert.WindowsIdeal.nD Cert.WindowsIdeal.τ).loc Cert.WindowsIdeal.main_arg1) = m ((c.tc : Thread Cert.WindowsIdeal.nD Cert.WindowsIdeal.τ).loc Cert.WindowsIdeal.main_arg1)
      ∧ r.2.mem ((c.tc : Thread Cert.WindowsIdeal.nD Cert.WindowsIdeal.τ).loc Cert.WindowsIdeal.main_arg2) = m ((c.tc : Thread Cert.WindowsIdeal.nD Cert.WindowsIdeal.τ).loc Cert.WindowsIdeal.main_arg2)
      ∧ r.2.mem ((c.tc : Thread Cert.WindowsIdeal.nD Cert.WindowsIdeal.τ).loc Cert.WindowsIdeal.main_arg3) = m ((c.tc : Thread Cert.WindowsIdeal.nD Cert.WindowsIdeal.τ).loc Cert.WindowsIdeal.main_arg3)
      ∧ r.2.mem ((c.tc : Thread Cert.WindowsIdeal.nD Cert.WindowsIdeal.τ).loc Cert.WindowsIdeal.main_arg4) = m ((c.tc : Thread Cert.WindowsIdeal.nD Cert.WindowsIdeal.τ).loc Cert.WindowsIdeal.main_arg4)
      ∧ r.2.mem ((c.tc : Thread Cert.WindowsIdeal.nD Cert.WindowsIdeal.τ).loc Cert.WindowsIdeal.main_arg5) = m ((c.tc : Thread Cert.WindowsIdeal.nD Cert.WindowsIdeal.τ).loc Cert.WindowsIdeal.main_arg5))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)) (v5 : (c : Dev Cert.KernelIdeal.nD) → Buf (Elt Ideal) ((c.tc : Thread Cert.KernelIdeal.nD Cert.KernelIdeal.τ).loc Cert.KernelIdeal.main_v7_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_v7_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_v3_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Pyramid_PyramidIdeal : Prop :=
  True

def algebraic_PyramidIdeal_WindowsIdeal [hPyramidIdeal : Cert.PyramidIdeal.Facts] [hWindowsIdeal : Cert.WindowsIdeal.Facts] : Prop :=
  ∀ (m : (ℓ : Loc Cert.PyramidIdeal.nD Cert.PyramidIdeal.τ Cert.PyramidIdeal.sig) → Buf (Elt Ideal) ℓ) (g : Dev Cert.PyramidIdeal.nD → PrngReg)
    (m' : (ℓ : Loc Cert.WindowsIdeal.nD Cert.WindowsIdeal.τ Cert.WindowsIdeal.sig) → Buf (Elt Ideal) ℓ) (g' : Dev Cert.WindowsIdeal.nD → PrngReg), Pre_PyramidIdeal m →
    (∀ c : Dev Cert.PyramidIdeal.nD,
      m' ((c.tc : Thread Cert.WindowsIdeal.nD Cert.WindowsIdeal.τ).loc Cert.WindowsIdeal.main_arg0) = m ((c.tc : Thread Cert.PyramidIdeal.nD Cert.PyramidIdeal.τ).loc Cert.PyramidIdeal.main_arg0)
      ∧ m' ((c.tc : Thread Cert.WindowsIdeal.nD Cert.WindowsIdeal.τ).loc Cert.WindowsIdeal.main_arg1) = m ((c.tc : Thread Cert.PyramidIdeal.nD Cert.PyramidIdeal.τ).loc Cert.PyramidIdeal.main_arg1)
      ∧ m' ((c.tc : Thread Cert.WindowsIdeal.nD Cert.WindowsIdeal.τ).loc Cert.WindowsIdeal.main_arg2) = m ((c.tc : Thread Cert.PyramidIdeal.nD Cert.PyramidIdeal.τ).loc Cert.PyramidIdeal.main_arg2)
      ∧ m' ((c.tc : Thread Cert.WindowsIdeal.nD Cert.WindowsIdeal.τ).loc Cert.WindowsIdeal.main_arg3) = m ((c.tc : Thread Cert.PyramidIdeal.nD Cert.PyramidIdeal.τ).loc Cert.PyramidIdeal.main_arg3)
      ∧ m' ((c.tc : Thread Cert.WindowsIdeal.nD Cert.WindowsIdeal.τ).loc Cert.WindowsIdeal.main_arg4) = m ((c.tc : Thread Cert.PyramidIdeal.nD Cert.PyramidIdeal.τ).loc Cert.PyramidIdeal.main_arg4)
      ∧ m' ((c.tc : Thread Cert.WindowsIdeal.nD Cert.WindowsIdeal.τ).loc Cert.WindowsIdeal.main_arg5) = m ((c.tc : Thread Cert.PyramidIdeal.nD Cert.PyramidIdeal.τ).loc Cert.PyramidIdeal.main_arg5)) →
    ∃ (v0 : (c : Dev Cert.PyramidIdeal.nD) → Buf (Elt Ideal) ((c.tc : Thread Cert.PyramidIdeal.nD Cert.PyramidIdeal.τ).loc Cert.PyramidIdeal.main_v2_0)) (v1 : (c : Dev Cert.PyramidIdeal.nD) → Buf (Elt Ideal) ((c.tc : Thread Cert.PyramidIdeal.nD Cert.PyramidIdeal.τ).loc Cert.PyramidIdeal.main_v2_1)),
      θ_run (Cert.PyramidIdeal.defs (F := Ideal)) (onTc (τ := Cert.PyramidIdeal.τ) (Cert.PyramidIdeal.main (F := Ideal))) ⟨m, fun _ => 0, g⟩ (fun r => ∀ c : Dev Cert.PyramidIdeal.nD,
          r.2.mem ((c.tc : Thread Cert.PyramidIdeal.nD Cert.PyramidIdeal.τ).loc Cert.PyramidIdeal.main_v2_0) = v0 c
          ∧ r.2.mem ((c.tc : Thread Cert.PyramidIdeal.nD Cert.PyramidIdeal.τ).loc Cert.PyramidIdeal.main_v2_1) = v1 c
          ∧ r.2.mem ((c.tc : Thread Cert.PyramidIdeal.nD Cert.PyramidIdeal.τ).loc Cert.PyramidIdeal.main_arg0) = m ((c.tc : Thread Cert.PyramidIdeal.nD Cert.PyramidIdeal.τ).loc Cert.PyramidIdeal.main_arg0)
          ∧ r.2.mem ((c.tc : Thread Cert.PyramidIdeal.nD Cert.PyramidIdeal.τ).loc Cert.PyramidIdeal.main_arg1) = m ((c.tc : Thread Cert.PyramidIdeal.nD Cert.PyramidIdeal.τ).loc Cert.PyramidIdeal.main_arg1)
          ∧ r.2.mem ((c.tc : Thread Cert.PyramidIdeal.nD Cert.PyramidIdeal.τ).loc Cert.PyramidIdeal.main_arg2) = m ((c.tc : Thread Cert.PyramidIdeal.nD Cert.PyramidIdeal.τ).loc Cert.PyramidIdeal.main_arg2)
          ∧ r.2.mem ((c.tc : Thread Cert.PyramidIdeal.nD Cert.PyramidIdeal.τ).loc Cert.PyramidIdeal.main_arg3) = m ((c.tc : Thread Cert.PyramidIdeal.nD Cert.PyramidIdeal.τ).loc Cert.PyramidIdeal.main_arg3)
          ∧ r.2.mem ((c.tc : Thread Cert.PyramidIdeal.nD Cert.PyramidIdeal.τ).loc Cert.PyramidIdeal.main_arg4) = m ((c.tc : Thread Cert.PyramidIdeal.nD Cert.PyramidIdeal.τ).loc Cert.PyramidIdeal.main_arg4)
          ∧ r.2.mem ((c.tc : Thread Cert.PyramidIdeal.nD Cert.PyramidIdeal.τ).loc Cert.PyramidIdeal.main_arg5) = m ((c.tc : Thread Cert.PyramidIdeal.nD Cert.PyramidIdeal.τ).loc Cert.PyramidIdeal.main_arg5))
      ∧ θ_run (Cert.WindowsIdeal.defs (F := Ideal)) (onTc (τ := Cert.WindowsIdeal.τ) (Cert.WindowsIdeal.main (F := Ideal))) ⟨m', fun _ => 0, g'⟩ (fun r => ∀ c : Dev Cert.WindowsIdeal.nD,
          r.2.mem ((c.tc : Thread Cert.WindowsIdeal.nD Cert.WindowsIdeal.τ).loc Cert.WindowsIdeal.main_v1_0) = v0 c
          ∧ r.2.mem ((c.tc : Thread Cert.WindowsIdeal.nD Cert.WindowsIdeal.τ).loc Cert.WindowsIdeal.main_v1_1) = v1 c
          ∧ r.2.mem ((c.tc : Thread Cert.WindowsIdeal.nD Cert.WindowsIdeal.τ).loc Cert.WindowsIdeal.main_arg0) = m' ((c.tc : Thread Cert.WindowsIdeal.nD Cert.WindowsIdeal.τ).loc Cert.WindowsIdeal.main_arg0)
          ∧ r.2.mem ((c.tc : Thread Cert.WindowsIdeal.nD Cert.WindowsIdeal.τ).loc Cert.WindowsIdeal.main_arg1) = m' ((c.tc : Thread Cert.WindowsIdeal.nD Cert.WindowsIdeal.τ).loc Cert.WindowsIdeal.main_arg1)
          ∧ r.2.mem ((c.tc : Thread Cert.WindowsIdeal.nD Cert.WindowsIdeal.τ).loc Cert.WindowsIdeal.main_arg2) = m' ((c.tc : Thread Cert.WindowsIdeal.nD Cert.WindowsIdeal.τ).loc Cert.WindowsIdeal.main_arg2)
          ∧ r.2.mem ((c.tc : Thread Cert.WindowsIdeal.nD Cert.WindowsIdeal.τ).loc Cert.WindowsIdeal.main_arg3) = m' ((c.tc : Thread Cert.WindowsIdeal.nD Cert.WindowsIdeal.τ).loc Cert.WindowsIdeal.main_arg3)
          ∧ r.2.mem ((c.tc : Thread Cert.WindowsIdeal.nD Cert.WindowsIdeal.τ).loc Cert.WindowsIdeal.main_arg4) = m' ((c.tc : Thread Cert.WindowsIdeal.nD Cert.WindowsIdeal.τ).loc Cert.WindowsIdeal.main_arg4)
          ∧ r.2.mem ((c.tc : Thread Cert.WindowsIdeal.nD Cert.WindowsIdeal.τ).loc Cert.WindowsIdeal.main_arg5) = m' ((c.tc : Thread Cert.WindowsIdeal.nD Cert.WindowsIdeal.τ).loc Cert.WindowsIdeal.main_arg5))

def Claim : Prop :=
  ∃ (hKernel : Cert.Kernel.Facts) (hKernelIdeal : Cert.KernelIdeal.Facts) (hReferenceIdeal : Cert.ReferenceIdeal.Facts) (hPyramid : Cert.Pyramid.Facts) (hPyramidIdeal : Cert.PyramidIdeal.Facts) (hWindowsIdeal : Cert.WindowsIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ quiescent_Pyramid (hPyramid := hPyramid)
    ∧ quiescent_PyramidIdeal (hPyramidIdeal := hPyramidIdeal)
    ∧ quiescent_WindowsIdeal (hWindowsIdeal := hWindowsIdeal)
    ∧ preserves_Kernel_KernelIdeal
    ∧ algebraic_KernelIdeal_ReferenceIdeal_pre_pre (hKernelIdeal := hKernelIdeal) (hReferenceIdeal := hReferenceIdeal) (hPre_pre := hPre_pre)
    ∧ preserves_Pyramid_PyramidIdeal
    ∧ algebraic_PyramidIdeal_WindowsIdeal (hPyramidIdeal := hPyramidIdeal) (hWindowsIdeal := hWindowsIdeal)
-- ==== Pre_pre.lean ====
abbrev S2x10880x1024 : Shape := ⟨3, ![2, 10880, 1024]⟩
abbrev S2x1x10880 : Shape := ⟨3, ![2, 1, 10880]⟩
abbrev S1024x1024 : Shape := ⟨2, ![1024, 1024]⟩
abbrev S1024 : Shape := ⟨1, ![1024]⟩
abbrev S_ : Shape := ⟨0, ![]⟩

class Facts : Prop where
  bcast_S_S2x1x10880 : S_.BroadcastsInDim S2x1x10880 (![] : Fin 0 → Fin S2x1x10880.rank)

variable [Facts]

def fn {F : FTy → Type} [FloatOps F] (main_arg0 : FVec F S2x10880x1024 .fp8e4m3) (main_arg1 : FVec F S2x1x10880 .f32) (main_arg2 : FVec F S1024x1024 .fp8e4m3) (main_arg3 : FVec F S1024x1024 .fp8e4m3) (main_arg4 : FVec F S1024x1024 .fp8e4m3) (main_arg5 : FVec F S1024 .f32) (main_arg6 : FVec F S1024 .f32) (main_arg7 : FVec F S1024 .f32) : IVec S2x1x10880 1 :=
  let main_v0 : FVec F S2x1x10880 .f32 := Host.log main_arg1
  let main_cst : FVec F S_ .f32 := constant S_ .f32 0x40000000#32
  let main_v1 : FVec F S2x1x10880 .f32 := broadcastInDim S2x1x10880 ![] bcast_S_S2x1x10880 main_cst
  let main_v2 : FVec F S2x1x10880 .f32 := Host.log main_v1
  let main_v3 : FVec F S2x1x10880 .f32 := Host.divf main_v0 main_v2
  let main_cst_0 : FVec F S_ .f32 := constant S_ .f32 0x00000000#32
  let main_v4 : FVec F S2x1x10880 .f32 := broadcastInDim S2x1x10880 ![] bcast_S_S2x1x10880 main_cst_0
  let main_v5 : IVec S2x1x10880 1 := cmpf .ogt main_arg1 main_v4
  let main_cst_1 : FVec F S_ .f32 := constant S_ .f32 0x7F800000#32
  let main_v6 : FVec F S2x1x10880 .f32 := broadcastInDim S2x1x10880 ![] bcast_S_S2x1x10880 main_cst_1
  let main_v7 : IVec S2x1x10880 1 := cmpf .olt main_arg1 main_v6
  let main_v8 : IVec S2x1x10880 1 := andi main_v5 main_v7
  let main_v9 : FVec F S2x1x10880 .f32 := Host.floor main_v3
  let main_v10 : IVec S2x1x10880 1 := cmpf .oeq main_v9 main_v3
  let main_v11 : IVec S2x1x10880 1 := andi main_v8 main_v10
  main_v11
-- ==== Kernel.lean ====
abbrev S2x10880x1024 : Shape := ⟨3, ![2, 10880, 1024]⟩
abbrev S2x1x10880 : Shape := ⟨3, ![2, 1, 10880]⟩
abbrev S1024x1024 : Shape := ⟨2, ![1024, 1024]⟩
abbrev S1024 : Shape := ⟨1, ![1024]⟩
abbrev S3072x1024 : Shape := ⟨2, ![3072, 1024]⟩
abbrev S3072 : Shape := ⟨1, ![3072]⟩
abbrev S3072x1 : Shape := ⟨2, ![3072, 1]⟩
abbrev S3072x128 : Shape := ⟨2, ![3072, 128]⟩
abbrev S2x1024x10880 : Shape := ⟨3, ![2, 1024, 10880]⟩
abbrev S2x16x10880 : Shape := ⟨3, ![2, 16, 10880]⟩
abbrev S1x256x1024 : Shape := ⟨3, ![1, 256, 1024]⟩
abbrev S1x1x256 : Shape := ⟨3, ![1, 1, 256]⟩
abbrev S1x1024x256 : Shape := ⟨3, ![1, 1024, 256]⟩
abbrev S1x16x256 : Shape := ⟨3, ![1, 16, 256]⟩
abbrev S2x1024x128 : Shape := ⟨3, ![2, 1024, 128]⟩
abbrev S2x128x128 : Shape := ⟨3, ![2, 128, 128]⟩
abbrev S2x16x128 : Shape := ⟨3, ![2, 16, 128]⟩
abbrev S256x1024 : Shape := ⟨2, ![256, 1024]⟩
abbrev S1x256 : Shape := ⟨2, ![1, 256]⟩
abbrev S256x256 : Shape := ⟨2, ![256, 256]⟩
abbrev S64x128 : Shape := ⟨2, ![64, 128]⟩
abbrev S1x64x128 : Shape := ⟨3, ![1, 64, 128]⟩
abbrev S8x128 : Shape := ⟨2, ![8, 128]⟩
abbrev S1x8x128 : Shape := ⟨3, ![1, 8, 128]⟩
abbrev S1x16x128 : Shape := ⟨3, ![1, 16, 128]⟩
abbrev S16x128 : Shape := ⟨2, ![16, 128]⟩
abbrev S1x128 : Shape := ⟨2, ![1, 128]⟩
abbrev S1x1x128 : Shape := ⟨3, ![1, 1, 128]⟩

abbrev nBuf : Space → Nat
  | .hbm => 21
  | .vmem => 21
  | .smem => 0
  | _ => 0

abbrev bufTy : (tb : Table) → Fin (tcTables nBuf tb) → BufTy
  | .hbm, ⟨0, _⟩ => ⟨S2x10880x1024, .fp8e4m3⟩
  | .hbm, ⟨1, _⟩ => ⟨S2x1x10880, .f32⟩
  | .hbm, ⟨2, _⟩ => ⟨S1024x1024, .fp8e4m3⟩
  | .hbm, ⟨3, _⟩ => ⟨S1024x1024, .fp8e4m3⟩
  | .hbm, ⟨4, _⟩ => ⟨S1024x1024, .fp8e4m3⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x1024, .fp8e4m3⟩
  | .hbm, ⟨9, _⟩ => ⟨S1024x1024, .fp8e4m3⟩
  | .hbm, ⟨10, _⟩ => ⟨S1024x1024, .fp8e4m3⟩
  | .hbm, ⟨11, _⟩ => ⟨S3072x1024, .fp8e4m3⟩
  | .hbm, ⟨12, _⟩ => ⟨S3072, .f32⟩
  | .hbm, ⟨13, _⟩ => ⟨S3072x1, .f32⟩
  | .hbm, ⟨14, _⟩ => ⟨S3072x128, .f32⟩
  | .hbm, ⟨15, _⟩ => ⟨S2x1024x10880, .fp8e4m3⟩
  | .hbm, ⟨16, _⟩ => ⟨S2x16x10880, .f32⟩
  | .hbm, ⟨17, _⟩ => ⟨S2x1024x10880, .fp8e4m3⟩
  | .hbm, ⟨18, _⟩ => ⟨S2x16x10880, .f32⟩
  | .hbm, ⟨19, _⟩ => ⟨S2x1024x10880, .fp8e4m3⟩
  | .hbm, ⟨20, _⟩ => ⟨S2x16x10880, .f32⟩
  | .local _ .vmem, ⟨0, _⟩ => ⟨S1x256x1024, .fp8e4m3⟩
  | .local _ .vmem, ⟨1, _⟩ => ⟨S1x256x1024, .fp8e4m3⟩
  | .local _ .vmem, ⟨2, _⟩ => ⟨S1x1x256, .f32⟩
  | .local _ .vmem, ⟨3, _⟩ => ⟨S1x1x256, .f32⟩
  | .local _ .vmem, ⟨4, _⟩ => ⟨S3072x1024, .fp8e4m3⟩
  | .local _ .vmem, ⟨5, _⟩ => ⟨S3072x128, .f32⟩
  | .local _ .vmem, ⟨6, _⟩ => ⟨S1x1024x256, .fp8e4m3⟩
  | .local _ .vmem, ⟨7, _⟩ => ⟨S1x1024x256, .fp8e4m3⟩
  | .local _ .vmem, ⟨8, _⟩ => ⟨S1x16x256, .f32⟩
  | .local _ .vmem, ⟨9, _⟩ => ⟨S1x16x256, .f32⟩
  | .local _ .vmem, ⟨10, _⟩ => ⟨S1x1024x256, .fp8e4m3⟩
  | .local _ .vmem, ⟨11, _⟩ => ⟨S1x1024x256, .fp8e4m3⟩
  | .local _ .vmem, ⟨12, _⟩ => ⟨S1x16x256, .f32⟩
  | .local _ .vmem, ⟨13, _⟩ => ⟨S1x16x256, .f32⟩
  | .local _ .vmem, ⟨14, _⟩ => ⟨S1x1024x256, .fp8e4m3⟩
  | .local _ .vmem, ⟨15, _⟩ => ⟨S1x1024x256, .fp8e4m3⟩
  | .local _ .vmem, ⟨16, _⟩ => ⟨S1x16x256, .f32⟩
  | .local _ .vmem, ⟨17, _⟩ => ⟨S1x16x256, .f32⟩
  | .local _ .vmem, ⟨18, _⟩ => ⟨S2x1024x128, .f32⟩
  | .local _ .vmem, ⟨19, _⟩ => ⟨S2x128x128, .f32⟩
  | .local _ .vmem, ⟨20, _⟩ => ⟨S2x16x128, .f32⟩
  | _, _ => ⟨S2x10880x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev main_v7_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![2, 43], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3072x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3072x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S2x10880x1024 : Shape := ⟨3, ![2, 10880, 1024]⟩
abbrev S2x1x10880 : Shape := ⟨3, ![2, 1, 10880]⟩
abbrev S1024x1024 : Shape := ⟨2, ![1024, 1024]⟩
abbrev S1024 : Shape := ⟨1, ![1024]⟩
abbrev S1x1x1024 : Shape := ⟨3, ![1, 1, 1024]⟩
abbrev S2x1024x10880 : Shape := ⟨3, ![2, 1024, 10880]⟩
abbrev S2x16x10880 : Shape := ⟨3, ![2, 16, 10880]⟩
abbrev S2x10880 : Shape := ⟨2, ![2, 10880]⟩
abbrev S2x10880x1 : Shape := ⟨3, ![2, 10880, 1]⟩
abbrev S2x10880x16x64 : Shape := ⟨4, ![2, 10880, 16, 64]⟩
abbrev S2x10880x16 : Shape := ⟨3, ![2, 10880, 16]⟩
abbrev S2x10880x16x1 : Shape := ⟨4, ![2, 10880, 16, 1]⟩

abbrev nBuf : Space → Nat
  | .hbm => 17
  | .vmem => 14
  | .smem => 0
  | _ => 0

abbrev bufTy : (tb : Table) → Fin (tcTables nBuf tb) → BufTy
  | .hbm, ⟨0, _⟩ => ⟨S2x10880x1024, .fp8e4m3⟩
  | .hbm, ⟨1, _⟩ => ⟨S2x1x10880, .f32⟩
  | .hbm, ⟨2, _⟩ => ⟨S1024x1024, .fp8e4m3⟩
  | .hbm, ⟨3, _⟩ => ⟨S1024x1024, .fp8e4m3⟩
  | .hbm, ⟨4, _⟩ => ⟨S1024x1024, .fp8e4m3⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S2x1024x10880, .fp8e4m3⟩
  | .hbm, ⟨12, _⟩ => ⟨S2x16x10880, .f32⟩
  | .hbm, ⟨13, _⟩ => ⟨S2x1024x10880, .fp8e4m3⟩
  | .hbm, ⟨14, _⟩ => ⟨S2x16x10880, .f32⟩
  | .hbm, ⟨15, _⟩ => ⟨S2x1024x10880, .fp8e4m3⟩
  | .hbm, ⟨16, _⟩ => ⟨S2x16x10880, .f32⟩
  | .local _ .vmem, ⟨0, _⟩ => ⟨S2x10880x1024, .fp8e4m3⟩
  | .local _ .vmem, ⟨1, _⟩ => ⟨S2x1x10880, .f32⟩
  | .local _ .vmem, ⟨2, _⟩ => ⟨S1024x1024, .fp8e4m3⟩
  | .local _ .vmem, ⟨3, _⟩ => ⟨S1024x1024, .fp8e4m3⟩
  | .local _ .vmem, ⟨4, _⟩ => ⟨S1024x1024, .fp8e4m3⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S2x1024x10880, .fp8e4m3⟩
  | .local _ .vmem, ⟨9, _⟩ => ⟨S2x16x10880, .f32⟩
  | .local _ .vmem, ⟨10, _⟩ => ⟨S2x1024x10880, .fp8e4m3⟩
  | .local _ .vmem, ⟨11, _⟩ => ⟨S2x16x10880, .f32⟩
  | .local _ .vmem, ⟨12, _⟩ => ⟨S2x1024x10880, .fp8e4m3⟩
  | .local _ .vmem, ⟨13, _⟩ => ⟨S2x16x10880, .f32⟩
  | _, _ => ⟨S2x10880x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S2x10880x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1x10880 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1024x10880 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x16x10880 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1024x10880 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x16x10880 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x1024x10880 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x16x10880 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Pyramid.lean ====
abbrev S2x8192x1024 : Shape := ⟨3, ![2, 8192, 1024]⟩
abbrev S3x4096x1024 : Shape := ⟨3, ![3, 4096, 1024]⟩
abbrev S3x1024 : Shape := ⟨2, ![3, 1024]⟩
abbrev S1024 : Shape := ⟨1, ![1024]⟩
abbrev S1x1024 : Shape := ⟨2, ![1, 1024]⟩
abbrev S2x2048x4096 : Shape := ⟨3, ![2, 2048, 4096]⟩
abbrev S2x1x2048 : Shape := ⟨3, ![2, 1, 2048]⟩
abbrev S2x512x4096 : Shape := ⟨3, ![2, 512, 4096]⟩
abbrev S2x1x512 : Shape := ⟨3, ![2, 1, 512]⟩
abbrev S2x128x4096 : Shape := ⟨3, ![2, 128, 4096]⟩
abbrev S2x1x128 : Shape := ⟨3, ![2, 1, 128]⟩
abbrev S2x10880x1024 : Shape := ⟨3, ![2, 10880, 1024]⟩
abbrev S2x1x10880 : Shape := ⟨3, ![2, 1, 10880]⟩
abbrev S1x1024x1024 : Shape := ⟨3, ![1, 1024, 1024]⟩
abbrev S1x256x4096 : Shape := ⟨3, ![1, 256, 4096]⟩
abbrev S1x1x256 : Shape := ⟨3, ![1, 1, 256]⟩
abbrev S1x128x4096 : Shape := ⟨3, ![1, 128, 4096]⟩
abbrev S1x1x128 : Shape := ⟨3, ![1, 1, 128]⟩
abbrev S1x1x1024 : Shape := ⟨3, ![1, 1, 1024]⟩
abbrev S2688x1024 : Shape := ⟨2, ![2688, 1024]⟩
abbrev S8x1024x128 : Shape := ⟨3, ![8, 1024, 128]⟩
abbrev S1024x128 : Shape := ⟨2, ![1024, 128]⟩
abbrev S1x64x1024 : Shape := ⟨3, ![1, 64, 1024]⟩
abbrev S64x1024 : Shape := ⟨2, ![64, 1024]⟩
abbrev S64x128 : Shape := ⟨2, ![64, 128]⟩
abbrev S1x64x128 : Shape := ⟨3, ![1, 64, 128]⟩
abbrev S64 : Shape := ⟨1, ![64]⟩
abbrev S64x1 : Shape := ⟨2, ![64, 1]⟩
abbrev S128x128 : Shape := ⟨2, ![128, 128]⟩
abbrev S1x128 : Shape := ⟨2, ![1, 128]⟩
abbrev S256x128 : Shape := ⟨2, ![256, 128]⟩
abbrev S1x256 : Shape := ⟨2, ![1, 256]⟩
abbrev S1x256x128 : Shape := ⟨3, ![1, 256, 128]⟩
abbrev S256x4096 : Shape := ⟨2, ![256, 4096]⟩
abbrev S1x4096x256 : Shape := ⟨3, ![1, 4096, 256]⟩
abbrev S4096x256 : Shape := ⟨2, ![4096, 256]⟩
abbrev S256x256 : Shape := ⟨2, ![256, 256]⟩
abbrev S512x128 : Shape := ⟨2, ![512, 128]⟩
abbrev S1x512 : Shape := ⟨2, ![1, 512]⟩
abbrev S1x1x512 : Shape := ⟨3, ![1, 1, 512]⟩
abbrev S1x128x128 : Shape := ⟨3, ![1, 128, 128]⟩
abbrev S128x4096 : Shape := ⟨2, ![128, 4096]⟩
abbrev S128x256 : Shape := ⟨2, ![128, 256]⟩
abbrev S640x128 : Shape := ⟨2, ![640, 128]⟩
abbrev S1x640 : Shape := ⟨2, ![1, 640]⟩
abbrev S1x1x640 : Shape := ⟨3, ![1, 1, 640]⟩

abbrev nBuf : Space → Nat
  | .hbm => 16
  | .vmem => 27
  | .smem => 0
  | _ => 0

abbrev bufTy : (tb : Table) → Fin (tcTables nBuf tb) → BufTy
  | .hbm, ⟨0, _⟩ => ⟨S2x8192x1024, .bf16⟩
  | .hbm, ⟨1, _⟩ => ⟨S3x4096x1024, .fp8e4m3⟩
  | .hbm, ⟨2, _⟩ => ⟨S3x1024, .f32⟩
  | .hbm, ⟨3, _⟩ => ⟨S3x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S2x2048x4096, .fp8e4m3⟩
  | .hbm, ⟨9, _⟩ => ⟨S2x1x2048, .f32⟩
  | .hbm, ⟨10, _⟩ => ⟨S2x512x4096, .fp8e4m3⟩
  | .hbm, ⟨11, _⟩ => ⟨S2x1x512, .f32⟩
  | .hbm, ⟨12, _⟩ => ⟨S2x128x4096, .fp8e4m3⟩
  | .hbm, ⟨13, _⟩ => ⟨S2x1x128, .f32⟩
  | .hbm, ⟨14, _⟩ => ⟨S2x10880x1024, .fp8e4m3⟩
  | .hbm, ⟨15, _⟩ => ⟨S2x1x10880, .f32⟩
  | .local _ .vmem, ⟨0, _⟩ => ⟨S1x1024x1024, .bf16⟩
  | .local _ .vmem, ⟨1, _⟩ => ⟨S1x1024x1024, .bf16⟩
  | .local _ .vmem, ⟨2, _⟩ => ⟨S3x4096x1024, .fp8e4m3⟩
  | .local _ .vmem, ⟨3, _⟩ => ⟨S3x1024, .f32⟩
  | .local _ .vmem, ⟨4, _⟩ => ⟨S3x1024, .f32⟩
  | .local _ .vmem, ⟨5, _⟩ => ⟨S1x1024, .f32⟩
  | .local _ .vmem, ⟨6, _⟩ => ⟨S1x1024, .f32⟩
  | .local _ .vmem, ⟨7, _⟩ => ⟨S1x256x4096, .fp8e4m3⟩
  | .local _ .vmem, ⟨8, _⟩ => ⟨S1x256x4096, .fp8e4m3⟩
  | .local _ .vmem, ⟨9, _⟩ => ⟨S1x1x256, .f32⟩
  | .local _ .vmem, ⟨10, _⟩ => ⟨S1x1x256, .f32⟩
  | .local _ .vmem, ⟨11, _⟩ => ⟨S1x256x4096, .fp8e4m3⟩
  | .local _ .vmem, ⟨12, _⟩ => ⟨S1x256x4096, .fp8e4m3⟩
  | .local _ .vmem, ⟨13, _⟩ => ⟨S1x1x256, .f32⟩
  | .local _ .vmem, ⟨14, _⟩ => ⟨S1x1x256, .f32⟩
  | .local _ .vmem, ⟨15, _⟩ => ⟨S1x128x4096, .fp8e4m3⟩
  | .local _ .vmem, ⟨16, _⟩ => ⟨S1x128x4096, .fp8e4m3⟩
  | .local _ .vmem, ⟨17, _⟩ => ⟨S1x1x128, .f32⟩
  | .local _ .vmem, ⟨18, _⟩ => ⟨S1x1x128, .f32⟩
  | .local _ .vmem, ⟨19, _⟩ => ⟨S1x1024x1024, .fp8e4m3⟩
  | .local _ .vmem, ⟨20, _⟩ => ⟨S1x1024x1024, .fp8e4m3⟩
  | .local _ .vmem, ⟨21, _⟩ => ⟨S1x1x1024, .f32⟩
  | .local _ .vmem, ⟨22, _⟩ => ⟨S1x1x1024, .f32⟩
  | .local _ .vmem, ⟨23, _⟩ => ⟨S2688x1024, .bf16⟩
  | .local _ .vmem, ⟨24, _⟩ => ⟨S8x1024x128, .f32⟩
  | .local _ .vmem, ⟨25, _⟩ => ⟨S1024x128, .f32⟩
  | .local _ .vmem, ⟨26, _⟩ => ⟨S1024x128, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_v2_5 : Ref sig .tc := ⟨.hbm, 13, rfl⟩
abbrev main_v2_6 : Ref sig .tc := ⟨.hbm, 14, rfl⟩
abbrev main_v2_7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![2, 11], ![false, false]⟩

def k0_cond1 (i : grid0.Coords) : BitVec 1 :=
  let arg1 : BitVec 32 := BitVec.ofNat 32 (i 1).val
  let c8_i32 : BitVec 32 := 8#32
  let v0 : BitVec 1 := Scalar.cmpi .slt arg1 c8_i32
  let v1 : BitVec 32 := Scalar.extui v0
  let c0_i32 : BitVec 32 := 0#32
  let v2 : BitVec 1 := Scalar.cmpi .ne v1 c0_i32
  v2

@[reducible] def k0_t1_loop : Scf.Loop 32 :=
  let c0_i32_3 : BitVec 32 := 0#32
  let c16_i32 : BitVec 32 := 16#32
  let v11 : BitVec 32 := Scalar.addi c0_i32_3 c16_i32
  let c1_i32 : BitVec 32 := 1#32
  ⟨c0_i32_3, v11, c1_i32⟩
def k0_mult1 (k0_t1 : Fin k0_t1_loop.trips) : BitVec 32 :=
  let c0_i32_3 : BitVec 32 := 0#32
  let c1_i32 : BitVec 32 := 1#32
  let arg20 : BitVec 32 := Scf.iv c0_i32_3 c1_i32 k0_t1
  let c64_i32 : BitVec 32 := 64#32
  let v549 : BitVec 32 := Scalar.muli arg20 c64_i32
  v549
def k0_off1 (k0_t1 : Fin k0_t1_loop.trips) : Fin 3 → Nat :=
  let c0_307 : Index := 0#32
  let c0_i32_3 : BitVec 32 := 0#32
  let c1_i32 : BitVec 32 := 1#32
  let arg20 : BitVec 32 := Scf.iv c0_i32_3 c1_i32 k0_t1
  let c64_i32 : BitVec 32 := 64#32
  let v549 : BitVec 32 := Scalar.muli arg20 c64_i32
  let v550 : BitVec 32 := v549
  let v551 : Index := Scalar.indexCast v550
  let c0_308 : Index := 0#32
  ![0, v551.toNat, 0]
def k0_off2 (k0_t1 : Fin k0_t1_loop.trips) : Fin 3 → Nat :=
  let c0_309 : Index := 0#32
  let c0_i32_3 : BitVec 32 := 0#32
  let c1_i32 : BitVec 32 := 1#32
  let arg20 : BitVec 32 := Scf.iv c0_i32_3 c1_i32 k0_t1
  let c64_i32 : BitVec 32 := 64#32
  let v549 : BitVec 32 := Scalar.muli arg20 c64_i32
  let v550 : BitVec 32 := v549
  let v556 : Index := Scalar.indexCast v550
  let c0_310 : Index := 0#32
  ![0, v556.toNat, 0]
def k0_off3 (k0_t1 : Fin k0_t1_loop.trips) : Fin 3 → Nat :=
  let c1_311 : Index := 1#32
  let c0_i32_3 : BitVec 32 := 0#32
  let c1_i32 : BitVec 32 := 1#32
  let arg20 : BitVec 32 := Scf.iv c0_i32_3 c1_i32 k0_t1
  let c64_i32 : BitVec 32 := 64#32
  let v549 : BitVec 32 := Scalar.muli arg20 c64_i32
  let v550 : BitVec 32 := v549
  let v561 : Index := Scalar.indexCast v550
  let c0_312 : Index := 0#32
  ![1, v561.toNat, 0]
def k0_off4 (k0_t1 : Fin k0_t1_loop.trips) : Fin 3 → Nat :=
  let c2_313 : Index := 2#32
  let c0_i32_3 : BitVec 32 := 0#32
  let c1_i32 : BitVec 32 := 1#32
  let arg20 : BitVec 32 := Scf.iv c0_i32_3 c1_i32 k0_t1
  let c64_i32 : BitVec 32 := 64#32
  let v549 : BitVec 32 := Scalar.muli arg20 c64_i32
  let v550 : BitVec 32 := v549
  let v566 : Index := Scalar.indexCast v550
  let c0_314 : Index := 0#32
  ![2, v566.toNat, 0]
def k0_off5 (k0_t1 : Fin k0_t1_loop.trips) : Fin 3 → Nat :=
  let c3_315 : Index := 3#32
  let c0_i32_3 : BitVec 32 := 0#32
  let c1_i32 : BitVec 32 := 1#32
  let arg20 : BitVec 32 := Scf.iv c0_i32_3 c1_i32 k0_t1
  let c64_i32 : BitVec 32 := 64#32
  let v549 : BitVec 32 := Scalar.muli arg20 c64_i32
  let v550 : BitVec 32 := v549
  let v571 : Index := Scalar.indexCast v550
  let c0_316 : Index := 0#32
  ![3, v571.toNat, 0]
def k0_off6 (k0_t1 : Fin k0_t1_loop.trips) : Fin 3 → Nat :=
  let c4_317 : Index := 4#32
  let c0_i32_3 : BitVec 32 := 0#32
  let c1_i32 : BitVec 32 := 1#32
  let arg20 : BitVec 32 := Scf.iv c0_i32_3 c1_i32 k0_t1
  let c64_i32 : BitVec 32 := 64#32
  let v549 : BitVec 32 := Scalar.muli arg20 c64_i32
  let v550 : BitVec 32 := v549
  let v576 : Index := Scalar.indexCast v550
  let c0_318 : Index := 0#32
  ![4, v576.toNat, 0]
def k0_off7 (k0_t1 : Fin k0_t1_loop.trips) : Fin 3 → Nat :=
  let c5_319 : Index := 5#32
  let c0_i32_3 : BitVec 32 := 0#32
  let c1_i32 : BitVec 32 := 1#32
  let arg20 : BitVec 32 := Scf.iv c0_i32_3 c1_i32 k0_t1
  let c64_i32 : BitVec 32 := 64#32
  let v549 : BitVec 32 := Scalar.muli arg20 c64_i32
  let v550 : BitVec 32 := v549
  let v581 : Index := Scalar.indexCast v550
  let c0_320 : Index := 0#32
  ![5, v581.toNat, 0]
def k0_off8 (k0_t1 : Fin k0_t1_loop.trips) : Fin 3 → Nat :=
  let c6_321 : Index := 6#32
  let c0_i32_3 : BitVec 32 := 0#32
  let c1_i32 : BitVec 32 := 1#32
  let arg20 : BitVec 32 := Scf.iv c0_i32_3 c1_i32 k0_t1
  let c64_i32 : BitVec 32 := 64#32
  let v549 : BitVec 32 := Scalar.muli arg20 c64_i32
  let v550 : BitVec 32 := v549
  let v586 : Index := Scalar.indexCast v550
  let c0_322 : Index := 0#32
  ![6, v586.toNat, 0]
def k0_off9 (k0_t1 : Fin k0_t1_loop.trips) : Fin 3 → Nat :=
  let c7_323 : Index := 7#32
  let c0_i32_3 : BitVec 32 := 0#32
  let c1_i32 : BitVec 32 := 1#32
  let arg20 : BitVec 32 := Scf.iv c0_i32_3 c1_i32 k0_t1
  let c64_i32 : BitVec 32 := 64#32
  let v549 : BitVec 32 := Scalar.muli arg20 c64_i32
  let v550 : BitVec 32 := v549
  let v591 : Index := Scalar.indexCast v550
  let c0_324 : Index := 0#32
  ![7, v591.toNat, 0]
def k0_off10 (k0_t1 : Fin k0_t1_loop.trips) : Fin 2 → Nat :=
  let c0_i32_3 : BitVec 32 := 0#32
  let c1_i32 : BitVec 32 := 1#32
  let arg20 : BitVec 32 := Scf.iv c0_i32_3 c1_i32 k0_t1
  let c64_i32 : BitVec 32 := 64#32
  let v549 : BitVec 32 := Scalar.muli arg20 c64_i32
  let v550 : BitVec 32 := v549
  let v601 : Index := Scalar.indexCast v550
  let c0_326 : Index := 0#32
  ![v601.toNat, 0]
def k0_mult2 (i : grid0.Coords) : BitVec 32 :=
  let arg1 : BitVec 32 := BitVec.ofNat 32 (i 1).val
  let c256_i32 : BitVec 32 := 256#32
  let v41 : BitVec 32 := Scalar.muli arg1 c256_i32
  v41
def k0_off11 (i : grid0.Coords) : Fin 2 → Nat :=
  let arg1 : BitVec 32 := BitVec.ofNat 32 (i 1).val
  let c256_i32 : BitVec 32 := 256#32
  let v41 : BitVec 32 := Scalar.muli arg1 c256_i32
  let v42 : BitVec 32 := v41
  let v455 : Index := Scalar.indexCast v42
  let c0_258 : Index := 0#32
  ![v455.toNat, 0]
def k0_off12 (i : grid0.Coords) : Fin 2 → Nat :=
  let arg1 : BitVec 32 := BitVec.ofNat 32 (i 1).val
  let c256_i32 : BitVec 32 := 256#32
  let v41 : BitVec 32 := Scalar.muli arg1 c256_i32
  let v42 : BitVec 32 := v41
  let v485 : Index := Scalar.indexCast v42
  let c256_274 : Index := 256#32
  ![v485.toNat, 256]
def k0_off13 (i : grid0.Coords) : Fin 2 → Nat :=
  let arg1 : BitVec 32 := BitVec.ofNat 32 (i 1).val
  let c256_i32 : BitVec 32 := 256#32
  let v41 : BitVec 32 := Scalar.muli arg1 c256_i32
  let v42 : BitVec 32 := v41
  let v515 : Index := Scalar.indexCast v42
  let c512_290 : Index := 512#32
  ![v515.toNat, 512]
def k0_off14 (i : grid0.Coords) : Fin 2 → Nat :=
  let arg1 : BitVec 32 := BitVec.ofNat 32 (i 1).val
  let c256_i32 : BitVec 32 := 256#32
  let v41 : BitVec 32 := Scalar.muli arg1 c256_i32
  let v42 : BitVec 32 := v41
  let v545 : Index := Scalar.indexCast v42
  let c768_306 : Index := 768#32
  ![v545.toNat, 768]
def k0_cond2 (i : grid0.Coords) : BitVec 1 :=
  let arg1 : BitVec 32 := BitVec.ofNat 32 (i 1).val
  let c8_i32_0 : BitVec 32 := 8#32
  let v3 : BitVec 1 := Scalar.cmpi .eq arg1 c8_i32_0
  let c9_i32 : BitVec 32 := 9#32
  let v4 : BitVec 1 := Scalar.cmpi .eq arg1 c9_i32
  let v5 : BitVec 1 := Scalar.ori v3 v4
  let v6 : BitVec 32 := Scalar.extui v5
  let c0_i32_1 : BitVec 32 := 0#32
  let v7 : BitVec 1 := Scalar.cmpi .ne v6 c0_i32_1
  v7

def k0_mult3 (i : grid0.Coords) : BitVec 32 :=
  let arg1 : BitVec 32 := BitVec.ofNat 32 (i 1).val
  let c8_i32_3 : BitVec 32 := 8#32
  let v11 : BitVec 32 := Scalar.subi arg1 c8_i32_3
  let c1024_i32 : BitVec 32 := 1024#32
  let v12 : BitVec 32 := Scalar.muli v11 c1024_i32
  v12
@[reducible] def k0_t2_loop : Scf.Loop 32 :=
  let c0_i32_4 : BitVec 32 := 0#32
  let c16_i32 : BitVec 32 := 16#32
  let v14 : BitVec 32 := Scalar.addi c0_i32_4 c16_i32
  let c1_i32 : BitVec 32 := 1#32
  ⟨c0_i32_4, v14, c1_i32⟩
def k0_mult4 (k0_t2 : Fin k0_t2_loop.trips) : BitVec 32 :=
  let c0_i32_4 : BitVec 32 := 0#32
  let c1_i32 : BitVec 32 := 1#32
  let arg20 : BitVec 32 := Scf.iv c0_i32_4 c1_i32 k0_t2
  let c64_i32 : BitVec 32 := 64#32
  let v554 : BitVec 32 := Scalar.muli arg20 c64_i32
  v554
def k0_off15 (i : grid0.Coords) (k0_t2 : Fin k0_t2_loop.trips) : Fin 2 → Nat :=
  let arg1 : BitVec 32 := BitVec.ofNat 32 (i 1).val
  let c8_i32_3 : BitVec 32 := 8#32
  let v11 : BitVec 32 := Scalar.subi arg1 c8_i32_3
  let c1024_i32 : BitVec 32 := 1024#32
  let v12 : BitVec 32 := Scalar.muli v11 c1024_i32
  let v13 : BitVec 32 := v12
  let c0_i32_4 : BitVec 32 := 0#32
  let c1_i32 : BitVec 32 := 1#32
  let arg20 : BitVec 32 := Scf.iv c0_i32_4 c1_i32 k0_t2
  let c64_i32 : BitVec 32 := 64#32
  let v554 : BitVec 32 := Scalar.muli arg20 c64_i32
  let v555 : BitVec 32 := v554
  let v556 : BitVec 32 := Scalar.addi v13 v555
  let v557 : Index := Scalar.indexCast v556
  let c0_309 : Index := 0#32
  ![v557.toNat, 0]
def k0_off16 (k0_t2 : Fin k0_t2_loop.trips) : Fin 3 → Nat :=
  let c0_310 : Index := 0#32
  let c0_i32_4 : BitVec 32 := 0#32
  let c1_i32 : BitVec 32 := 1#32
  let arg20 : BitVec 32 := Scf.iv c0_i32_4 c1_i32 k0_t2
  let c64_i32 : BitVec 32 := 64#32
  let v554 : BitVec 32 := Scalar.muli arg20 c64_i32
  let v555 : BitVec 32 := v554
  let v561 : Index := Scalar.indexCast v555
  let c0_311 : Index := 0#32
  ![0, v561.toNat, 0]
def k0_off17 (k0_t2 : Fin k0_t2_loop.trips) : Fin 3 → Nat :=
  let c1_312 : Index := 1#32
  let c0_i32_4 : BitVec 32 := 0#32
  let c1_i32 : BitVec 32 := 1#32
  let arg20 : BitVec 32 := Scf.iv c0_i32_4 c1_i32 k0_t2
  let c64_i32 : BitVec 32 := 64#32
  let v554 : BitVec 32 := Scalar.muli arg20 c64_i32
  let v555 : BitVec 32 := v554
  let v566 : Index := Scalar.indexCast v555
  let c0_313 : Index := 0#32
  ![1, v566.toNat, 0]
def k0_off18 (k0_t2 : Fin k0_t2_loop.trips) : Fin 3 → Nat :=
  let c2_314 : Index := 2#32
  let c0_i32_4 : BitVec 32 := 0#32
  let c1_i32 : BitVec 32 := 1#32
  let arg20 : BitVec 32 := Scf.iv c0_i32_4 c1_i32 k0_t2
  let c64_i32 : BitVec 32 := 64#32
  let v554 : BitVec 32 := Scalar.muli arg20 c64_i32
  let v555 : BitVec 32 := v554
  let v571 : Index := Scalar.indexCast v555
  let c0_315 : Index := 0#32
  ![2, v571.toNat, 0]
def k0_off19 (k0_t2 : Fin k0_t2_loop.trips) : Fin 3 → Nat :=
  let c3_316 : Index := 3#32
  let c0_i32_4 : BitVec 32 := 0#32
  let c1_i32 : BitVec 32 := 1#32
  let arg20 : BitVec 32 := Scf.iv c0_i32_4 c1_i32 k0_t2
  let c64_i32 : BitVec 32 := 64#32
  let v554 : BitVec 32 := Scalar.muli arg20 c64_i32
  let v555 : BitVec 32 := v554
  let v576 : Index := Scalar.indexCast v555
  let c0_317 : Index := 0#32
  ![3, v576.toNat, 0]
def k0_off20 (k0_t2 : Fin k0_t2_loop.trips) : Fin 3 → Nat :=
  let c4_318 : Index := 4#32
  let c0_i32_4 : BitVec 32 := 0#32
  let c1_i32 : BitVec 32 := 1#32
  let arg20 : BitVec 32 := Scf.iv c0_i32_4 c1_i32 k0_t2
  let c64_i32 : BitVec 32 := 64#32
  let v554 : BitVec 32 := Scalar.muli arg20 c64_i32
  let v555 : BitVec 32 := v554
  let v581 : Index := Scalar.indexCast v555
  let c0_319 : Index := 0#32
  ![4, v581.toNat, 0]
def k0_off21 (k0_t2 : Fin k0_t2_loop.trips) : Fin 3 → Nat :=
  let c5_320 : Index := 5#32
  let c0_i32_4 : BitVec 32 := 0#32
  let c1_i32 : BitVec 32 := 1#32
  let arg20 : BitVec 32 := Scf.iv c0_i32_4 c1_i32 k0_t2
  let c64_i32 : BitVec 32 := 64#32
  let v554 : BitVec 32 := Scalar.muli arg20 c64_i32
  let v555 : BitVec 32 := v554
  let v586 : Index := Scalar.indexCast v555
  let c0_321 : Index := 0#32
  ![5, v586.toNat, 0]
def k0_off22 (k0_t2 : Fin k0_t2_loop.trips) : Fin 3 → Nat :=
  let c6_322 : Index := 6#32
  let c0_i32_4 : BitVec 32 := 0#32
  let c1_i32 : BitVec 32 := 1#32
  let arg20 : BitVec 32 := Scf.iv c0_i32_4 c1_i32 k0_t2
  let c64_i32 : BitVec 32 := 64#32
  let v554 : BitVec 32 := Scalar.muli arg20 c64_i32
  let v555 : BitVec 32 := v554
  let v591 : Index := Scalar.indexCast v555
  let c0_323 : Index := 0#32
  ![6, v591.toNat, 0]
def k0_off23 (k0_t2 : Fin k0_t2_loop.trips) : Fin 3 → Nat :=
  let c7_324 : Index := 7#32
  let c0_i32_4 : BitVec 32 := 0#32
  let c1_i32 : BitVec 32 := 1#32
  let arg20 : BitVec 32 := Scf.iv c0_i32_4 c1_i32 k0_t2
  let c64_i32 : BitVec 32 := 64#32
  let v554 : BitVec 32 := Scalar.muli arg20 c64_i32
  let v555 : BitVec 32 := v554
  let v596 : Index := Scalar.indexCast v555
  let c0_325 : Index := 0#32
  ![7, v596.toNat, 0]
def k0_off24 (k0_t2 : Fin k0_t2_loop.trips) : Fin 2 → Nat :=
  let c0_i32_4 : BitVec 32 := 0#32
  let c1_i32 : BitVec 32 := 1#32
  let arg20 : BitVec 32 := Scf.iv c0_i32_4 c1_i32 k0_t2
  let c64_i32 : BitVec 32 := 64#32
  let v554 : BitVec 32 := Scalar.muli arg20 c64_i32
  let v555 : BitVec 32 := v554
  let v606 : Index := Scalar.indexCast v555
  let c0_327 : Index := 0#32
  ![v606.toNat, 0]
def k0_off25 (k0_t2 : Fin k0_t2_loop.trips) : Fin 3 → Nat :=
  let c0_347 : Index := 0#32
  let c0_i32_4 : BitVec 32 := 0#32
  let c1_i32 : BitVec 32 := 1#32
  let arg20 : BitVec 32 := Scf.iv c0_i32_4 c1_i32 k0_t2
  let c64_i32 : BitVec 32 := 64#32
  let v554 : BitVec 32 := Scalar.muli arg20 c64_i32
  let v555 : BitVec 32 := v554
  let v668 : Index := Scalar.indexCast v555
  let c0_348 : Index := 0#32
  ![0, v668.toNat, 0]
def k0_mult5 (i : grid0.Coords) : BitVec 32 :=
  let c2048_i32 : BitVec 32 := 2048#32
  let arg1 : BitVec 32 := BitVec.ofNat 32 (i 1).val
  let c8_i32_10 : BitVec 32 := 8#32
  let v44 : BitVec 32 := Scalar.subi arg1 c8_i32_10
  let c256_i32 : BitVec 32 := 256#32
  let v45 : BitVec 32 := Scalar.muli v44 c256_i32
  let v46 : BitVec 32 := Scalar.addi c2048_i32 v45
  v46
def k0_off26 (i : grid0.Coords) : Fin 2 → Nat :=
  let c2048_i32 : BitVec 32 := 2048#32
  let arg1 : BitVec 32 := BitVec.ofNat 32 (i 1).val
  let c8_i32_10 : BitVec 32 := 8#32
  let v44 : BitVec 32 := Scalar.subi arg1 c8_i32_10
  let c256_i32 : BitVec 32 := 256#32
  let v45 : BitVec 32 := Scalar.muli v44 c256_i32
  let v46 : BitVec 32 := Scalar.addi c2048_i32 v45
  let v47 : BitVec 32 := v46
  let v460 : Index := Scalar.indexCast v47
  let c0_260 : Index := 0#32
  ![v460.toNat, 0]
def k0_off27 (i : grid0.Coords) : Fin 2 → Nat :=
  let c2048_i32 : BitVec 32 := 2048#32
  let arg1 : BitVec 32 := BitVec.ofNat 32 (i 1).val
  let c8_i32_10 : BitVec 32 := 8#32
  let v44 : BitVec 32 := Scalar.subi arg1 c8_i32_10
  let c256_i32 : BitVec 32 := 256#32
  let v45 : BitVec 32 := Scalar.muli v44 c256_i32
  let v46 : BitVec 32 := Scalar.addi c2048_i32 v45
  let v47 : BitVec 32 := v46
  let v490 : Index := Scalar.indexCast v47
  let c256_276 : Index := 256#32
  ![v490.toNat, 256]
def k0_off28 (i : grid0.Coords) : Fin 2 → Nat :=
  let c2048_i32 : BitVec 32 := 2048#32
  let arg1 : BitVec 32 := BitVec.ofNat 32 (i 1).val
  let c8_i32_10 : BitVec 32 := 8#32
  let v44 : BitVec 32 := Scalar.subi arg1 c8_i32_10
  let c256_i32 : BitVec 32 := 256#32
  let v45 : BitVec 32 := Scalar.muli v44 c256_i32
  let v46 : BitVec 32 := Scalar.addi c2048_i32 v45
  let v47 : BitVec 32 := v46
  let v520 : Index := Scalar.indexCast v47
  let c512_292 : Index := 512#32
  ![v520.toNat, 512]
def k0_off29 (i : grid0.Coords) : Fin 2 → Nat :=
  let c2048_i32 : BitVec 32 := 2048#32
  let arg1 : BitVec 32 := BitVec.ofNat 32 (i 1).val
  let c8_i32_10 : BitVec 32 := 8#32
  let v44 : BitVec 32 := Scalar.subi arg1 c8_i32_10
  let c256_i32 : BitVec 32 := 256#32
  let v45 : BitVec 32 := Scalar.muli v44 c256_i32
  let v46 : BitVec 32 := Scalar.addi c2048_i32 v45
  let v47 : BitVec 32 := v46
  let v550 : Index := Scalar.indexCast v47
  let c768_308 : Index := 768#32
  ![v550.toNat, 768]
def k0_cond3 (i : grid0.Coords) : BitVec 1 :=
  let arg1 : BitVec 32 := BitVec.ofNat 32 (i 1).val
  let c10_i32 : BitVec 32 := 10#32
  let v8 : BitVec 1 := Scalar.cmpi .eq arg1 c10_i32
  let v9 : BitVec 32 := Scalar.extui v8
  let c0_i32_2 : BitVec 32 := 0#32
  let v10 : BitVec 1 := Scalar.cmpi .ne v9 c0_i32_2
  v10

@[reducible] def k0_t3_loop : Scf.Loop 32 :=
  let c0_i32_3 : BitVec 32 := 0#32
  let c8_i32_4 : BitVec 32 := 8#32
  let v11 : BitVec 32 := Scalar.addi c0_i32_3 c8_i32_4
  let c1_i32 : BitVec 32 := 1#32
  ⟨c0_i32_3, v11, c1_i32⟩
def k0_mult6 (k0_t3 : Fin k0_t3_loop.trips) : BitVec 32 :=
  let c0_i32_3 : BitVec 32 := 0#32
  let c1_i32 : BitVec 32 := 1#32
  let arg20 : BitVec 32 := Scf.iv c0_i32_3 c1_i32 k0_t3
  let c64_i32 : BitVec 32 := 64#32
  let v547 : BitVec 32 := Scalar.muli arg20 c64_i32
  v547
def k0_off30 (k0_t3 : Fin k0_t3_loop.trips) : Fin 2 → Nat :=
  let c2048_i32 : BitVec 32 := 2048#32
  let c0_i32_3 : BitVec 32 := 0#32
  let c1_i32 : BitVec 32 := 1#32
  let arg20 : BitVec 32 := Scf.iv c0_i32_3 c1_i32 k0_t3
  let c64_i32 : BitVec 32 := 64#32
  let v547 : BitVec 32 := Scalar.muli arg20 c64_i32
  let v548 : BitVec 32 := v547
  let v549 : BitVec 32 := Scalar.addi c2048_i32 v548
  let v550 : Index := Scalar.indexCast v549
  let c0_321 : Index := 0#32
  ![v550.toNat, 0]
def k0_off31 (k0_t3 : Fin k0_t3_loop.trips) : Fin 3 → Nat :=
  let c0_322 : Index := 0#32
  let c0_i32_3 : BitVec 32 := 0#32
  let c1_i32 : BitVec 32 := 1#32
  let arg20 : BitVec 32 := Scf.iv c0_i32_3 c1_i32 k0_t3
  let c64_i32 : BitVec 32 := 64#32
  let v547 : BitVec 32 := Scalar.muli arg20 c64_i32
  let v548 : BitVec 32 := v547
  let v554 : Index := Scalar.indexCast v548
  let c0_323 : Index := 0#32
  ![0, v554.toNat, 0]
def k0_off32 (k0_t3 : Fin k0_t3_loop.trips) : Fin 3 → Nat :=
  let c1_324 : Index := 1#32
  let c0_i32_3 : BitVec 32 := 0#32
  let c1_i32 : BitVec 32 := 1#32
  let arg20 : BitVec 32 := Scf.iv c0_i32_3 c1_i32 k0_t3
  let c64_i32 : BitVec 32 := 64#32
  let v547 : BitVec 32 := Scalar.muli arg20 c64_i32
  let v548 : BitVec 32 := v547
  let v559 : Index := Scalar.indexCast v548
  let c0_325 : Index := 0#32
  ![1, v559.toNat, 0]
def k0_off33 (k0_t3 : Fin k0_t3_loop.trips) : Fin 3 → Nat :=
  let c2_326 : Index := 2#32
  let c0_i32_3 : BitVec 32 := 0#32
  let c1_i32 : BitVec 32 := 1#32
  let arg20 : BitVec 32 := Scf.iv c0_i32_3 c1_i32 k0_t3
  let c64_i32 : BitVec 32 := 64#32
  let v547 : BitVec 32 := Scalar.muli arg20 c64_i32
  let v548 : BitVec 32 := v547
  let v564 : Index := Scalar.indexCast v548
  let c0_327 : Index := 0#32
  ![2, v564.toNat, 0]
def k0_off34 (k0_t3 : Fin k0_t3_loop.trips) : Fin 3 → Nat :=
  let c3_328 : Index := 3#32
  let c0_i32_3 : BitVec 32 := 0#32
  let c1_i32 : BitVec 32 := 1#32
  let arg20 : BitVec 32 := Scf.iv c0_i32_3 c1_i32 k0_t3
  let c64_i32 : BitVec 32 := 64#32
  let v547 : BitVec 32 := Scalar.muli arg20 c64_i32
  let v548 : BitVec 32 := v547
  let v569 : Index := Scalar.indexCast v548
  let c0_329 : Index := 0#32
  ![3, v569.toNat, 0]
def k0_off35 (k0_t3 : Fin k0_t3_loop.trips) : Fin 3 → Nat :=
  let c4_330 : Index := 4#32
  let c0_i32_3 : BitVec 32 := 0#32
  let c1_i32 : BitVec 32 := 1#32
  let arg20 : BitVec 32 := Scf.iv c0_i32_3 c1_i32 k0_t3
  let c64_i32 : BitVec 32 := 64#32
  let v547 : BitVec 32 := Scalar.muli arg20 c64_i32
  let v548 : BitVec 32 := v547
  let v574 : Index := Scalar.indexCast v548
  let c0_331 : Index := 0#32
  ![4, v574.toNat, 0]
def k0_off36 (k0_t3 : Fin k0_t3_loop.trips) : Fin 3 → Nat :=
  let c5_332 : Index := 5#32
  let c0_i32_3 : BitVec 32 := 0#32
  let c1_i32 : BitVec 32 := 1#32
  let arg20 : BitVec 32 := Scf.iv c0_i32_3 c1_i32 k0_t3
  let c64_i32 : BitVec 32 := 64#32
  let v547 : BitVec 32 := Scalar.muli arg20 c64_i32
  let v548 : BitVec 32 := v547
  let v579 : Index := Scalar.indexCast v548
  let c0_333 : Index := 0#32
  ![5, v579.toNat, 0]
def k0_off37 (k0_t3 : Fin k0_t3_loop.trips) : Fin 3 → Nat :=
  let c6_334 : Index := 6#32
  let c0_i32_3 : BitVec 32 := 0#32
  let c1_i32 : BitVec 32 := 1#32
  let arg20 : BitVec 32 := Scf.iv c0_i32_3 c1_i32 k0_t3
  let c64_i32 : BitVec 32 := 64#32
  let v547 : BitVec 32 := Scalar.muli arg20 c64_i32
  let v548 : BitVec 32 := v547
  let v584 : Index := Scalar.indexCast v548
  let c0_335 : Index := 0#32
  ![6, v584.toNat, 0]
def k0_off38 (k0_t3 : Fin k0_t3_loop.trips) : Fin 3 → Nat :=
  let c7_336 : Index := 7#32
  let c0_i32_3 : BitVec 32 := 0#32
  let c1_i32 : BitVec 32 := 1#32
  let arg20 : BitVec 32 := Scf.iv c0_i32_3 c1_i32 k0_t3
  let c64_i32 : BitVec 32 := 64#32
  let v547 : BitVec 32 := Scalar.muli arg20 c64_i32
  let v548 : BitVec 32 := v547
  let v589 : Index := Scalar.indexCast v548
  let c0_337 : Index := 0#32
  ![7, v589.toNat, 0]
def k0_off39 (k0_t3 : Fin k0_t3_loop.trips) : Fin 2 → Nat :=
  let c0_i32_3 : BitVec 32 := 0#32
  let c1_i32 : BitVec 32 := 1#32
  let arg20 : BitVec 32 := Scf.iv c0_i32_3 c1_i32 k0_t3
  let c64_i32 : BitVec 32 := 64#32
  let v547 : BitVec 32 := Scalar.muli arg20 c64_i32
  let v548 : BitVec 32 := v547
  let v599 : Index := Scalar.indexCast v548
  let c0_339 : Index := 0#32
  ![v599.toNat, 0]
def k0_off40 (k0_t3 : Fin k0_t3_loop.trips) : Fin 3 → Nat :=
  let c0_359 : Index := 0#32
  let c0_i32_3 : BitVec 32 := 0#32
  let c1_i32 : BitVec 32 := 1#32
  let arg20 : BitVec 32 := Scf.iv c0_i32_3 c1_i32 k0_t3
  let c64_i32 : BitVec 32 := 64#32
  let v547 : BitVec 32 := Scalar.muli arg20 c64_i32
  let v548 : BitVec 32 := v547
  let v661 : Index := Scalar.indexCast v548
  let c0_360 : Index := 0#32
  ![0, v661.toNat, 0]
@[reducible] def k0_t4_loop : Scf.Loop 32 :=
  let c0_i32_312 : BitVec 32 := 0#32
  let c10_i32_313 : BitVec 32 := 10#32
  let v526 : BitVec 32 := Scalar.addi c0_i32_312 c10_i32_313
  let c1_i32_314 : BitVec 32 := 1#32
  ⟨c0_i32_312, v526, c1_i32_314⟩
def k0_mult7 (k0_t4 : Fin k0_t4_loop.trips) : BitVec 32 :=
  let c0_i32_312 : BitVec 32 := 0#32
  let c1_i32_314 : BitVec 32 := 1#32
  let arg20 : BitVec 32 := Scf.iv c0_i32_312 c1_i32_314 k0_t4
  let c64_i32 : BitVec 32 := 64#32
  let v547 : BitVec 32 := Scalar.muli arg20 c64_i32
  v547
def k0_off41 (k0_t4 : Fin k0_t4_loop.trips) : Fin 2 → Nat :=
  let c2048_i32 : BitVec 32 := 2048#32
  let c0_i32_312 : BitVec 32 := 0#32
  let c1_i32_314 : BitVec 32 := 1#32
  let arg20 : BitVec 32 := Scf.iv c0_i32_312 c1_i32_314 k0_t4
  let c64_i32 : BitVec 32 := 64#32
  let v547 : BitVec 32 := Scalar.muli arg20 c64_i32
  let v548 : BitVec 32 := v547
  let v549 : BitVec 32 := Scalar.addi c2048_i32 v548
  let v550 : Index := Scalar.indexCast v549
  let c0_321 : Index := 0#32
  ![v550.toNat, 0]
def k0_off42 (k0_t4 : Fin k0_t4_loop.trips) : Fin 3 → Nat :=
  let c0_322 : Index := 0#32
  let c0_i32_312 : BitVec 32 := 0#32
  let c1_i32_314 : BitVec 32 := 1#32
  let arg20 : BitVec 32 := Scf.iv c0_i32_312 c1_i32_314 k0_t4
  let c64_i32 : BitVec 32 := 64#32
  let v547 : BitVec 32 := Scalar.muli arg20 c64_i32
  let v548 : BitVec 32 := v547
  let v554 : Index := Scalar.indexCast v548
  let c0_323 : Index := 0#32
  ![0, v554.toNat, 0]
def k0_off43 (k0_t4 : Fin k0_t4_loop.trips) : Fin 3 → Nat :=
  let c1_324 : Index := 1#32
  let c0_i32_312 : BitVec 32 := 0#32
  let c1_i32_314 : BitVec 32 := 1#32
  let arg20 : BitVec 32 := Scf.iv c0_i32_312 c1_i32_314 k0_t4
  let c64_i32 : BitVec 32 := 64#32
  let v547 : BitVec 32 := Scalar.muli arg20 c64_i32
  let v548 : BitVec 32 := v547
  let v559 : Index := Scalar.indexCast v548
  let c0_325 : Index := 0#32
  ![1, v559.toNat, 0]
def k0_off44 (k0_t4 : Fin k0_t4_loop.trips) : Fin 3 → Nat :=
  let c2_326 : Index := 2#32
  let c0_i32_312 : BitVec 32 := 0#32
  let c1_i32_314 : BitVec 32 := 1#32
  let arg20 : BitVec 32 := Scf.iv c0_i32_312 c1_i32_314 k0_t4
  let c64_i32 : BitVec 32 := 64#32
  let v547 : BitVec 32 := Scalar.muli arg20 c64_i32
  let v548 : BitVec 32 := v547
  let v564 : Index := Scalar.indexCast v548
  let c0_327 : Index := 0#32
  ![2, v564.toNat, 0]
def k0_off45 (k0_t4 : Fin k0_t4_loop.trips) : Fin 3 → Nat :=
  let c3_328 : Index := 3#32
  let c0_i32_312 : BitVec 32 := 0#32
  let c1_i32_314 : BitVec 32 := 1#32
  let arg20 : BitVec 32 := Scf.iv c0_i32_312 c1_i32_314 k0_t4
  let c64_i32 : BitVec 32 := 64#32
  let v547 : BitVec 32 := Scalar.muli arg20 c64_i32
  let v548 : BitVec 32 := v547
  let v569 : Index := Scalar.indexCast v548
  let c0_329 : Index := 0#32
  ![3, v569.toNat, 0]
def k0_off46 (k0_t4 : Fin k0_t4_loop.trips) : Fin 3 → Nat :=
  let c4_330 : Index := 4#32
  let c0_i32_312 : BitVec 32 := 0#32
  let c1_i32_314 : BitVec 32 := 1#32
  let arg20 : BitVec 32 := Scf.iv c0_i32_312 c1_i32_314 k0_t4
  let c64_i32 : BitVec 32 := 64#32
  let v547 : BitVec 32 := Scalar.muli arg20 c64_i32
  let v548 : BitVec 32 := v547
  let v574 : Index := Scalar.indexCast v548
  let c0_331 : Index := 0#32
  ![4, v574.toNat, 0]
def k0_off47 (k0_t4 : Fin k0_t4_loop.trips) : Fin 3 → Nat :=
  let c5_332 : Index := 5#32
  let c0_i32_312 : BitVec 32 := 0#32
  let c1_i32_314 : BitVec 32 := 1#32
  let arg20 : BitVec 32 := Scf.iv c0_i32_312 c1_i32_314 k0_t4
  let c64_i32 : BitVec 32 := 64#32
  let v547 : BitVec 32 := Scalar.muli arg20 c64_i32
  let v548 : BitVec 32 := v547
  let v579 : Index := Scalar.indexCast v548
  let c0_333 : Index := 0#32
  ![5, v579.toNat, 0]
def k0_off48 (k0_t4 : Fin k0_t4_loop.trips) : Fin 3 → Nat :=
  let c6_334 : Index := 6#32
  let c0_i32_312 : BitVec 32 := 0#32
  let c1_i32_314 : BitVec 32 := 1#32
  let arg20 : BitVec 32 := Scf.iv c0_i32_312 c1_i32_314 k0_t4
  let c64_i32 : BitVec 32 := 64#32
  let v547 : BitVec 32 := Scalar.muli arg20 c64_i32
  let v548 : BitVec 32 := v547
  let v584 : Index := Scalar.indexCast v548
  let c0_335 : Index := 0#32
  ![6, v584.toNat, 0]
def k0_off49 (k0_t4 : Fin k0_t4_loop.trips) : Fin 3 → Nat :=
  let c7_336 : Index := 7#32
  let c0_i32_312 : BitVec 32 := 0#32
  let c1_i32_314 : BitVec 32 := 1#32
  let arg20 : BitVec 32 := Scf.iv c0_i32_312 c1_i32_314 k0_t4
  let c64_i32 : BitVec 32 := 64#32
  let v547 : BitVec 32 := Scalar.muli arg20 c64_i32
  let v548 : BitVec 32 := v547
  let v589 : Index := Scalar.indexCast v548
  let c0_337 : Index := 0#32
  ![7, v589.toNat, 0]
def k0_off50 (k0_t4 : Fin k0_t4_loop.trips) : Fin 2 → Nat :=
  let c0_i32_312 : BitVec 32 := 0#32
  let c1_i32_314 : BitVec 32 := 1#32
  let arg20 : BitVec 32 := Scf.iv c0_i32_312 c1_i32_314 k0_t4
  let c64_i32 : BitVec 32 := 64#32
  let v547 : BitVec 32 := Scalar.muli arg20 c64_i32
  let v548 : BitVec 32 := v547
  let v599 : Index := Scalar.indexCast v548
  let c0_339 : Index := 0#32
  ![v599.toNat, 0]
def k0_off51 (k0_t4 : Fin k0_t4_loop.trips) : Fin 3 → Nat :=
  let c0_359 : Index := 0#32
  let c0_i32_312 : BitVec 32 := 0#32
  let c1_i32_314 : BitVec 32 := 1#32
  let arg20 : BitVec 32 := Scf.iv c0_i32_312 c1_i32_314 k0_t4
  let c64_i32 : BitVec 32 := 64#32
  let v547 : BitVec 32 := Scalar.muli arg20 c64_i32
  let v548 : BitVec 32 := v547
  let v661 : Index := Scalar.indexCast v548
  let c0_360 : Index := 0#32
  ![0, v661.toNat, 0]
def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![arg0.toNat, v2.toNat, c0_i32_0.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![arg0.toNat, c0_i32_0.toNat, v2.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3x4096x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x4096 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x4096 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x4096 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1024x1024 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== WindowsIdeal.lean ====
abbrev S2x8192x1024 : Shape := ⟨3, ![2, 8192, 1024]⟩
abbrev S3x4096x1024 : Shape := ⟨3, ![3, 4096, 1024]⟩
abbrev S3x1024 : Shape := ⟨2, ![3, 1024]⟩
abbrev S1024 : Shape := ⟨1, ![1024]⟩
abbrev S2x2048x4096 : Shape := ⟨3, ![2, 2048, 4096]⟩
abbrev S2x1x2048 : Shape := ⟨3, ![2, 1, 2048]⟩
abbrev S2x2048 : Shape := ⟨2, ![2, 2048]⟩
abbrev S2x2048x1 : Shape := ⟨3, ![2, 2048, 1]⟩

abbrev nBuf : Space → Nat
  | .hbm => 9
  | .vmem => 3
  | .smem => 0
  | _ => 0

abbrev bufTy : (tb : Table) → Fin (tcTables nBuf tb) → BufTy
  | .hbm, ⟨0, _⟩ => ⟨S2x8192x1024, .bf16⟩
  | .hbm, ⟨1, _⟩ => ⟨S3x4096x1024, .fp8e4m3⟩
  | .hbm, ⟨2, _⟩ => ⟨S3x1024, .f32⟩
  | .hbm, ⟨3, _⟩ => ⟨S3x1024, .f32⟩
  | .hbm, ⟨4, _⟩ => ⟨S1024, .f32⟩
  | .hbm, ⟨5, _⟩ => ⟨S1024, .f32⟩
  | .hbm, ⟨6, _⟩ => ⟨S2x2048x4096, .bf16⟩
  | .hbm, ⟨7, _⟩ => ⟨S2x2048x4096, .fp8e4m3⟩
  | .hbm, ⟨8, _⟩ => ⟨S2x1x2048, .f32⟩
  | .local _ .vmem, ⟨0, _⟩ => ⟨S2x2048x4096, .bf16⟩
  | .local _ .vmem, ⟨1, _⟩ => ⟨S2x2048x4096, .fp8e4m3⟩
  | .local _ .vmem, ⟨2, _⟩ => ⟨S2x1x2048, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2x2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x2048x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Body.lean ====
/-
  The projection kernel's body, written with its loops: for each of the three projections, four blocks
  of 256 output channels by 256 nodes, four heads a block, two groups of 128 nodes; then the scales and
  the codes of each group. The printed bodies are this program with its loops unrolled
  (`Proof/Same*.lean`), and what it leaves in its buffers is worked out once, for any machine state,
  in `Proof/Triple.lean`.
-/
module

public import Idealize.ShloMosaic.Lib.Pipeline
public import Idealize.ShloMosaic.PureOps

@[expose] public section

noncomputable section

namespace Cert.Proj

open Idealize.ShloMosaic Idealize.SL.Sem

abbrev Th : Shape := ⟨3, ![1, 256, 1024]⟩
abbrev Ths : Shape := ⟨3, ![1, 1, 256]⟩
abbrev Tw : Shape := ⟨2, ![3072, 1024]⟩
abbrev Ts : Shape := ⟨2, ![3072, 128]⟩
abbrev Tc : Shape := ⟨3, ![1, 1024, 256]⟩
abbrev Tsc : Shape := ⟨3, ![1, 16, 256]⟩
abbrev Tp : Shape := ⟨3, ![2, 1024, 128]⟩
abbrev Ta : Shape := ⟨3, ![2, 128, 128]⟩
abbrev Td : Shape := ⟨3, ![2, 16, 128]⟩
abbrev Bw : Shape := ⟨2, ![256, 1024]⟩
abbrev Bhs : Shape := ⟨2, ![1, 256]⟩
abbrev Bacc : Shape := ⟨2, ![256, 256]⟩
abbrev B64 : Shape := ⟨2, ![64, 128]⟩
abbrev B8 : Shape := ⟨2, ![8, 128]⟩
abbrev B16 : Shape := ⟨2, ![16, 128]⟩
abbrev B1 : Shape := ⟨2, ![1, 128]⟩
abbrev C64 : Shape := ⟨3, ![1, 64, 128]⟩
abbrev C8 : Shape := ⟨3, ![1, 8, 128]⟩
abbrev C16 : Shape := ⟨3, ![1, 16, 128]⟩
abbrev C1 : Shape := ⟨3, ![1, 1, 128]⟩

/-- The product both operands of which are contracted over their second axis. -/
def dims : DotDims Bw Bw Bacc where
  lhsContracting := [1]
  rhsContracting := [1]
  lhsNonContracting := [0]
  rhsNonContracting := [0]
  lhsBatch := []
  rhsBatch := []
  wf := by decide

/-- `f 0`, then `f 1`, …, then `f (n - 1)`. -/
def seqFin {E : Type → Type} : (n : Nat) → (Fin n → Prog E PUnit) → Prog E PUnit
  | 0, _ => pure ⟨⟩
  | n + 1, f => f 0 >>= fun _ => seqFin n fun i => f i.succ

/-- Two programs that begin with one request and go on alike are one program. -/
theorem op_congr {E : Type → Type} {α β : Type} {e e' : E β} {k k' : β → Prog E α} (h : e = e') (hk : ∀ x, k x = k' x) :
    Prog.op e k = Prog.op e' k' := by subst h; rw [funext hk]

/-! ## The places the body loads from and stores to -/

abbrev rH : Rect Th := Rect.unit (s := Th) ![0, 0, 0] Th.size (by decide)
abbrev rHs : Rect Ths := Rect.unit (s := Ths) ![0, 0, 0] Ths.size (by decide)
abbrev rW (i : Fin 3) (m : Fin 4) : Rect Tw := Rect.unit (s := Tw) ![1024 * i.val + 256 * m.val, 0] Bw.size
  (by intro a; fin_cases a <;> simp <;> omega)
abbrev rS (i : Fin 3) (m j : Fin 4) : Rect Ts := Rect.unit (s := Ts) ![1024 * i.val + 256 * m.val + 64 * j.val, 0] B64.size
  (by intro a; fin_cases a <;> simp <;> omega)
abbrev rP (lt : Fin 2) (hd : Fin 16) : Rect Tp := Rect.unit (s := Tp) ![lt.val, 64 * hd.val, 0] C64.size
  (by intro a; fin_cases a <;> simp <;> omega)
abbrev rA (lt : Fin 2) (hd : Fin 16) : Rect Ta := Rect.unit (s := Ta) ![lt.val, 8 * hd.val, 0] C8.size
  (by intro a; fin_cases a <;> simp <;> omega)
abbrev rAs (lt : Fin 2) (u : Fin 8) : LoadRect Ta := ⟨![lt.val, u.val, 0], C16.size, ![1, 8, 1],
  by intro a; fin_cases a <;> simp <;> omega⟩
abbrev rD (lt : Fin 2) : Rect Td := Rect.unit (s := Td) ![lt.val, 0, 0] C16.size
  (by intro a; fin_cases a <;> simp <;> omega)
abbrev rDh (lt : Fin 2) (hd : Fin 16) : Rect Td := Rect.unit (s := Td) ![lt.val, hd.val, 0] C1.size
  (by intro a; fin_cases a <;> simp <;> omega)
abbrev rSc (lt : Fin 2) : Rect Tsc := Rect.unit (s := Tsc) ![0, 0, 128 * lt.val] C16.size
  (by intro a; fin_cases a <;> simp <;> omega)
abbrev rC (lt : Fin 2) (hd : Fin 16) : Rect Tc := Rect.unit (s := Tc) ![0, 64 * hd.val, 128 * lt.val] C64.size
  (by intro a; fin_cases a <;> simp <;> omega)

theorem rC_packed : ∀ (lt : Fin 2) (hd : Fin 16), (rC lt hd).PackedRows (EltTy.packing .fp8e4m3) := by decide

theorem n64 : 0 < C64.numel := by decide
theorem n8 : 0 < C8.numel := by decide
theorem n16 : 0 < C16.numel := by decide
theorem n1 : 0 < C1.numel := by decide
theorem nw : 0 < Bw.numel := by decide
theorem n64s : 0 < B64.numel := by decide
theorem nh : 0 < Th.numel := by decide
theorem nhs : 0 < Ths.numel := by decide

/-! ## What it computes -/

section Pure

variable {F : FTy → Type} [FloatOps F]

/-- One block of the products: 256 channels by 256 nodes. -/
def accOf (v1 : FVec F Bw .fp8e4m3) (w : Vec F Bw .fp8e4m3) : FVec F Bacc .f32 :=
  matmul dims none (shapeCast Bw w rfl) v1 (constant Bacc .f32 0x00000000#32)

/-- One head's 64 rows of one group of 128 nodes, times the weight scales. -/
def pOf (acc : FVec F Bacc .f32) (sw : Vec F B64 .f32) (j : Fin 4) (lt : Fin 2) : FVec F B64 .f32 :=
  mulf (extractStridedSlice B64 ![64 * j.val, 128 * lt.val] acc (⟨rfl, by intro a; fin_cases a <;> simp <;> omega⟩))
    (shapeCast B64 sw rfl)

/-- Rows `o … o + 8` of such a block, in absolute value. -/
def absRows (p : FVec F B64 .f32) (u : Fin 8) : FVec F B8 .f32 :=
  absf (extractStridedSlice B8 ![8 * u.val, 0] p (⟨rfl, by intro a; fin_cases a <;> simp <;> omega⟩))

/-- Its rows' maxima, eight by eight. -/
def partOf (p : FVec F B64 .f32) : FVec F B8 .f32 :=
  maximumf (maximumf (maximumf (maximumf (maximumf (maximumf (maximumf (absRows p 0) (absRows p 1)) (absRows p 2))
    (absRows p 3)) (absRows p 4)) (absRows p 5)) (absRows p 6)) (absRows p 7)

/-- The maxima of eight blocks. -/
def maxOf (x : Fin 8 → Vec F C16 .f32) : FVec F B16 .f32 :=
  maximumf (maximumf (maximumf (maximumf (maximumf (maximumf (maximumf (shapeCast B16 (x 0) rfl) (shapeCast B16 (x 1) rfl))
    (shapeCast B16 (x 2) rfl)) (shapeCast B16 (x 3) rfl)) (shapeCast B16 (x 4) rfl)) (shapeCast B16 (x 5) rfl))
    (shapeCast B16 (x 6) rfl)) (shapeCast B16 (x 7) rfl)

/-- The exponent of the power of two a row of largest absolute value `a` is scaled by. -/
def expOf (a : FVec F B16 .f32) : FVec F B16 .f32 :=
  select (cmpf .oeq a (broadcast B16 (Scalar.ofBits .f32 0x00000000#32)))
    (broadcast B16 (Scalar.ofBits .f32 0x00000000#32))
    (addf (floor (divf (log (mulf a (broadcast B16 (Scalar.ofBits .f32 0x3B124925#32))))
      (log (broadcast B16 (Scalar.ofBits .f32 0x40000000#32)))))
      (broadcast B16 (Scalar.ofBits .f32 0x3F800000#32)))

/-- What the codes are multiplied by. -/
def downOf (a : FVec F B16 .f32) : FVec F B16 .f32 :=
  exp2 (subf (broadcast B16 (Scalar.ofBits .f32 0x00000000#32)) (expOf a))

/-- The scales stored. -/
def scaleOf (v3 : FVec F Bhs .f32) (lt : Fin 2) (a : FVec F B16 .f32) : FVec F B16 .f32 :=
  select (cmpf .oeq a (broadcast B16 (Scalar.ofBits .f32 0x00000000#32)))
    (broadcast B16 (Scalar.ofBits .f32 0x3F800000#32))
    (mulf (exp2 (expOf a)) (broadcastTo B16 (extractStridedSlice B1 ![0, 128 * lt.val] v3
      (⟨rfl, by intro a; fin_cases a <;> simp <;> omega⟩)) (by decide)))

/-- The codes stored. -/
def codeOf (p : Vec F C64 .f32) (d : Vec F C1 .f32) : FVec F B64 .fp8e4m3 :=
  truncf .fp8e4m3 (minimumf (broadcast B64 (Scalar.ofBits .f32 0x43E00000#32))
    (maximumf (broadcast B64 (Scalar.ofBits .f32 0xC3E00000#32))
      (mulf (shapeCast B64 p rfl) (broadcastTo B64 (shapeCast B1 d rfl) (by decide))))) (by decide)

end Pure

/-! ## The program -/

section Program

variable {nD : Nat} {τ : Topo} {sig : RefSig} {F : FTy → Type} [FloatOps F] {Λ : Labels}

/-- One head of one group of nodes: its products and their maxima, stored. -/
def tileBody (arg12 : Memref sig .tc .vmem Tp .f32) (arg13 : Memref sig .tc .vmem Ta .f32)
    (p : FVec F B64 .f32) (lt : Fin 2) (hd : Fin 16) : Prog (TpuEff nD τ sig (Elt F) Λ .tc) PUnit := do
  let _ ← Prog.lift (.load arg12 (rP lt hd).toLoadRect (View.loadsAt_vmem n64))
  Prog.lift (.store arg12 (rP lt hd) (shapeCast C64 p rfl) Finset.univ (View.stores_vmem_bits_univ n64 rfl) (.inl rfl))
  let _ ← Prog.lift (.load arg13 (rA lt hd).toLoadRect (View.loadsAt_vmem n8))
  Prog.lift (.store arg13 (rA lt hd) (shapeCast C8 (partOf p) rfl) Finset.univ (View.stores_vmem_bits_univ n8 rfl) (.inl rfl))

/-- A block of 256 output channels. -/
def blockBody (arg4 : Memref sig .tc .vmem Tw .fp8e4m3) (arg5 : Memref sig .tc .vmem Ts .f32)
    (arg12 : Memref sig .tc .vmem Tp .f32) (arg13 : Memref sig .tc .vmem Ta .f32)
    (v1 : FVec F Bw .fp8e4m3) (i : Fin 3) (m : Fin 4) : Prog (TpuEff nD τ sig (Elt F) Λ .tc) PUnit := do
  let w ← Prog.lift (.load arg4 (rW i m).toLoadRect (View.loadsAt_vmem nw))
  seqFin 4 fun j => do
    let sw ← Prog.lift (.load arg5 (rS i m j).toLoadRect (View.loadsAt_vmem n64s))
    seqFin 2 fun lt => tileBody arg12 arg13 (pOf (accOf v1 w) sw j lt) lt ⟨4 * m.val + j.val, by omega⟩

/-- One head's codes. -/
def codeBody (arg12 : Memref sig .tc .vmem Tp .f32) (arg14 : Memref sig .tc .vmem Td .f32)
    (oc : Memref sig .tc .vmem Tc .fp8e4m3) (hoc : oc.IsWhole) (lt : Fin 2) (hd : Fin 16) : Prog (TpuEff nD τ sig (Elt F) Λ .tc) PUnit := do
  let p ← Prog.lift (.load arg12 (rP lt hd).toLoadRect (View.loadsAt_vmem n64))
  let d ← Prog.lift (.load arg14 (rDh lt hd).toLoadRect (View.loadsAt_vmem n1))
  let _ ← Prog.lift (.load oc (rC lt hd).toLoadRect (View.loadsAt_vmem n64))
  Prog.lift (.store oc (rC lt hd) (shapeCast C64 (codeOf p d) rfl) Finset.univ
    (View.stores_vmem n64 (hoc.storeExact_slice rfl _ (rC_packed lt hd)) (fun _ => rfl)) (.inl rfl))

/-- One group of 128 nodes: its scales, then its codes head by head. -/
def groupBody (arg12 : Memref sig .tc .vmem Tp .f32) (arg13 : Memref sig .tc .vmem Ta .f32)
    (arg14 : Memref sig .tc .vmem Td .f32) (oc : Memref sig .tc .vmem Tc .fp8e4m3) (hoc : oc.IsWhole)
    (os : Memref sig .tc .vmem Tsc .f32) (v3 : FVec F Bhs .f32) (lt : Fin 2) : Prog (TpuEff nD τ sig (Elt F) Λ .tc) PUnit := do
  let x0 ← Prog.lift (.load arg13 (rAs lt 0) (View.loadsAt_vmem n16))
  let x1 ← Prog.lift (.load arg13 (rAs lt 1) (View.loadsAt_vmem n16))
  let x2 ← Prog.lift (.load arg13 (rAs lt 2) (View.loadsAt_vmem n16))
  let x3 ← Prog.lift (.load arg13 (rAs lt 3) (View.loadsAt_vmem n16))
  let x4 ← Prog.lift (.load arg13 (rAs lt 4) (View.loadsAt_vmem n16))
  let x5 ← Prog.lift (.load arg13 (rAs lt 5) (View.loadsAt_vmem n16))
  let x6 ← Prog.lift (.load arg13 (rAs lt 6) (View.loadsAt_vmem n16))
  let x7 ← Prog.lift (.load arg13 (rAs lt 7) (View.loadsAt_vmem n16))
  let _ ← Prog.lift (.load arg14 (rD lt).toLoadRect (View.loadsAt_vmem n16))
  Prog.lift (.store arg14 (rD lt) (shapeCast C16 (downOf (maxOf ![x0, x1, x2, x3, x4, x5, x6, x7])) rfl) Finset.univ
    (View.stores_vmem_bits_univ n16 rfl) (.inl rfl))
  let _ ← Prog.lift (.load os (rSc lt).toLoadRect (View.loadsAt_vmem n16))
  Prog.lift (.store os (rSc lt) (shapeCast C16 (scaleOf v3 lt (maxOf ![x0, x1, x2, x3, x4, x5, x6, x7])) rfl) Finset.univ
    (View.stores_vmem_bits_univ n16 rfl) (.inl rfl))
  seqFin 16 fun hd => codeBody arg12 arg14 oc hoc lt hd

/-- One projection. -/
def projOne (arg4 : Memref sig .tc .vmem Tw .fp8e4m3) (arg5 : Memref sig .tc .vmem Ts .f32)
    (arg12 : Memref sig .tc .vmem Tp .f32) (arg13 : Memref sig .tc .vmem Ta .f32) (arg14 : Memref sig .tc .vmem Td .f32)
    (v1 : FVec F Bw .fp8e4m3) (v3 : FVec F Bhs .f32) (i : Fin 3)
    (oc : Memref sig .tc .vmem Tc .fp8e4m3) (hoc : oc.IsWhole) (os : Memref sig .tc .vmem Tsc .f32) : Prog (TpuEff nD τ sig (Elt F) Λ .tc) PUnit := do
  seqFin 4 fun m => blockBody arg4 arg5 arg12 arg13 v1 i m
  seqFin 2 fun lt => groupBody arg12 arg13 arg14 oc hoc os v3 lt

/-- The whole body. -/
def projBody (arg2 : Memref sig .tc .vmem Th .fp8e4m3) (arg3 : Memref sig .tc .vmem Ths .f32)
    (arg4 : Memref sig .tc .vmem Tw .fp8e4m3) (arg5 : Memref sig .tc .vmem Ts .f32)
    (arg6 : Memref sig .tc .vmem Tc .fp8e4m3) (harg6 : arg6.IsWhole) (arg7 : Memref sig .tc .vmem Tsc .f32)
    (arg8 : Memref sig .tc .vmem Tc .fp8e4m3) (harg8 : arg8.IsWhole) (arg9 : Memref sig .tc .vmem Tsc .f32)
    (arg10 : Memref sig .tc .vmem Tc .fp8e4m3) (harg10 : arg10.IsWhole) (arg11 : Memref sig .tc .vmem Tsc .f32)
    (arg12 : Memref sig .tc .vmem Tp .f32) (arg13 : Memref sig .tc .vmem Ta .f32) (arg14 : Memref sig .tc .vmem Td .f32) :
    Prog (TpuEff nD τ sig (Elt F) Λ .tc) PUnit := do
  let v0 : Vec F Th .fp8e4m3 ← Prog.lift (.load arg2 rH.toLoadRect (View.loadsAt_vmem nh))
  let v2 : Vec F Ths .f32 ← Prog.lift (.load arg3 rHs.toLoadRect (View.loadsAt_vmem nhs))
  projOne arg4 arg5 arg12 arg13 arg14 (shapeCast Bw v0 rfl) (shapeCast Bhs v2 (by decide)) 0 arg6 harg6 arg7
  projOne arg4 arg5 arg12 arg13 arg14 (shapeCast Bw v0 rfl) (shapeCast Bhs v2 (by decide)) 1 arg8 harg8 arg9
  projOne arg4 arg5 arg12 arg13 arg14 (shapeCast Bw v0 rfl) (shapeCast Bhs v2 (by decide)) 2 arg10 harg10 arg11

end Program

end Cert.Proj

end
-- ==== Proof.Same.lean ====
/-
  The printed body of the projection kernel is the structured body of `Proof/Body.lean`: the same loads
  and stores in the same order, one by one.
-/
module

public import proofs.«01_k».proof.Proof.Gen.Kernel
public import proofs.«01_k».proof.Proof.Body
public section
noncomputable section
namespace Cert.Kernel
open Idealize.ShloMosaic Idealize.SL.Sem
variable {F : FTy → Type} [FloatOps F]
set_option maxRecDepth 100000
set_option maxHeartbeats 4000000
/-- The printed body is the structured one. -/
theorem cc0_project_eq (i : grid0.Coords) (arg2 : Memref sig .tc .vmem S1x256x1024 .fp8e4m3) (harg2 : arg2.IsWhole) (arg3 : Memref sig .tc .vmem S1x1x256 .f32) (harg3 : arg3.IsWhole) (arg4 : Memref sig .tc .vmem S3072x1024 .fp8e4m3) (harg4 : arg4.IsWhole) (arg5 : Memref sig .tc .vmem S3072x128 .f32) (harg5 : arg5.IsWhole) (arg6 : Memref sig .tc .vmem S1x1024x256 .fp8e4m3) (harg6 : arg6.IsWhole) (arg7 : Memref sig .tc .vmem S1x16x256 .f32) (harg7 : arg7.IsWhole) (arg8 : Memref sig .tc .vmem S1x1024x256 .fp8e4m3) (harg8 : arg8.IsWhole) (arg9 : Memref sig .tc .vmem S1x16x256 .f32) (harg9 : arg9.IsWhole) (arg10 : Memref sig .tc .vmem S1x1024x256 .fp8e4m3) (harg10 : arg10.IsWhole) (arg11 : Memref sig .tc .vmem S1x16x256 .f32) (harg11 : arg11.IsWhole) (arg12 : Memref sig .tc .vmem S2x1024x128 .f32) (harg12 : arg12.IsWhole) (arg13 : Memref sig .tc .vmem S2x128x128 .f32) (harg13 : arg13.IsWhole) (arg14 : Memref sig .tc .vmem S2x16x128 .f32) (harg14 : arg14.IsWhole) :
    cc0_project (F := F) i arg2 harg2 arg3 harg3 arg4 harg4 arg5 harg5 arg6 harg6 arg7 harg7 arg8 harg8 arg9 harg9 arg10 harg10 arg11 harg11 arg12 harg12 arg13 harg13 arg14 harg14
      = Cert.Proj.projBody arg2 arg3 arg4 arg5 arg6 harg6 arg7 arg8 harg8 arg9 arg10 harg10 arg11 arg12 arg13 arg14 := by
  iterate 902 (refine Cert.Proj.op_congr rfl fun _ => ?_)
  rfl
end Cert.Kernel
end
-- ==== Proof.Spec.lean ====
/-
  What the projection kernel's body leaves in its buffers, index by index, as functions of what its
  input buffers hold: the products (`pS`), their maxima (`aS`, `amax`), the scales (`scS`) and the
  codes (`cS`); and what one store does to a buffer part of which already holds such a function.
-/
module

public import proofs.«01_k».proof.Proof.Body
public import Idealize.ShloMosaic.Lib.ValueIdxCore
public import Idealize.ShloMosaic.Lib.ValueLayout

@[expose] public section

noncomputable section

namespace Cert.Proj

open Idealize.ShloMosaic Idealize.SL.Sem Idealize.ShloMosaic.ValueIdx

section Spec

variable {F : FTy → Type} [FloatOps F]
variable (v1 : FVec F Bw .fp8e4m3) (v3 : FVec F Bhs .f32) (W : Vec F Tw .fp8e4m3) (S : Vec F Ts .f32) (i : Fin 3)

/-- Head `j` of block `m`, nodes group `lt`. -/
def tile' (m j : Fin 4) (lt : Fin 2) : FVec F B64 .f32 :=
  pOf (accOf v1 (fun x => W ((rW i m).idx x))) (fun x => S ((rS i m j).idx x)) j lt

/-- Head `hd`, nodes group `lt`. -/
def tile (hd : Fin 16) (lt : Fin 2) : FVec F B64 .f32 :=
  tile' v1 W S i ⟨hd.val / 4, by omega⟩ ⟨hd.val % 4, by omega⟩ lt

theorem tile_eq (m j : Fin 4) (lt : Fin 2) :
    tile v1 W S i ⟨4 * m.val + j.val, by omega⟩ lt = tile' v1 W S i m j lt := by
  have h1 : (⟨(4 * m.val + j.val) / 4, by omega⟩ : Fin 4) = m := Fin.ext (by show (4 * m.val + j.val) / 4 = m.val; omega)
  have h2 : (⟨(4 * m.val + j.val) % 4, by omega⟩ : Fin 4) = j := Fin.ext (by show (4 * m.val + j.val) % 4 = j.val; omega)
  unfold tile
  simp only [h1, h2]

/-- The scaled products. -/
def pS : Vec F Tp .f32 := fun y =>
  tile v1 W S i ⟨(y 1).val / 64, by have : (y 1).val < 1024 := (y 1).isLt; omega⟩ (y 0)
    (ix2 ⟨(y 1).val % 64, by omega⟩ (y 2))

/-- Their maxima, eight rows by eight. -/
def aS : Vec F Ta .f32 := fun y =>
  partOf (tile v1 W S i ⟨(y 1).val / 8, by have : (y 1).val < 128 := (y 1).isLt; omega⟩ (y 0))
    (ix2 ⟨(y 1).val % 8, by omega⟩ (y 2))

/-- Each head's largest absolute product. -/
def amax (lt : Fin 2) : FVec F B16 .f32 := maxOf fun u x => aS v1 W S i ((rAs lt u).idx x)

/-- What the products are multiplied by. -/
def dS (lt : Fin 2) : FVec F B16 .f32 := downOf (amax v1 W S i lt)

/-- The scales. -/
def scS : Vec F Tsc .f32 := fun y =>
  scaleOf v3 ⟨(y 2).val / 128, by have : (y 2).val < 256 := (y 2).isLt; omega⟩
    (amax v1 W S i ⟨(y 2).val / 128, by have : (y 2).val < 256 := (y 2).isLt; omega⟩)
    (ix2 (y 1) ⟨(y 2).val % 128, by omega⟩)

/-- One head's codes. -/
def codeTile (lt : Fin 2) (hd : Fin 16) : FVec F B64 .fp8e4m3 :=
  codeOf (fun x => pS v1 W S i ((rP lt hd).idx x)) (fun x => dS v1 W S i lt (ix2 hd (x 2)))

/-- The codes. -/
def cS : Vec F Tc .fp8e4m3 := fun y =>
  codeTile v1 W S i ⟨(y 2).val / 128, by have : (y 2).val < 256 := (y 2).isLt; omega⟩
    ⟨(y 1).val / 64, by have : (y 1).val < 1024 := (y 1).isLt; omega⟩
    (ix2 ⟨(y 1).val % 64, by omega⟩ ⟨(y 2).val % 128, by omega⟩)

end Spec

/-! ## One store -/

/-- `Y` is `X` with `w` put in the rectangle. -/
def Put {α : Type} {s : Shape} (r : Rect s) (w : r.shape.Idx → α) (X Y : s.Idx → α) : Prop :=
  (∀ x, Y (r.emb x) = w x) ∧ ∀ y, y ∉ r.set → Y y = X y

/-- A buffer filled in the order of `key`: the store that fills the indices whose key is `n`. -/
theorem Put.step {α : Type} {s : Shape} {r : Rect s} {w : r.shape.Idx → α} {X Y : s.Idx → α} (h : Put r w X Y)
    (key : s.Idx → Nat) (n : Nat) (T : s.Idx → α) (hk : ∀ x, key (r.emb x) = n)
    (hin : ∀ y, key y = n → ∃ x, r.emb x = y ∧ w x = T y) (hX : ∀ y, key y < n → X y = T y) :
    ∀ y, key y < n + 1 → Y y = T y := by
  intro y hy
  rcases Nat.lt_succ_iff_lt_or_eq.mp hy with hlt | heq
  · rw [h.2 y, hX y hlt]
    intro hm
    obtain ⟨x, hx⟩ := r.exists_idx_of_mem hm
    have := hk x
    rw [show r.emb x = y from hx] at this
    omega
  · obtain ⟨x, hx, hw⟩ := hin y heq
    rw [← hx, h.1 x, hw, hx]

section Stores

variable {F : FTy → Type} [FloatOps F]
variable (v1 : FVec F Bw .fp8e4m3) (v3 : FVec F Bhs .f32) (W : Vec F Tw .fp8e4m3) (S : Vec F Ts .f32) (i : Fin 3)

theorem put_p (lt : Fin 2) (hd : Fin 16) {X Y : Vec F Tp .f32}
    (h : Put (rP lt hd) (shapeCast C64 (tile v1 W S i hd lt) rfl) X Y)
    (hX : ∀ y : Tp.Idx, 2 * ((y 1).val / 64) + (y 0).val < 2 * hd.val + lt.val → X y = pS v1 W S i y) :
    ∀ y : Tp.Idx, 2 * ((y 1).val / 64) + (y 0).val < 2 * hd.val + lt.val + 1 → Y y = pS v1 W S i y := by
  refine h.step (fun y => 2 * ((y 1).val / 64) + (y 0).val) _ _ (fun x => ?_) (fun y hy => ?_) hX
  · have h0 : (x 0).val < 1 := (x 0).isLt
    have h1 : (x 1).val < 64 := (x 1).isLt
    show 2 * ((64 * hd.val + 1 * (x 1).val) / 64) + (lt.val + 1 * (x 0).val) = _
    omega
  · have hy : 2 * ((y 1).val / 64) + (y 0).val = 2 * hd.val + lt.val := hy
    have h0 : (y 0).val < 2 := (y 0).isLt
    have h1 : (y 1).val < 1024 := (y 1).isLt
    have e0 : y 0 = lt := Fin.ext (by omega)
    have e1 : (⟨(y 1).val / 64, by omega⟩ : Fin 16) = hd := Fin.ext (by show (y 1).val / 64 = hd.val; omega)
    refine ⟨ix3 (0 : Fin 1) (⟨(y 1).val % 64, by omega⟩ : Fin 64) (y 2), ?_, ?_⟩
    · funext a
      refine Fin.ext ?_
      match a with
      | ⟨0, _⟩ => show lt.val + 1 * 0 = (y 0).val; omega
      | ⟨1, _⟩ => show 64 * hd.val + 1 * ((y 1).val % 64) = (y 1).val; omega
      | ⟨2, _⟩ => show 0 + 1 * (y 2).val = (y 2).val; omega
    · refine (shapeCast_ab_1ab_apply _ _ _ _ _).trans ?_
      unfold pS
      rw [e1, e0]

theorem put_a (lt : Fin 2) (hd : Fin 16) {X Y : Vec F Ta .f32}
    (h : Put (rA lt hd) (shapeCast C8 (partOf (tile v1 W S i hd lt)) rfl) X Y)
    (hX : ∀ y : Ta.Idx, 2 * ((y 1).val / 8) + (y 0).val < 2 * hd.val + lt.val → X y = aS v1 W S i y) :
    ∀ y : Ta.Idx, 2 * ((y 1).val / 8) + (y 0).val < 2 * hd.val + lt.val + 1 → Y y = aS v1 W S i y := by
  refine h.step (fun y => 2 * ((y 1).val / 8) + (y 0).val) _ _ (fun x => ?_) (fun y hy => ?_) hX
  · have h0 : (x 0).val < 1 := (x 0).isLt
    have h1 : (x 1).val < 8 := (x 1).isLt
    show 2 * ((8 * hd.val + 1 * (x 1).val) / 8) + (lt.val + 1 * (x 0).val) = _
    omega
  · have hy : 2 * ((y 1).val / 8) + (y 0).val = 2 * hd.val + lt.val := hy
    have h0 : (y 0).val < 2 := (y 0).isLt
    have h1 : (y 1).val < 128 := (y 1).isLt
    have e0 : y 0 = lt := Fin.ext (by omega)
    have e1 : (⟨(y 1).val / 8, by omega⟩ : Fin 16) = hd := Fin.ext (by show (y 1).val / 8 = hd.val; omega)
    refine ⟨ix3 (0 : Fin 1) (⟨(y 1).val % 8, by omega⟩ : Fin 8) (y 2), ?_, ?_⟩
    · funext a
      refine Fin.ext ?_
      match a with
      | ⟨0, _⟩ => show lt.val + 1 * 0 = (y 0).val; omega
      | ⟨1, _⟩ => show 8 * hd.val + 1 * ((y 1).val % 8) = (y 1).val; omega
      | ⟨2, _⟩ => show 0 + 1 * (y 2).val = (y 2).val; omega
    · refine (shapeCast_ab_1ab_apply _ _ _ _ _).trans ?_
      unfold aS
      rw [e1, e0]

theorem put_d (lt : Fin 2) {X Y : Vec F Td .f32}
    (h : Put (rD lt) (shapeCast C16 (dS v1 W S i lt) rfl) X Y) (hd : Fin 16) :
    (fun x : C1.Idx => Y ((rDh lt hd).idx x)) = fun x => dS v1 W S i lt (ix2 hd (x 2)) := by
  funext x
  have h1 : (x 1).val < 1 := (x 1).isLt
  have h0 : (x 0).val < 1 := (x 0).isLt
  have e : (rDh lt hd).idx x = (rD lt).emb (ix3 (0 : Fin 1) hd (x 2)) := by
    funext a
    refine Fin.ext ?_
    match a with
    | ⟨0, _⟩ => show lt.val + 1 * (x 0).val = lt.val + 1 * 0; omega
    | ⟨1, _⟩ => show hd.val + 1 * (x 1).val = 0 + 1 * hd.val; omega
    | ⟨2, _⟩ => rfl
  rw [e, h.1]
  exact shapeCast_ab_1ab_apply _ _ _ _ _

theorem put_sc (lt : Fin 2) {X Y : Vec F Tsc .f32}
    (h : Put (rSc lt) (shapeCast C16 (scaleOf v3 lt (amax v1 W S i lt)) rfl) X Y)
    (hX : ∀ y : Tsc.Idx, (y 2).val / 128 < lt.val → X y = scS v1 v3 W S i y) :
    ∀ y : Tsc.Idx, (y 2).val / 128 < lt.val + 1 → Y y = scS v1 v3 W S i y := by
  refine h.step (fun y => (y 2).val / 128) _ _ (fun x => ?_) (fun y hy => ?_) hX
  · have h1 : (x 2).val < 128 := (x 2).isLt
    show (128 * lt.val + 1 * (x 2).val) / 128 = _
    omega
  · have hy : (y 2).val / 128 = lt.val := hy
    have h0 : (y 0).val < 1 := (y 0).isLt
    have h1 : (y 2).val < 256 := (y 2).isLt
    have e1 : (⟨(y 2).val / 128, by omega⟩ : Fin 2) = lt := Fin.ext hy
    refine ⟨ix3 (0 : Fin 1) (y 1) (⟨(y 2).val % 128, by omega⟩ : Fin 128), ?_, ?_⟩
    · funext a
      refine Fin.ext ?_
      match a with
      | ⟨0, _⟩ => show 0 + 1 * 0 = (y 0).val; omega
      | ⟨1, _⟩ => show 0 + 1 * (y 1).val = (y 1).val; omega
      | ⟨2, _⟩ => show 128 * lt.val + 1 * ((y 2).val % 128) = (y 2).val; omega
    · refine (shapeCast_ab_1ab_apply _ _ _ _ _).trans ?_
      unfold scS
      rw [e1]

theorem put_c (lt : Fin 2) (hd : Fin 16) {X Y : Vec F Tc .fp8e4m3}
    (h : Put (rC lt hd) (shapeCast C64 (codeTile v1 W S i lt hd) rfl) X Y)
    (hX : ∀ y : Tc.Idx, 16 * ((y 2).val / 128) + (y 1).val / 64 < 16 * lt.val + hd.val → X y = cS v1 W S i y) :
    ∀ y : Tc.Idx, 16 * ((y 2).val / 128) + (y 1).val / 64 < 16 * lt.val + hd.val + 1 → Y y = cS v1 W S i y := by
  refine h.step (fun y => 16 * ((y 2).val / 128) + (y 1).val / 64) _ _ (fun x => ?_) (fun y hy => ?_) hX
  · have h1 : (x 2).val < 128 := (x 2).isLt
    have h2 : (x 1).val < 64 := (x 1).isLt
    show 16 * ((128 * lt.val + 1 * (x 2).val) / 128) + (64 * hd.val + 1 * (x 1).val) / 64 = _
    omega
  · have hy : 16 * ((y 2).val / 128) + (y 1).val / 64 = 16 * lt.val + hd.val := hy
    have h0 : (y 0).val < 1 := (y 0).isLt
    have h1 : (y 1).val < 1024 := (y 1).isLt
    have h2 : (y 2).val < 256 := (y 2).isLt
    have e1 : (⟨(y 2).val / 128, by omega⟩ : Fin 2) = lt := Fin.ext (by show (y 2).val / 128 = lt.val; omega)
    have e2 : (⟨(y 1).val / 64, by omega⟩ : Fin 16) = hd := Fin.ext (by show (y 1).val / 64 = hd.val; omega)
    refine ⟨ix3 (0 : Fin 1) (⟨(y 1).val % 64, by omega⟩ : Fin 64) (⟨(y 2).val % 128, by omega⟩ : Fin 128), ?_, ?_⟩
    · funext a
      refine Fin.ext ?_
      match a with
      | ⟨0, _⟩ => show 0 + 1 * 0 = (y 0).val; omega
      | ⟨1, _⟩ => show 64 * hd.val + 1 * ((y 1).val % 64) = (y 1).val; omega
      | ⟨2, _⟩ => show 128 * lt.val + 1 * ((y 2).val % 128) = (y 2).val; omega
    · refine (shapeCast_ab_1ab_apply _ _ _ _ _).trans ?_
      unfold cS
      rw [e1, e2]

end Stores

end Cert.Proj

end
-- ==== Proof.Triple.lean ====
/-
  What the projection kernel's body does to its buffers: run on inputs held at given contents and on
  anything in the outputs and the scratch, it leaves the inputs as they were and the outputs at the
  functions of `Proof/Spec.lean`.
-/
module

public import proofs.«01_k».proof.Proof.Spec

@[expose] public section

noncomputable section

namespace Cert.Proj

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {F : FTy → Type} [FloatOps F] {Λ : Labels}

variable (defs : Defs nD τ sig (Elt F) Λ) (c : Dev nD)

/-- Held `pre`, the program runs and leaves `post`. -/
def Tri (pre : sProp (MT nD τ sig Unit (Elt F) ℕ (UR sig nD τ) ℕ)) (p : Prog (TpuEff nD τ sig (Elt F) Λ .tc) PUnit) (post : sProp (MT nD τ sig Unit (Elt F) ℕ (UR sig nD τ) ℕ)) : Prop :=
  ∀ E : Set ℕ, pre ⊢ wp frame (wpE defs Variants.none (c : Thread nD τ) none) E p fun _ => post

variable {defs c}

theorem Tri.bind {pre mid post : sProp (MT nD τ sig Unit (Elt F) ℕ (UR sig nD τ) ℕ)} {p q : Prog (TpuEff nD τ sig (Elt F) Λ .tc) PUnit} (hp : Tri defs c pre p mid)
    (hq : Tri defs c mid q post) : Tri defs c pre (p >>= fun _ => q) post := by
  intro E
  rw [wp_bind]
  exact (hp E).trans (wp_mono frame _ E fun _ => hq E)

theorem Tri.pre {pre pre' post : sProp (MT nD τ sig Unit (Elt F) ℕ (UR sig nD τ) ℕ)} {p : Prog (TpuEff nD τ sig (Elt F) Λ .tc) PUnit} (h : pre ⊢ pre') (hp : Tri defs c pre' p post) :
    Tri defs c pre p post := fun E => h.trans (hp E)

theorem Tri.post {pre post post' : sProp (MT nD τ sig Unit (Elt F) ℕ (UR sig nD τ) ℕ)} {p : Prog (TpuEff nD τ sig (Elt F) Λ .tc) PUnit} (hp : Tri defs c pre p post') (h : post' ⊢ post) :
    Tri defs c pre p post := fun E => (hp E).trans (wp_mono frame _ E fun _ => h)

/-- A loop, by what holds before each trip. -/
theorem Tri.seq (n : Nat) (I : Nat → sProp (MT nD τ sig Unit (Elt F) ℕ (UR sig nD τ) ℕ)) (f : Fin n → Prog (TpuEff nD τ sig (Elt F) Λ .tc) PUnit)
    (h : ∀ i : Fin n, Tri defs c (I i.val) (f i) (I (i.val + 1))) : Tri defs c (I 0) (seqFin n f) (I n) := by
  induction n generalizing I with
  | zero => intro E; exact le_wp_ret frame _ E PUnit.unit (fun _ => I 0)
  | succ n ih =>
    refine (h 0).bind ?_
    exact ih (fun k => I (k + 1)) (fun i => f i.succ) fun i => h i.succ

/-- A load. -/
theorem wp_ld {s : Shape} {e : EltTy} (m : Memref sig .tc .vmem s e) (r : LoadRect s) (hl : m.view.LoadsAt r) (X : s.Idx → Elt F e)
    (E : Set ℕ) (Q : (r.shape.Idx → Elt F e) → sProp (MT nD τ sig Unit (Elt F) ℕ (UR sig nD τ) ℕ)) :
    owns (c : Thread nD τ) m fullShare X
      ⊢ iprop((owns (c : Thread nD τ) m fullShare X -∗ Q (fun x => X (r.idx x)))
        -∗ wp frame (wpE defs Variants.none (c : Thread nD τ) none) E (Prog.lift (.load m r hl)) Q) := by
  unfold owns
  iintro ⟨%f, %hf, H⟩ Hk
  subst hf
  rw [show (fun x => m.view.read (Elt F) f (r.idx x)) = m.view.readAt (Elt F) r f from rfl]
  iapply (wp_load Variants.none (c : Thread nD τ) none E (View.setOn_subset_set _ _)) $$ H
  iintro H
  iapply (le_wp_ret frame _ E _ Q)
  iapply Hk
  iexists f
  isplitr
  · ipureintro; rfl
  iexact H

/-- A store. -/
theorem wp_st {s : Shape} {e : EltTy} (m : Memref sig .tc .vmem s e) (r : Rect s) (w : r.shape.Idx → Elt F e)
    (hx : (m.access r).Stores Finset.univ) (hm) (X : s.Idx → Elt F e)
    (E : Set ℕ) (Q : PUnit → sProp (MT nD τ sig Unit (Elt F) ℕ (UR sig nD τ) ℕ)) :
    owns (c : Thread nD τ) m fullShare X
      ⊢ iprop((∀ Y, ⌜Put r w X Y⌝ -∗ owns (c : Thread nD τ) m fullShare Y -∗ Q ⟨⟩)
        -∗ wp frame (wpE defs Variants.none (c : Thread nD τ) none) E (Prog.lift (.store m r w Finset.univ hx hm)) Q) := by
  unfold owns
  iintro ⟨%f, %hf, H⟩ Hk
  iapply (wp_store Variants.none (c : Thread nD τ) none E (m := m) (r := r) (S := m.view.set) (f := f) (View.set_slice_subset _ _)) $$ H
  iintro H
  subst hf
  iapply (le_wp_ret frame _ E PUnit.unit Q)
  ispecialize Hk $$ %(m.view.read (Elt F) ((m.access r).write (Elt F) f w Finset.univ))
  iapply Hk
  · ipureintro
    refine ⟨fun x => View.read_slice_write_emb r f w (Finset.mem_univ x), fun y hy => View.read_slice_write_of_not_mem r f w _ ?_⟩
    rw [Rect.map_emb_univ]; exact hy
  iexists _
  isplitr
  · ipureintro; rfl
  iexact H

/-- A program of known pre and post, run with the rest framed. -/
theorem wp_frame_wand {E : Set ℕ} {p : Prog (TpuEff nD τ sig (Elt F) Λ .tc) PUnit} {pre post : sProp (MT nD τ sig Unit (Elt F) ℕ (UR sig nD τ) ℕ)} {Q : PUnit → sProp (MT nD τ sig Unit (Elt F) ℕ (UR sig nD τ) ℕ)}
    (h : pre ⊢ wp frame (wpE defs Variants.none (c : Thread nD τ) none) E p fun _ => post) :
    iprop(pre ∗ (post -∗ Q ⟨⟩)) ⊢ wp frame (wpE defs Variants.none (c : Thread nD τ) none) E p Q := by
  refine (sep_mono_left h).trans ?_
  refine (wp_frame_r frame _ E).trans (wp_mono frame _ E fun _ => ?_)
  iintro ⟨H, Hk⟩
  iapply Hk
  iexact H

/-! ## The body, part by part -/

section Parts

variable (v1 : FVec F Bw .fp8e4m3) (v3 : FVec F Bhs .f32) (W : Vec F Tw .fp8e4m3) (S : Vec F Ts .f32) (i : Fin 3)
variable (arg4 : Memref sig .tc .vmem Tw .fp8e4m3) (arg5 : Memref sig .tc .vmem Ts .f32)
  (arg12 : Memref sig .tc .vmem Tp .f32) (arg13 : Memref sig .tc .vmem Ta .f32) (arg14 : Memref sig .tc .vmem Td .f32)
  (oc : Memref sig .tc .vmem Tc .fp8e4m3) (hoc : oc.IsWhole) (os : Memref sig .tc .vmem Tsc .f32)

/-- After `n` tiles: the tiles done hold their products and their maxima. -/
def blkI (c : Dev nD) (n : Nat) : sProp (MT nD τ sig Unit (Elt F) ℕ (UR sig nD τ) ℕ) :=
  iprop(owns (c : Thread nD τ) arg4 fullShare W ∗ owns (c : Thread nD τ) arg5 fullShare S
    ∗ (∃ X : Vec F Tp .f32, ⌜∀ y : Tp.Idx, 2 * ((y 1).val / 64) + (y 0).val < n → X y = pS v1 W S i y⌝
        ∗ owns (c : Thread nD τ) arg12 fullShare X)
    ∗ (∃ X : Vec F Ta .f32, ⌜∀ y : Ta.Idx, 2 * ((y 1).val / 8) + (y 0).val < n → X y = aS v1 W S i y⌝
        ∗ owns (c : Thread nD τ) arg13 fullShare X))

theorem tile_tri (lt : Fin 2) (hd : Fin 16) :
    Tri defs c (blkI v1 W S i arg4 arg5 arg12 arg13 c (2 * hd.val + lt.val))
      (tileBody arg12 arg13 (tile v1 W S i hd lt) lt hd)
      (blkI v1 W S i arg4 arg5 arg12 arg13 c (2 * hd.val + lt.val + 1)) := by
  intro E
  unfold blkI tileBody
  simp only [wp_bind]
  iintro ⟨H4, H5, ⟨%X, %hX, H12⟩, ⟨%Z, %hZ, H13⟩⟩
  iapply (wp_ld arg12 _ _ X E _) $$ H12
  iintro H12
  iapply (wp_st arg12 _ _ _ _ X E _) $$ H12
  iintro %Y %hY H12
  iapply (wp_ld arg13 _ _ Z E _) $$ H13
  iintro H13
  iapply (wp_st arg13 _ _ _ _ Z E _) $$ H13
  iintro %Z' %hZ' H13
  isplitl [H4]
  · iexact H4
  isplitl [H5]
  · iexact H5
  isplitl [H12]
  · iexists Y
    isplitr
    · ipureintro; exact put_p v1 W S i lt hd hY hX
    iexact H12
  · iexists Z'
    isplitr
    · ipureintro; exact put_a v1 W S i lt hd hZ' hZ
    iexact H13

theorem block_tri (m : Fin 4) :
    Tri defs c (blkI v1 W S i arg4 arg5 arg12 arg13 c (8 * m.val))
      (blockBody arg4 arg5 arg12 arg13 v1 i m)
      (blkI v1 W S i arg4 arg5 arg12 arg13 c (8 * (m.val + 1))) := by
  intro E
  unfold blockBody
  rw [wp_bind]
  have hj : ∀ j : Fin 4, Tri defs c (blkI v1 W S i arg4 arg5 arg12 arg13 c (8 * m.val + 2 * j.val))
      (Prog.lift (.load arg5 (rS i m j).toLoadRect (View.loadsAt_vmem n64s)) >>= fun sw =>
        seqFin 2 fun lt => tileBody arg12 arg13 (pOf (accOf v1 (fun x => W ((rW i m).idx x))) sw j lt) lt ⟨4 * m.val + j.val, by omega⟩)
      (blkI v1 W S i arg4 arg5 arg12 arg13 c (8 * m.val + 2 * (j.val + 1))) := by
    intro j E
    rw [wp_bind]
    have hl := Tri.seq (defs := defs) (c := c) 2 (fun k => blkI v1 W S i arg4 arg5 arg12 arg13 c (2 * (4 * m.val + j.val) + k))
      (fun lt => tileBody arg12 arg13 (tile v1 W S i ⟨4 * m.val + j.val, by omega⟩ lt) lt ⟨4 * m.val + j.val, by omega⟩)
      fun lt => tile_tri v1 W S i arg4 arg5 arg12 arg13 lt ⟨4 * m.val + j.val, by omega⟩
    simp only [tile_eq] at hl
    have e1 : 2 * (4 * m.val + j.val) + 0 = 8 * m.val + 2 * j.val := by omega
    have e2 : 2 * (4 * m.val + j.val) + 2 = 8 * m.val + 2 * (j.val + 1) := by omega
    simp only [e1, e2] at hl
    have hl := hl E
    unfold blkI
    unfold blkI at hl
    iintro ⟨H4, H5, H⟩
    iapply (wp_ld arg5 _ _ S E _) $$ H5
    iintro H5
    iapply hl
    isplitl [H4]
    · iexact H4
    isplitl [H5]
    · iexact H5
    iexact H
  have hl := Tri.seq (defs := defs) (c := c) 4 (fun k => blkI v1 W S i arg4 arg5 arg12 arg13 c (8 * m.val + 2 * k)) _ hj E
  have e2 : 8 * m.val + 2 * 4 = 8 * (m.val + 1) := by omega
  simp only [e2, Nat.mul_zero, Nat.add_zero] at hl
  unfold blkI
  unfold blkI at hl
  iintro ⟨H4, H⟩
  iapply (wp_ld arg4 _ _ W E _) $$ H4
  iintro H4
  iapply hl
  isplitl [H4]
  · iexact H4
  iexact H

/-- After `n` heads' codes and `k` groups' scales. -/
def grpI (c : Dev nD) (n k : Nat) (D : sProp (MT nD τ sig Unit (Elt F) ℕ (UR sig nD τ) ℕ)) : sProp (MT nD τ sig Unit (Elt F) ℕ (UR sig nD τ) ℕ) :=
  iprop(owns (c : Thread nD τ) arg12 fullShare (pS v1 W S i) ∗ owns (c : Thread nD τ) arg13 fullShare (aS v1 W S i)
    ∗ D
    ∗ (∃ X : Vec F Tc .fp8e4m3, ⌜∀ y : Tc.Idx, 16 * ((y 2).val / 128) + (y 1).val / 64 < n → X y = cS v1 W S i y⌝
        ∗ owns (c : Thread nD τ) oc fullShare X)
    ∗ (∃ X : Vec F Tsc .f32, ⌜∀ y : Tsc.Idx, (y 2).val / 128 < k → X y = scS v1 v3 W S i y⌝
        ∗ owns (c : Thread nD τ) os fullShare X))

theorem code_tri (lt : Fin 2) (hd : Fin 16) (k : Nat) (D : Vec F Td .f32)
    (hD : ∀ hd : Fin 16, (fun x : C1.Idx => D ((rDh lt hd).idx x)) = fun x => dS v1 W S i lt (ValueIdx.ix2 hd (x 2))) :
    Tri defs c (grpI v1 v3 W S i arg12 arg13 oc os c (16 * lt.val + hd.val) k (owns (c : Thread nD τ) arg14 fullShare D))
      (codeBody arg12 arg14 oc hoc lt hd)
      (grpI v1 v3 W S i arg12 arg13 oc os c (16 * lt.val + hd.val + 1) k (owns (c : Thread nD τ) arg14 fullShare D)) := by
  intro E
  unfold grpI codeBody
  simp only [wp_bind]
  iintro ⟨H12, H13, H14, ⟨%X, %hX, HC⟩, HS⟩
  iapply (wp_ld arg12 _ _ _ E _) $$ H12
  iintro H12
  iapply (wp_ld arg14 _ _ D E _) $$ H14
  iintro H14
  iapply (wp_ld oc _ _ X E _) $$ HC
  iintro HC
  iapply (wp_st oc _ _ _ _ X E _) $$ HC
  iintro %Y %hY HC
  isplitl [H12]
  · iexact H12
  isplitl [H13]
  · iexact H13
  isplitl [H14]
  · iexact H14
  isplitl [HC]
  · iexists Y
    isplitr
    · ipureintro
      refine put_c v1 W S i lt hd ?_ hX
      have h := hD hd
      unfold codeTile
      rw [← h]
      exact hY
    iexact HC
  · iexact HS

theorem group_tri (lt : Fin 2) :
    Tri defs c (grpI v1 v3 W S i arg12 arg13 oc os c (16 * lt.val) lt.val (iprop(∃ D, owns (c : Thread nD τ) arg14 fullShare D)))
      (groupBody arg12 arg13 arg14 oc hoc os v3 lt)
      (grpI v1 v3 W S i arg12 arg13 oc os c (16 * (lt.val + 1)) (lt.val + 1) (iprop(∃ D, owns (c : Thread nD τ) arg14 fullShare D))) := by
  intro E
  unfold groupBody
  simp only [wp_bind]
  have hl := fun D hD => Tri.seq (defs := defs) (c := c) 16
    (fun n => grpI v1 v3 W S i arg12 arg13 oc os c (16 * lt.val + n) (lt.val + 1) (owns (c : Thread nD τ) arg14 fullShare D))
    (fun hd => codeBody arg12 arg14 oc hoc lt hd)
    (fun hd => code_tri v1 v3 W S i arg12 arg13 arg14 oc hoc os lt hd (lt.val + 1) D hD) E
  have e2 : 16 * lt.val + 16 = 16 * (lt.val + 1) := by omega
  simp only [e2, Nat.add_zero] at hl
  have hp : ∀ D : Vec F Td .f32, grpI v1 v3 W S i arg12 arg13 oc os c (16 * (lt.val + 1)) (lt.val + 1) (owns (c : Thread nD τ) arg14 fullShare D)
      ⊢ grpI v1 v3 W S i arg12 arg13 oc os c (16 * (lt.val + 1)) (lt.val + 1) (iprop(∃ D, owns (c : Thread nD τ) arg14 fullShare D)) := by
    intro D
    unfold grpI
    iintro ⟨H12, H13, H14, H⟩
    isplitl [H12]
    · iexact H12
    isplitl [H13]
    · iexact H13
    isplitl [H14]
    · iexists D; iexact H14
    iexact H
  have hl := fun D hD => (hl D hD).trans (wp_mono frame _ E fun _ => hp D)
  unfold grpI at hl ⊢
  iintro ⟨H12, H13, ⟨%D, H14⟩, HC, ⟨%X, %hX, HS⟩⟩
  iapply (wp_ld arg13 _ _ _ E _) $$ H13
  iintro H13
  iapply (wp_ld arg13 _ _ _ E _) $$ H13
  iintro H13
  iapply (wp_ld arg13 _ _ _ E _) $$ H13
  iintro H13
  iapply (wp_ld arg13 _ _ _ E _) $$ H13
  iintro H13
  iapply (wp_ld arg13 _ _ _ E _) $$ H13
  iintro H13
  iapply (wp_ld arg13 _ _ _ E _) $$ H13
  iintro H13
  iapply (wp_ld arg13 _ _ _ E _) $$ H13
  iintro H13
  iapply (wp_ld arg13 _ _ _ E _) $$ H13
  iintro H13
  iapply (wp_ld arg14 _ _ _ E _) $$ H14
  iintro H14
  iapply (wp_st arg14 _ _ _ _ D E _) $$ H14
  iintro %D' %hD H14
  iapply (wp_ld os _ _ _ E _) $$ HS
  iintro HS
  iapply (wp_st os _ _ _ _ X E _) $$ HS
  iintro %X' %hX' HS
  iapply (hl D' (fun hd => put_d v1 W S i lt hD hd))
  isplitl [H12]
  · iexact H12
  isplitl [H13]
  · iexact H13
  isplitl [H14]
  · iexact H14
  isplitl [HC]
  · iexact HC
  · iexists X'
    isplitr
    · ipureintro; exact put_sc v1 v3 W S i lt hX' hX
    iexact HS

/-- One projection: the inputs as they were, the outputs at the codes and the scales. -/
theorem one_tri :
    Tri defs c
      (iprop(owns (c : Thread nD τ) arg4 fullShare W ∗ owns (c : Thread nD τ) arg5 fullShare S
        ∗ (∃ X, owns (c : Thread nD τ) arg12 fullShare X) ∗ (∃ X, owns (c : Thread nD τ) arg13 fullShare X)
        ∗ (∃ X, owns (c : Thread nD τ) arg14 fullShare X)
        ∗ (∃ X, owns (c : Thread nD τ) oc fullShare X) ∗ (∃ X, owns (c : Thread nD τ) os fullShare X)))
      (projOne arg4 arg5 arg12 arg13 arg14 v1 v3 i oc hoc os)
      (iprop(owns (c : Thread nD τ) arg4 fullShare W ∗ owns (c : Thread nD τ) arg5 fullShare S
        ∗ (∃ X, owns (c : Thread nD τ) arg12 fullShare X) ∗ (∃ X, owns (c : Thread nD τ) arg13 fullShare X)
        ∗ (∃ X, owns (c : Thread nD τ) arg14 fullShare X)
        ∗ owns (c : Thread nD τ) oc fullShare (cS v1 W S i) ∗ owns (c : Thread nD τ) os fullShare (scS v1 v3 W S i))) := by
  intro E
  unfold projOne
  rw [wp_bind]
  have h1 := Tri.seq (defs := defs) (c := c) 4 (fun k => blkI v1 W S i arg4 arg5 arg12 arg13 c (8 * k)) _
    (fun m => block_tri v1 W S i arg4 arg5 arg12 arg13 m) E
  have h2 := Tri.seq (defs := defs) (c := c) 2
    (fun k => grpI v1 v3 W S i arg12 arg13 oc os c (16 * k) k (iprop(∃ D, owns (c : Thread nD τ) arg14 fullShare D))) _
    (fun lt => group_tri v1 v3 W S i arg12 arg13 arg14 oc hoc os lt) E
  unfold blkI at h1
  unfold grpI at h2
  iintro ⟨H4, H5, ⟨%X, H12⟩, ⟨%Z, H13⟩, H14, ⟨%C, HC⟩, ⟨%D, HS⟩⟩
  iapply (wp_frame_wand h1)
  isplitl [H4 H5 H12 H13]
  · isplitl [H4]
    · iexact H4
    isplitl [H5]
    · iexact H5
    isplitl [H12]
    · iexists X
      isplitr
      · ipureintro; intro y hy; omega
      iexact H12
    · iexists Z
      isplitr
      · ipureintro; intro y hy; omega
      iexact H13
  iintro ⟨H4, H5, ⟨%X', %hX, H12⟩, ⟨%Z', %hZ, H13⟩⟩
  obtain rfl : X' = pS v1 W S i := by
    funext y
    have h0 : (y 0).val < 2 := (y 0).isLt
    have h1 : (y 1).val < 1024 := (y 1).isLt
    exact hX y (by omega)
  obtain rfl : Z' = aS v1 W S i := by
    funext y
    have h0 : (y 0).val < 2 := (y 0).isLt
    have h1 : (y 1).val < 128 := (y 1).isLt
    exact hZ y (by omega)
  iapply (wp_frame_wand h2)
  isplitl [H12 H13 H14 HC HS]
  · isplitl [H12]
    · iexact H12
    isplitl [H13]
    · iexact H13
    isplitl [H14]
    · iexact H14
    isplitl [HC]
    · iexists C
      isplitr
      · ipureintro; intro y hy; omega
      iexact HC
    · iexists D
      isplitr
      · ipureintro; intro y hy; omega
      iexact HS
  iintro ⟨H12, H13, H14, ⟨%C', %hC, HC⟩, ⟨%D', %hD, HS⟩⟩
  obtain rfl : C' = cS v1 W S i := by
    funext y
    have h0 : (y 1).val < 1024 := (y 1).isLt
    have h1 : (y 2).val < 256 := (y 2).isLt
    exact hC y (by omega)
  obtain rfl : D' = scS v1 v3 W S i := by
    funext y
    have h1 : (y 2).val < 256 := (y 2).isLt
    exact hD y (by omega)
  isplitl [H4]
  · iexact H4
  isplitl [H5]
  · iexact H5
  isplitl [H12]
  · iexists _; iexact H12
  isplitl [H13]
  · iexists _; iexact H13
  isplitl [H14]
  · iexact H14
  isplitl [HC]
  · iexact HC
  iexact HS

end Parts

section Whole

/-- The codes of projection `i` left, by what the four inputs hold. -/
def outC (i : Fin 3) (H : Vec F Th .fp8e4m3) (W : Vec F Tw .fp8e4m3) (S : Vec F Ts .f32) : Vec F Tc .fp8e4m3 :=
  cS (shapeCast Bw (fun x => H (rH.idx x)) rfl) W S i

/-- The scales of projection `i` left. -/
def outS (i : Fin 3) (H : Vec F Th .fp8e4m3) (Hs : Vec F Ths .f32) (W : Vec F Tw .fp8e4m3) (S : Vec F Ts .f32) : Vec F Tsc .f32 :=
  scS (shapeCast Bw (fun x => H (rH.idx x)) rfl) (shapeCast Bhs (fun x => Hs (rHs.idx x)) (by decide)) W S i

/-- The whole body. -/
theorem body_tri (arg2 : Memref sig .tc .vmem Th .fp8e4m3) (arg3 : Memref sig .tc .vmem Ths .f32)
    (arg4 : Memref sig .tc .vmem Tw .fp8e4m3) (arg5 : Memref sig .tc .vmem Ts .f32)
    (arg6 : Memref sig .tc .vmem Tc .fp8e4m3) (harg6 : arg6.IsWhole) (arg7 : Memref sig .tc .vmem Tsc .f32)
    (arg8 : Memref sig .tc .vmem Tc .fp8e4m3) (harg8 : arg8.IsWhole) (arg9 : Memref sig .tc .vmem Tsc .f32)
    (arg10 : Memref sig .tc .vmem Tc .fp8e4m3) (harg10 : arg10.IsWhole) (arg11 : Memref sig .tc .vmem Tsc .f32)
    (arg12 : Memref sig .tc .vmem Tp .f32) (arg13 : Memref sig .tc .vmem Ta .f32) (arg14 : Memref sig .tc .vmem Td .f32)
    (H : Vec F Th .fp8e4m3) (Hs : Vec F Ths .f32) (W : Vec F Tw .fp8e4m3) (S : Vec F Ts .f32) :
    Tri defs c
      (iprop(owns (c : Thread nD τ) arg2 fullShare H ∗ owns (c : Thread nD τ) arg3 fullShare Hs
        ∗ owns (c : Thread nD τ) arg4 fullShare W ∗ owns (c : Thread nD τ) arg5 fullShare S
        ∗ (∃ X, owns (c : Thread nD τ) arg6 fullShare X) ∗ (∃ X, owns (c : Thread nD τ) arg7 fullShare X)
        ∗ (∃ X, owns (c : Thread nD τ) arg8 fullShare X) ∗ (∃ X, owns (c : Thread nD τ) arg9 fullShare X)
        ∗ (∃ X, owns (c : Thread nD τ) arg10 fullShare X) ∗ (∃ X, owns (c : Thread nD τ) arg11 fullShare X)
        ∗ (∃ X, owns (c : Thread nD τ) arg12 fullShare X) ∗ (∃ X, owns (c : Thread nD τ) arg13 fullShare X)
        ∗ (∃ X, owns (c : Thread nD τ) arg14 fullShare X)))
      (projBody arg2 arg3 arg4 arg5 arg6 harg6 arg7 arg8 harg8 arg9 arg10 harg10 arg11 arg12 arg13 arg14)
      (iprop(owns (c : Thread nD τ) arg2 fullShare H ∗ owns (c : Thread nD τ) arg3 fullShare Hs
        ∗ owns (c : Thread nD τ) arg4 fullShare W ∗ owns (c : Thread nD τ) arg5 fullShare S
        ∗ owns (c : Thread nD τ) arg6 fullShare (outC 0 H W S) ∗ owns (c : Thread nD τ) arg7 fullShare (outS 0 H Hs W S)
        ∗ owns (c : Thread nD τ) arg8 fullShare (outC 1 H W S) ∗ owns (c : Thread nD τ) arg9 fullShare (outS 1 H Hs W S)
        ∗ owns (c : Thread nD τ) arg10 fullShare (outC 2 H W S) ∗ owns (c : Thread nD τ) arg11 fullShare (outS 2 H Hs W S)
        ∗ (∃ X, owns (c : Thread nD τ) arg12 fullShare X) ∗ (∃ X, owns (c : Thread nD τ) arg13 fullShare X)
        ∗ (∃ X, owns (c : Thread nD τ) arg14 fullShare X))) := by
  intro E
  unfold projBody outC outS
  simp only [wp_bind]
  iintro ⟨H2, H3, H4, H5, H6, H7, H8, H9, H10, H11, H12, H13, H14⟩
  iapply (wp_ld arg2 _ _ H E _) $$ H2
  iintro H2
  iapply (wp_ld arg3 _ _ Hs E _) $$ H3
  iintro H3
  iapply (wp_frame_wand (one_tri _ _ W S 0 arg4 arg5 arg12 arg13 arg14 arg6 harg6 arg7 E))
  isplitl [H4 H5 H12 H13 H14 H6 H7]
  · isplitl [H4]
    · iexact H4
    isplitl [H5]
    · iexact H5
    isplitl [H12]
    · iexact H12
    isplitl [H13]
    · iexact H13
    isplitl [H14]
    · iexact H14
    isplitl [H6]
    · iexact H6
    iexact H7
  iintro ⟨H4, H5, H12, H13, H14, H6, H7⟩
  iapply (wp_frame_wand (one_tri _ _ W S 1 arg4 arg5 arg12 arg13 arg14 arg8 harg8 arg9 E))
  isplitl [H4 H5 H12 H13 H14 H8 H9]
  · isplitl [H4]
    · iexact H4
    isplitl [H5]
    · iexact H5
    isplitl [H12]
    · iexact H12
    isplitl [H13]
    · iexact H13
    isplitl [H14]
    · iexact H14
    isplitl [H8]
    · iexact H8
    iexact H9
  iintro ⟨H4, H5, H12, H13, H14, H8, H9⟩
  iapply (wp_frame_wand (one_tri _ _ W S 2 arg4 arg5 arg12 arg13 arg14 arg10 harg10 arg11 E))
  isplitl [H4 H5 H12 H13 H14 H10 H11]
  · isplitl [H4]
    · iexact H4
    isplitl [H5]
    · iexact H5
    isplitl [H12]
    · iexact H12
    isplitl [H13]
    · iexact H13
    isplitl [H14]
    · iexact H14
    isplitl [H10]
    · iexact H10
    iexact H11
  iintro ⟨H4, H5, H12, H13, H14, H10, H11⟩
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

end Whole

end Cert.Proj

end
-- ==== Proof.KernelFrame.lean ====
/-
  The frame of the kernel as printed, at any values: nothing is said of what its six results hold (the
  algebraic claim says it of the idealized kernel). The blocks of `h` and of its scales overhang their
  arrays at the last point of each row of the grid, so what the body finds past the arrays' end is not
  known, and the obligation says of those two windows only what lies inside.
-/
module

public import proofs.«01_k».proof.Proof.Gen.Kernel.Frame
public import proofs.«01_k».proof.Proof.Same
public import proofs.«01_k».proof.Proof.Triple
public import Idealize.ShloMosaic.Lib.Claim

@[expose] public section

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

variable (m : (ℓ : Loc nD τ sig) → Buf (Elt F) ℓ) (ρ : Dev nD → PrngReg)

abbrev scM0_0 : Memref sig .tc .vmem S2x1024x128 .f32 := Memref.whole cc0_scratch0
abbrev scM0_1 : Memref sig .tc .vmem S2x128x128 .f32 := Memref.whole cc0_scratch1
abbrev scM0_2 : Memref sig .tc .vmem S2x16x128 .f32 := Memref.whole cc0_scratch2

/-- The invariant: the three scratch buffers at some contents, and the generator's register. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The outputs, of which nothing is said. -/
def forgets0 : Fin 10 → Bool := ![false, false, false, false, true, true, true, true, true, true]

/-- The block of `h` at point `t`, filled out with zeros past the array's end; -/
def hblk (c : Dev nD) (t : Fin cfg0.N) : Vec F S1x256x1024 .fp8e4m3 :=
  win0_0.fill (grid0.coords t) (fun _ => Scalar.ofBits .fp8e4m3 0#8) (iblk m c 0 t)
/-- that of its scales. -/
def hsblk (c : Dev nD) (t : Fin cfg0.N) : Vec F S1x1x256 .f32 :=
  win0_1.fill (grid0.coords t) (fun _ => Scalar.ofBits .f32 0#32) (iblk m c 1 t)

/-- The proof data: the inputs' buffers at their blocks after the body, the outputs' not named. -/
def dats (_ : Fin 1) (c : Dev nD) : Dat τ (Elt F) Unit ℕ (UR sig nD τ) ℕ cfg0 c where
  A w := V m c (Pipeline.arrRef spec0 w)
  after w t := match w with
    | ⟨0, _⟩ => hblk m c t
    | ⟨1, _⟩ => hsblk m c t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = hblk m c t := by dsimp only [dats]
theorem after0_1 (c : Dev nD) (t : Fin cfg0.N) : (dats m 0 c).after 1 t = hsblk m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- What the body finds: the clipped blocks with anything past the arrays' end; -/
theorem before0_0 (c : Dev nD) (t : Fin cfg0.N) (d) : (dats m 0 c).before 0 t d = win0_0.fill (grid0.coords t) d (iblk m c 0 t) := by
  unfold Dat.before; rw [if_pos (fetch0_0 t)]; unfold Dat.fetched Dat.blockOf iblk; rw [A_eq]
theorem before0_1 (c : Dev nD) (t : Fin cfg0.N) (d) : (dats m 0 c).before 1 t d = win0_1.fill (grid0.coords t) d (iblk m c 1 t) := by
  unfold Dat.before; rw [if_pos (fetch0_1 t)]; unfold Dat.fetched Dat.blockOf iblk; rw [A_eq]
/-- the weights and their scales. -/
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

set_option maxHeartbeats 1200000 in
/-- The body at any point. -/
theorem body_obligation (c : Dev nD) : BodyObligationLoose (dats (F := F) m 0 c) (defs₀ (F := F)) Variants.none () Set.univ forgets0 := fun t => by
  rw [bigSep_W0, bigSep_W0, defs₀_row]
  simp only [show forgets0 0 = false from rfl, show forgets0 1 = false from rfl, show forgets0 2 = false from rfl, show forgets0 3 = false from rfl, show forgets0 4 = true from rfl, show forgets0 5 = true from rfl, show forgets0 6 = true from rfl, show forgets0 7 = true from rfl, show forgets0 8 = true from rfl, show forgets0 9 = true from rfl]
  unfold bodyAt0
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, H4, H5, H6, H7, H8, H9⟩
  rw [before0_0, before0_1, before0_2, before0_3, cc0_project_eq]
  iapply (Proj.wp_frame_wand (Proj.body_tri (c := c) (defs := defs₀ (F := F)) _ _ _ _ _ _ _ _ _ _ _ _ _ _ _ _
    (win0_0.fill (grid0.coords t) d0 (iblk m c 0 t)) (win0_1.fill (grid0.coords t) d1 (iblk m c 1 t)) (iblk m c 2 t) (iblk m c 3 t) Set.univ))
  isplitl [H0 H1 H2 H3 H4 H5 H6 H7 H8 H9 HS0 HS1 HS2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    iexact HS2
  iintro ⟨H0, H1, H2, H3, H4, H5, H6, H7, H8, H9, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  have hx : win0_0.cut (grid0.coords t) (hblk m c t) = iblk m c 0 t := win0_0.cut_fill _ _ _
  have hy : win0_1.cut (grid0.coords t) (hsblk m c t) = iblk m c 1 t := win0_1.cut_fill _ _ _
  isplitl [H0]
  · iexists d0
    change _ ⊢ owns (c : Thread nD τ) (stage0_0 (cfg0.slots t 0)) fullShare (win0_0.fill (grid0.coords t) d0 (win0_0.cut (grid0.coords t) (hblk m c t)))
    rw [hx]
  isplitl [H1]
  · iexists d1
    change _ ⊢ owns (c : Thread nD τ) (stage0_1 (cfg0.slots t 1)) fullShare (win0_1.fill (grid0.coords t) d1 (win0_1.cut (grid0.coords t) (hsblk m c t)))
    rw [hy]
  isplitl [H2]
  · change _ ⊢ owns (c : Thread nD τ) (stage0_2 (cfg0.slots t 2)) fullShare ((dats m 0 c).after 2 t)
    rw [after0_2]
  isplitl [H3]
  · change _ ⊢ owns (c : Thread nD τ) (stage0_3 (cfg0.slots t 3)) fullShare ((dats m 0 c).after 3 t)
    rw [after0_3]
  isplitl [H4]; · iexists _; iexact H4
  isplitl [H5]; · iexists _; iexact H5
  isplitl [H6]; · iexists _; iexact H6
  isplitl [H7]; · iexists _; iexact H7
  isplitl [H8]; · iexists _; iexact H8
  iexists _; iexact H9

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => body_obligation m c) (hshare := fun c => (dats m 0 c).share_full fun _ => rfl)
    (howed := fun _ _ => rfl) (V := V m) (hmain := hmain m Variants.none) (hA := A_eq m) (hΦ := fun _ _ => rfl)

theorem framePost (r : PUnit × MemSt nD τ sig (Elt F))
    (h : Pipeline.RDat.FramePost (cfgs 0) (fun c => (dats m 0 c).toRForget forgets0) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(Eq.mp (congrFun (Pipeline.RDat.ArrAt_in ((dats m 0 c).toRForget forgets0) 0 rfl _) _) ((h c).1 0)).trans (V_main_arg0 m c),
    (Eq.mp (congrFun (Pipeline.RDat.ArrAt_in ((dats m 0 c).toRForget forgets0) 1 rfl _) _) ((h c).1 1)).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

/-- The frame: every run ends, the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => framePost m r h.1 c, h.2⟩) (run_main_quiescent m ρ)

end Cert.Kernel.Gen

end
-- ==== Proof.SameIdeal.lean ====
/-
  The printed body of the projection kernel is the structured body of `Proof/Body.lean`: the same loads
  and stores in the same order, one by one.
-/
module

public import proofs.«01_k».proof.Proof.Gen.KernelIdeal
public import proofs.«01_k».proof.Proof.Body
public section
noncomputable section
namespace Cert.KernelIdeal
open Idealize.ShloMosaic Idealize.SL.Sem
variable {F : FTy → Type} [FloatOps F]
set_option maxRecDepth 100000
set_option maxHeartbeats 4000000
/-- The printed body is the structured one. -/
theorem cc0_project_eq (i : grid0.Coords) (arg2 : Memref sig .tc .vmem S1x256x1024 .fp8e4m3) (harg2 : arg2.IsWhole) (arg3 : Memref sig .tc .vmem S1x1x256 .f32) (harg3 : arg3.IsWhole) (arg4 : Memref sig .tc .vmem S3072x1024 .fp8e4m3) (harg4 : arg4.IsWhole) (arg5 : Memref sig .tc .vmem S3072x128 .f32) (harg5 : arg5.IsWhole) (arg6 : Memref sig .tc .vmem S1x1024x256 .fp8e4m3) (harg6 : arg6.IsWhole) (arg7 : Memref sig .tc .vmem S1x16x256 .f32) (harg7 : arg7.IsWhole) (arg8 : Memref sig .tc .vmem S1x1024x256 .fp8e4m3) (harg8 : arg8.IsWhole) (arg9 : Memref sig .tc .vmem S1x16x256 .f32) (harg9 : arg9.IsWhole) (arg10 : Memref sig .tc .vmem S1x1024x256 .fp8e4m3) (harg10 : arg10.IsWhole) (arg11 : Memref sig .tc .vmem S1x16x256 .f32) (harg11 : arg11.IsWhole) (arg12 : Memref sig .tc .vmem S2x1024x128 .f32) (harg12 : arg12.IsWhole) (arg13 : Memref sig .tc .vmem S2x128x128 .f32) (harg13 : arg13.IsWhole) (arg14 : Memref sig .tc .vmem S2x16x128 .f32) (harg14 : arg14.IsWhole) :
    cc0_project (F := F) i arg2 harg2 arg3 harg3 arg4 harg4 arg5 harg5 arg6 harg6 arg7 harg7 arg8 harg8 arg9 harg9 arg10 harg10 arg11 harg11 arg12 harg12 arg13 harg13 arg14 harg14
      = Cert.Proj.projBody arg2 arg3 arg4 arg5 arg6 harg6 arg7 arg8 harg8 arg9 arg10 harg10 arg11 arg12 arg13 arg14 := by
  iterate 902 (refine Cert.Proj.op_congr rfl fun _ => ?_)
  rfl
end Cert.KernelIdeal
end
-- ==== Proof.KernelIdealFrame.lean ====
/-
  The frame of the idealized kernel, at any values: nothing is said of what its six results hold (the
  algebraic claim says it of the idealized kernel). The blocks of `h` and of its scales overhang their
  arrays at the last point of each row of the grid, so what the body finds past the arrays' end is not
  known, and the obligation says of those two windows only what lies inside.
-/
module

public import proofs.«01_k».proof.Proof.Gen.KernelIdeal.Frame
public import proofs.«01_k».proof.Proof.SameIdeal
public import proofs.«01_k».proof.Proof.Triple
public import Idealize.ShloMosaic.Lib.Claim

@[expose] public section

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

variable (m : (ℓ : Loc nD τ sig) → Buf (Elt F) ℓ) (ρ : Dev nD → PrngReg)

abbrev scM0_0 : Memref sig .tc .vmem S2x1024x128 .f32 := Memref.whole cc0_scratch0
abbrev scM0_1 : Memref sig .tc .vmem S2x128x128 .f32 := Memref.whole cc0_scratch1
abbrev scM0_2 : Memref sig .tc .vmem S2x16x128 .f32 := Memref.whole cc0_scratch2

/-- The invariant: the three scratch buffers at some contents, and the generator's register. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The outputs, of which nothing is said. -/
def forgets0 : Fin 10 → Bool := ![false, false, false, false, true, true, true, true, true, true]

/-- The block of `h` at point `t`, filled out with zeros past the array's end; -/
def hblk (c : Dev nD) (t : Fin cfg0.N) : Vec F S1x256x1024 .fp8e4m3 :=
  win0_0.fill (grid0.coords t) (fun _ => Scalar.ofBits .fp8e4m3 0#8) (iblk m c 0 t)
/-- that of its scales. -/
def hsblk (c : Dev nD) (t : Fin cfg0.N) : Vec F S1x1x256 .f32 :=
  win0_1.fill (grid0.coords t) (fun _ => Scalar.ofBits .f32 0#32) (iblk m c 1 t)

/-- The proof data: the inputs' buffers at their blocks after the body, the outputs' not named. -/
def dats (_ : Fin 1) (c : Dev nD) : Dat τ (Elt F) Unit ℕ (UR sig nD τ) ℕ cfg0 c where
  A w := V m c (Pipeline.arrRef spec0 w)
  after w t := match w with
    | ⟨0, _⟩ => hblk m c t
    | ⟨1, _⟩ => hsblk m c t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = hblk m c t := by dsimp only [dats]
theorem after0_1 (c : Dev nD) (t : Fin cfg0.N) : (dats m 0 c).after 1 t = hsblk m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- What the body finds: the clipped blocks with anything past the arrays' end; -/
theorem before0_0 (c : Dev nD) (t : Fin cfg0.N) (d) : (dats m 0 c).before 0 t d = win0_0.fill (grid0.coords t) d (iblk m c 0 t) := by
  unfold Dat.before; rw [if_pos (fetch0_0 t)]; unfold Dat.fetched Dat.blockOf iblk; rw [A_eq]
theorem before0_1 (c : Dev nD) (t : Fin cfg0.N) (d) : (dats m 0 c).before 1 t d = win0_1.fill (grid0.coords t) d (iblk m c 1 t) := by
  unfold Dat.before; rw [if_pos (fetch0_1 t)]; unfold Dat.fetched Dat.blockOf iblk; rw [A_eq]
/-- the weights and their scales. -/
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

set_option maxHeartbeats 1200000 in
/-- The body at any point. -/
theorem body_obligation (c : Dev nD) : BodyObligationLoose (dats (F := F) m 0 c) (defs₀ (F := F)) Variants.none () Set.univ forgets0 := fun t => by
  rw [bigSep_W0, bigSep_W0, defs₀_row]
  simp only [show forgets0 0 = false from rfl, show forgets0 1 = false from rfl, show forgets0 2 = false from rfl, show forgets0 3 = false from rfl, show forgets0 4 = true from rfl, show forgets0 5 = true from rfl, show forgets0 6 = true from rfl, show forgets0 7 = true from rfl, show forgets0 8 = true from rfl, show forgets0 9 = true from rfl]
  unfold bodyAt0
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, H4, H5, H6, H7, H8, H9⟩
  rw [before0_0, before0_1, before0_2, before0_3, cc0_project_eq]
  iapply (Proj.wp_frame_wand (Proj.body_tri (c := c) (defs := defs₀ (F := F)) _ _ _ _ _ _ _ _ _ _ _ _ _ _ _ _
    (win0_0.fill (grid0.coords t) d0 (iblk m c 0 t)) (win0_1.fill (grid0.coords t) d1 (iblk m c 1 t)) (iblk m c 2 t) (iblk m c 3 t) Set.univ))
  isplitl [H0 H1 H2 H3 H4 H5 H6 H7 H8 H9 HS0 HS1 HS2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    iexact HS2
  iintro ⟨H0, H1, H2, H3, H4, H5, H6, H7, H8, H9, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  have hx : win0_0.cut (grid0.coords t) (hblk m c t) = iblk m c 0 t := win0_0.cut_fill _ _ _
  have hy : win0_1.cut (grid0.coords t) (hsblk m c t) = iblk m c 1 t := win0_1.cut_fill _ _ _
  isplitl [H0]
  · iexists d0
    change _ ⊢ owns (c : Thread nD τ) (stage0_0 (cfg0.slots t 0)) fullShare (win0_0.fill (grid0.coords t) d0 (win0_0.cut (grid0.coords t) (hblk m c t)))
    rw [hx]
  isplitl [H1]
  · iexists d1
    change _ ⊢ owns (c : Thread nD τ) (stage0_1 (cfg0.slots t 1)) fullShare (win0_1.fill (grid0.coords t) d1 (win0_1.cut (grid0.coords t) (hsblk m c t)))
    rw [hy]
  isplitl [H2]
  · change _ ⊢ owns (c : Thread nD τ) (stage0_2 (cfg0.slots t 2)) fullShare ((dats m 0 c).after 2 t)
    rw [after0_2]
  isplitl [H3]
  · change _ ⊢ owns (c : Thread nD τ) (stage0_3 (cfg0.slots t 3)) fullShare ((dats m 0 c).after 3 t)
    rw [after0_3]
  isplitl [H4]; · iexists _; iexact H4
  isplitl [H5]; · iexists _; iexact H5
  isplitl [H6]; · iexists _; iexact H6
  isplitl [H7]; · iexists _; iexact H7
  isplitl [H8]; · iexists _; iexact H8
  iexists _; iexact H9

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => body_obligation m c) (hshare := fun c => (dats m 0 c).share_full fun _ => rfl)
    (howed := fun _ _ => rfl) (V := V m) (hmain := hmain m Variants.none) (hA := A_eq m) (hΦ := fun _ _ => rfl)

theorem framePost (r : PUnit × MemSt nD τ sig (Elt F))
    (h : Pipeline.RDat.FramePost (cfgs 0) (fun c => (dats m 0 c).toRForget forgets0) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(Eq.mp (congrFun (Pipeline.RDat.ArrAt_in ((dats m 0 c).toRForget forgets0) 0 rfl _) _) ((h c).1 0)).trans (V_main_arg0 m c),
    (Eq.mp (congrFun (Pipeline.RDat.ArrAt_in ((dats m 0 c).toRForget forgets0) 1 rfl _) _) ((h c).1 1)).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

/-- The frame: every run ends, the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => framePost m r h.1 c, h.2⟩) (run_main_quiescent m ρ)

end Cert.KernelIdeal.Gen

end
-- ==== Proof.Math.lean ====
/-
  The quantiser over the extended reals: a row scaled by a power of two has the codes of the row, and the
  scale of the row times that power. The kernel leaves out the nodes' own scales, which are powers of
  two, until the stored scales; the reference multiplies by them at once.
-/
module

public import Idealize.ShloMosaic.PureOps.Ideal.Laws
public import Idealize.ShloMosaic.Lib.IdealHost

@[expose] public section

noncomputable section

namespace Cert.Proj

open Idealize.ShloMosaic

/-- The exponent of the scale of a row of largest absolute value `a`. -/
def expE (a : EReal) : EReal :=
  if a = 0 then 0 else
    Ideal.liftRound Int.floor (Ideal.div (Ideal.log (a * Ideal.ofBits .f32 0x3B124925#32))
      (Ideal.log (Ideal.ofBits .f32 0x40000000#32))) + 1

/-- The code of `p` in such a row. -/
def codeE (a p : EReal) : EReal :=
  min (Ideal.ofBits .f32 0x43E00000#32) (max (Ideal.ofBits .f32 0xC3E00000#32) (p * Ideal.exp2 (0 - expE a)))

/-- The row's scale. -/
def scaleE (a : EReal) : EReal := Ideal.exp2 (expE a)

/-- The scale the kernel stores. -/
def scaleK (a h : EReal) : EReal := if a = 0 then 1 else Ideal.exp2 (expE a) * h

/-- The largest absolute value of 64 products. -/
def top64 (f : Fin 64 → EReal) : EReal := Finset.univ.sup fun r => max (f r) (-(f r))

/-- A power of two. -/
def IsPow2 (h : EReal) : Prop := ∃ k : ℤ, h = (((2 : ℝ) ^ k : ℝ) : EReal)

theorem two_bits : Ideal.ofBits .f32 0x40000000#32 = ((2 : ℝ) : EReal) := by
  simp [Ideal.ofBits, Ideal.ieee, -EReal.coe_mul]; norm_num

theorem inv_bits : ∃ c : ℝ, 0 < c ∧ Ideal.ofBits .f32 0x3B124925#32 = (c : EReal) := by
  refine ⟨_, ?_, rfl⟩
  simp

theorem log_two_bits : Ideal.log (Ideal.ofBits .f32 0x40000000#32) = (Real.log 2 : EReal) := by
  rw [two_bits, Ideal.log_coe, if_neg (by norm_num)]

theorem log2_pos : (0 : ℝ) < Real.log 2 := Real.log_pos (by norm_num)

theorem div_log2 (x : EReal) : Ideal.div x (Real.log 2 : EReal) = x * ((Real.log 2)⁻¹ : ℝ) := by
  unfold Ideal.div
  rw [if_neg (by exact_mod_cast log2_pos.ne'), EReal.coe_inv]

theorem isPow2_of (h : EReal) (h0 : 0 < h) (ht : h < ⊤)
    (he : Ideal.liftRound Int.floor (Ideal.div (Ideal.log h) (Ideal.log (Ideal.ofBits .f32 0x40000000#32)))
      = Ideal.div (Ideal.log h) (Ideal.log (Ideal.ofBits .f32 0x40000000#32))) : IsPow2 h := by
  rw [log_two_bits, div_log2] at he
  induction h using EReal.rec with
  | bot => simp at h0
  | top => simp at ht
  | coe r =>
    have hr : 0 < r := EReal.coe_pos.mp h0
    rw [Ideal.log_coe, if_neg (not_le.mpr hr), ← EReal.coe_mul] at he
    have he' : ((⌊Real.log r * (Real.log 2)⁻¹⌋ : ℝ)) = Real.log r * (Real.log 2)⁻¹ := EReal.coe_injective he
    refine ⟨⌊Real.log r * (Real.log 2)⁻¹⌋, congrArg _ ?_⟩
    rw [← Real.rpow_intCast, he', ← div_eq_mul_inv]
    rw [Real.rpow_def_of_pos (by norm_num), mul_div_cancel₀ _ log2_pos.ne', Real.exp_log hr]

theorem expE_zero : expE 0 = 0 := if_pos rfl

theorem expE_top : expE ⊤ = ⊤ := by
  obtain ⟨c, hc, e⟩ := inv_bits
  unfold expE
  rw [if_neg (by simp), log_two_bits, div_log2, e, EReal.top_mul_coe_of_pos hc, Ideal.log_top,
    EReal.top_mul_coe_of_pos (inv_pos.mpr log2_pos)]
  rfl

theorem expE_coe (r : ℝ) (hr : 0 < r) : ∃ n : ℤ, expE (r : EReal) = ((n : ℝ) : EReal) ∧
    ∀ k : ℤ, expE (((2 : ℝ) ^ k * r : ℝ) : EReal) = ((((n + k : ℤ)) : ℝ) : EReal) := by
  obtain ⟨c, hc, e⟩ := inv_bits
  have key : ∀ s : ℝ, 0 < s → expE (s : EReal) = ((((⌊Real.log (s * c) * (Real.log 2)⁻¹⌋ + 1 : ℤ)) : ℝ) : EReal) := by
    intro s hs
    unfold expE
    rw [if_neg (by exact_mod_cast hs.ne'), log_two_bits, div_log2, e, ← EReal.coe_mul, Ideal.log_coe,
      if_neg (not_le.mpr (mul_pos hs hc)), ← EReal.coe_mul]
    show (((⌊Real.log (s * c) * (Real.log 2)⁻¹⌋ : ℝ)) : EReal) + 1 = _
    push_cast
    rfl
  refine ⟨_, key r hr, fun k => ?_⟩
  have h2 : (0 : ℝ) < 2 ^ k := by positivity
  rw [key _ (mul_pos h2 hr), mul_assoc, Real.log_mul h2.ne' (mul_pos hr hc).ne', Real.log_zpow, add_mul, mul_assoc,
    mul_inv_cancel₀ log2_pos.ne', mul_one, Int.floor_intCast_add]
  exact congrArg (fun z : ℤ => ((z : ℝ) : EReal)) (by ring)

theorem exp2_coe_int (n : ℤ) : Ideal.exp2 ((n : ℝ) : EReal) = (((2 : ℝ) ^ n : ℝ) : EReal) := by
  rw [Ideal.exp2_coe]
  exact congrArg _ (Real.rpow_intCast 2 n)

theorem scale_pow2 {a h : EReal} (ha : 0 ≤ a) (hh : IsPow2 h) : scaleE (h * a) = scaleK a h := by
  obtain ⟨k, rfl⟩ := hh
  have h2 : (0 : ℝ) < 2 ^ k := by positivity
  unfold scaleE scaleK
  induction a using EReal.rec with
  | bot => simp at ha
  | top =>
    rw [EReal.coe_mul_top_of_pos h2, if_neg (by simp), expE_top, Ideal.exp2_top, EReal.top_mul_coe_of_pos h2]
  | coe r =>
    rcases (EReal.coe_nonneg.mp ha).eq_or_lt with rfl | hr
    · rw [EReal.coe_zero, mul_zero, if_pos rfl, expE_zero]
      simpa using exp2_coe_int 0
    · obtain ⟨n, e, ek⟩ := expE_coe r hr
      rw [if_neg (by exact_mod_cast hr.ne'), ← EReal.coe_mul, ek k, e, exp2_coe_int, exp2_coe_int, ← EReal.coe_mul,
        zpow_add₀ (by norm_num)]

theorem code_pow2 {a h p : EReal} (ha : 0 ≤ a) (hp : max p (-p) ≤ a) (hh : IsPow2 h) : codeE (h * a) (h * p) = codeE a p := by
  obtain ⟨k, rfl⟩ := hh
  have h2 : (0 : ℝ) < 2 ^ k := by positivity
  unfold codeE
  congr 2
  induction a using EReal.rec with
  | bot => simp at ha
  | top =>
    rw [EReal.coe_mul_top_of_pos h2, expE_top, show (0 : EReal) - ⊤ = ⊥ from rfl, Ideal.exp2_bot, mul_zero, mul_zero]
  | coe r =>
    rcases (EReal.coe_nonneg.mp ha).eq_or_lt with rfl | hr
    · have hp0 : p = 0 := le_antisymm (by simpa using (le_max_left _ _).trans hp)
        (by have := (le_max_right _ _).trans hp; rw [EReal.coe_zero] at this; exact EReal.neg_le_zero.mp this)
      rw [hp0, mul_zero, zero_mul, zero_mul]
    · obtain ⟨n, e, ek⟩ := expE_coe r hr
      rw [← EReal.coe_mul, ek k, e, zero_sub, zero_sub, ← EReal.coe_neg, ← EReal.coe_neg, ← Int.cast_neg, ← Int.cast_neg,
        exp2_coe_int, exp2_coe_int, mul_comm _ p, mul_assoc, ← EReal.coe_mul, neg_add, zpow_add₀ (by norm_num),
        mul_comm ((2 : ℝ) ^ (-n)), ← mul_assoc, ← zpow_add₀ (by norm_num), add_neg_cancel, zpow_zero, one_mul]

theorem top64_nonneg (f : Fin 64 → EReal) : 0 ≤ top64 f := by
  refine le_trans ?_ (Finset.le_sup (f := fun r => max (f r) (-(f r))) (Finset.mem_univ (0 : Fin 64)))
  rcases le_total 0 (f 0) with h | h
  · exact le_max_of_le_left h
  · exact le_max_of_le_right (EReal.neg_nonneg.mpr h)

theorem le_top64 (f : Fin 64 → EReal) (r : Fin 64) : max (f r) (-(f r)) ≤ top64 f :=
  Finset.le_sup (f := fun r => max (f r) (-(f r))) (Finset.mem_univ r)

theorem top64_mul {h : EReal} (hh : IsPow2 h) (f : Fin 64 → EReal) : top64 (fun r => h * f r) = h * top64 f := by
  obtain ⟨k, rfl⟩ := hh
  have h2 : (0 : ℝ) < 2 ^ k := by positivity
  have h0 : (0 : EReal) ≤ ((2 : ℝ) ^ k : ℝ) := EReal.coe_nonneg.mpr h2.le
  have hm : Monotone fun x : EReal => (((2 : ℝ) ^ k : ℝ) : EReal) * x := fun x y hxy => mul_le_mul_of_nonneg_left hxy h0
  unfold top64
  rw [Finset.comp_sup_eq_sup_comp_of_is_total (fun x : EReal => (((2 : ℝ) ^ k : ℝ) : EReal) * x) hm
    (EReal.coe_mul_bot_of_pos h2)]
  refine Finset.sup_congr rfl fun r _ => ?_
  show _ = (((2 : ℝ) ^ k : ℝ) : EReal) * max (f r) (-(f r))
  rw [hm.map_max]
  show _ = max _ (_ * -f r)
  rw [mul_neg]

end Cert.Proj
-- ==== Proof.IdealSpec.lean ====
/-
  What the kernel's body leaves in its output blocks over the extended reals, index by index: the code of
  a product in its head's row of 64 (`outC_ideal`), and the row's scale (`outS_ideal`).
-/
module

public import proofs.«01_k».proof.Proof.Math
public import proofs.«01_k».proof.Proof.Triple
public import Idealize.ShloMosaic.Lib.Pipeline.Value

@[expose] public section

noncomputable section

namespace Cert.Proj

open Idealize.ShloMosaic Idealize.SL.Sem Idealize.ShloMosaic.ValueIdx

theorem dims_contr_rank : dims.contr.rank = 1 := rfl
theorem dims_contr_size : dims.contr.size ⟨0, by rw [dims_contr_rank]; omega⟩ = 1024 := rfl

theorem accOf_apply (v1 : FVec Ideal Bw .fp8e4m3) (w : Vec Ideal Bw .fp8e4m3) (a n : Fin 256) :
    accOf v1 w (ix2 a n) = ∑ k : Fin 1024, (w (ix2 a k) * v1 (ix2 n k) : EReal) := by
  unfold accOf
  refine (Ideal.matmul_constant_zero_apply dims none _ _ _).trans ?_
  rw [← Equiv.sum_comp (contrEquiv1 dims 1024 dims_contr_rank dims_contr_size).symm]
  refine Finset.sum_congr rfl fun k _ => ?_
  have hk := contrEquiv1_symm_val dims 1024 dims_contr_rank dims_contr_size k
  rw [shapeCast_self]
  congr 2
  · funext c; refine Fin.ext ?_
    match c with
    | ⟨0, _⟩ => rfl
    | ⟨1, _⟩ => exact hk
  · funext c; refine Fin.ext ?_
    match c with
    | ⟨0, _⟩ => rfl
    | ⟨1, _⟩ => exact hk

section

variable (v1 : FVec Ideal Bw .fp8e4m3) (v3 : FVec Ideal Bhs .f32) (W : Vec Ideal Tw .fp8e4m3) (S : Vec Ideal Ts .f32) (i : Fin 3)

/-- The product of output channel `o` and node `n`, times the channel's weight scale. -/
def kpv (o : Fin 1024) (n : Fin 256) : EReal :=
  (∑ k : Fin 1024, W (ix2 (⟨1024 * i.val + o.val, by omega⟩ : Fin 3072) k) * v1 (ix2 n k))
    * S (ix2 (⟨1024 * i.val + o.val, by omega⟩ : Fin 3072) (⟨n.val % 128, by omega⟩ : Fin 128))

/-- The 64 products of head `hd`. -/
def krow (hd : Fin 16) (n : Fin 256) (r : Fin 64) : EReal :=
  kpv v1 W S i ⟨64 * hd.val + r.val, by omega⟩ n

theorem tile_apply (hd : Fin 16) (lt : Fin 2) (r : Fin 64) (l : Fin 128) :
    tile v1 W S i hd lt (ix2 r l) = krow v1 W S i hd ⟨128 * lt.val + l.val, by omega⟩ r := by
  unfold tile tile' pOf krow kpv
  refine congrArg₂ (fun x y : EReal => x * y) ?_ ?_
  · refine (extractStridedSlice_apply _ _ _ _
      (ix2 (⟨64 * (hd.val % 4) + r.val, by omega⟩ : Fin 256) (⟨128 * lt.val + l.val, by omega⟩ : Fin 256))
      (fun a => by match a with
        | ⟨0, _⟩ => rfl
        | ⟨1, _⟩ => rfl)).trans ((accOf_apply _ _ _ _).trans ?_)
    refine Finset.sum_congr rfl fun k _ => ?_
    refine congrArg (fun j => (W j * _ : EReal)) ?_
    funext c; refine Fin.ext ?_
    match c with
    | ⟨0, _⟩ => show 1024 * i.val + 256 * (hd.val / 4) + 1 * (64 * (hd.val % 4) + r.val) = 1024 * i.val + (64 * hd.val + r.val); omega
    | ⟨1, _⟩ => show 0 + 1 * k.val = k.val; omega
  · refine (congrFun (shapeCast_self _ _) _).trans (congrArg S ?_)
    funext c; refine Fin.ext ?_
    match c with
    | ⟨0, _⟩ => show 1024 * i.val + 256 * (hd.val / 4) + 64 * (hd.val % 4) + 1 * r.val = 1024 * i.val + (64 * hd.val + r.val); omega
    | ⟨1, _⟩ => show 0 + 1 * l.val = (128 * lt.val + l.val) % 128; omega

theorem pS_apply (lt : Fin 2) (hd : Fin 16) (r : Fin 64) (l : Fin 128) (y : Tp.Idx) (h0 : (y 0).val = lt.val)
    (h1 : (y 1).val = 64 * hd.val + r.val) (h2 : (y 2).val = l.val) :
    pS v1 W S i y = krow v1 W S i hd ⟨128 * lt.val + l.val, by omega⟩ r := by
  rw [← tile_apply]
  unfold pS
  have e0 : y 0 = lt := Fin.ext h0
  have e2 : y 2 = l := Fin.ext h2
  have e1 : (⟨(y 1).val / 64, by omega⟩ : Fin 16) = hd := Fin.ext (by show (y 1).val / 64 = _; omega)
  have e3 : (⟨(y 1).val % 64, by omega⟩ : Fin 64) = r := Fin.ext (by show (y 1).val % 64 = _; omega)
  rw [e1, e3, e0, e2]

/-- The largest of eight, taken one after the other. -/
theorem max8 (f : Fin 8 → EReal) :
    max (max (max (max (max (max (max (f 0) (f 1)) (f 2)) (f 3)) (f 4)) (f 5)) (f 6)) (f 7) = Finset.univ.sup f := by
  refine le_antisymm ?_ (Finset.sup_le fun u _ => ?_)
  · have h : ∀ u, f u ≤ Finset.univ.sup f := fun u => Finset.le_sup (Finset.mem_univ u)
    simp only [max_le_iff, h, and_self]
  · fin_cases u <;> simp [le_max_iff]

theorem sup88 (f : Fin 64 → EReal) :
    (Finset.univ.sup fun s : Fin 8 => Finset.univ.sup fun u : Fin 8 => f ⟨8 * u.val + s.val, by omega⟩) = Finset.univ.sup f := by
  refine le_antisymm (Finset.sup_le fun s _ => Finset.sup_le fun u _ => Finset.le_sup (f := f) (Finset.mem_univ _)) (Finset.sup_le fun r _ => ?_)
  have h1 := Finset.le_sup (f := fun u : Fin 8 => f ⟨8 * u.val + r.val % 8, by omega⟩) (Finset.mem_univ (⟨r.val / 8, by omega⟩ : Fin 8))
  have h2 := Finset.le_sup (f := fun s : Fin 8 => Finset.univ.sup fun u : Fin 8 => f ⟨8 * u.val + s.val, by omega⟩)
    (Finset.mem_univ (⟨r.val % 8, by omega⟩ : Fin 8))
  refine le_trans (le_of_eq (congrArg f (Fin.ext ?_))) (h1.trans h2)
  show r.val = 8 * (r.val / 8) + r.val % 8
  omega

theorem absRows_apply (p : FVec Ideal B64 .f32) (u s : Fin 8) (l : Fin 128) :
    absRows p u (ix2 s l) = (max (p (ix2 ⟨8 * u.val + s.val, by omega⟩ l)) (-(p (ix2 ⟨8 * u.val + s.val, by omega⟩ l))) : EReal) := by
  unfold absRows
  exact congrArg (fun x : EReal => max x (-x)) (extractStridedSlice_apply _ _ _ _ (ix2 (⟨8 * u.val + s.val, by omega⟩ : Fin 64) l) (fun a => by
    match a with
    | ⟨0, _⟩ => rfl
    | ⟨1, _⟩ => exact (Nat.zero_add _).symm))

theorem partOf_apply (p : FVec Ideal B64 .f32) (s : Fin 8) (l : Fin 128) :
    partOf p (ix2 s l) = Finset.univ.sup fun u : Fin 8 => (max (p (ix2 ⟨8 * u.val + s.val, by omega⟩ l)) (-(p (ix2 ⟨8 * u.val + s.val, by omega⟩ l))) : EReal) := by
  rw [← max8]
  simp only [← absRows_apply]
  rfl

theorem aS_row (lt : Fin 2) (hd : Fin 16) (l : Fin 128) (u : Fin 8) (y : Ta.Idx) (h0 : (y 0).val = lt.val)
    (h1 : (y 1).val = u.val + 8 * hd.val) (h2 : (y 2).val = l.val) (n : Fin 256) (hn : n.val = 128 * lt.val + l.val) :
    aS v1 W S i y = Finset.univ.sup fun u' : Fin 8 =>
      (fun r : Fin 64 => max (krow v1 W S i hd n r) (-(krow v1 W S i hd n r))) ⟨8 * u'.val + u.val, by omega⟩ := by
  have e0 : y 0 = lt := Fin.ext h0
  have e2 : y 2 = l := Fin.ext h2
  have e1 : (⟨(y 1).val / 8, by omega⟩ : Fin 16) = hd := Fin.ext (by show (y 1).val / 8 = hd.val; omega)
  have e3 : (⟨(y 1).val % 8, by omega⟩ : Fin 8) = u := Fin.ext (by show (y 1).val % 8 = u.val; omega)
  have en : n = ⟨128 * lt.val + l.val, by omega⟩ := Fin.ext hn
  unfold aS
  rw [e0, e1, e2, e3, partOf_apply]
  refine Finset.sup_congr rfl fun u' _ => ?_
  rw [tile_apply, en]

theorem amax_apply (lt : Fin 2) (hd : Fin 16) (l : Fin 128) :
    amax v1 W S i lt (ix2 hd l) = top64 (krow v1 W S i hd ⟨128 * lt.val + l.val, by omega⟩) := by
  have h : ∀ u : Fin 8, shapeCast B16 ((fun x => aS v1 W S i ((rAs lt u).idx x)) : Vec Ideal C16 .f32) (rfl : C16.numel = B16.numel) (ix2 hd l) = _ := fun u =>
    (shapeCast_1ab_ab_apply _ _ _ _).trans
      (aS_row v1 W S i lt hd l u ((rAs lt u).idx (ix3 (0 : Fin 1) hd l)) rfl
        (by show u.val + 8 * hd.val = _; rfl) (by show 0 + 1 * l.val = l.val; omega) ⟨128 * lt.val + l.val, by omega⟩ rfl)
  unfold top64
  refine Eq.trans ?_ ((max8 _).trans (sup88 _))
  rw [← h 0, ← h 1, ← h 2, ← h 3, ← h 4, ← h 5, ← h 6, ← h 7]
  rfl

theorem select_eq_ite {α : Type} (a : EReal) (x y : α) : Scalar.select (Ideal.cmp .oeq a 0) x y = if a = 0 then x else y := by
  unfold Ideal.cmp Scalar.select
  by_cases h : a = 0 <;> simp [h]

theorem expOf_apply (a : FVec Ideal B16 .f32) (y : B16.Idx) : expOf a y = expE (a y) := by
  unfold expE
  rw [← Ideal.ofBits_one_f32, ← select_eq_ite]
  unfold expOf
  rw [← Ideal.ofBits_zero_f32]
  rfl

theorem downOf_apply (a : FVec Ideal B16 .f32) (y : B16.Idx) : downOf a y = Ideal.exp2 (0 - expE (a y)) := by
  rw [← expOf_apply, ← Ideal.ofBits_zero_f32]
  rfl

theorem cS_apply (o : Fin 1024) (n : Fin 256) (y : Tc.Idx) (h1 : (y 1).val = o.val) (h2 : (y 2).val = n.val) :
    cS v1 W S i y = codeE (top64 (krow v1 W S i ⟨o.val / 64, by omega⟩ n)) (kpv v1 W S i o n) := by
  unfold cS codeTile codeOf codeE
  have hb : ∀ (lt : Fin 2) (hd : Fin 16) (l : Fin 128), dS v1 W S i lt (ix2 hd l)
      = Ideal.exp2 (0 - expE (top64 (krow v1 W S i hd ⟨128 * lt.val + l.val, by omega⟩))) := by
    intro lt hd l
    unfold dS
    rw [downOf_apply, amax_apply]
  have hn : (⟨128 * (⟨(y 2).val / 128, by omega⟩ : Fin 2).val + (⟨(y 2).val % 128, by omega⟩ : Fin 128).val, by dsimp only; omega⟩ : Fin 256) = n :=
    Fin.ext (by dsimp only; omega)
  have hh : (⟨(y 1).val / 64, by omega⟩ : Fin 16) = ⟨o.val / 64, by omega⟩ := Fin.ext (by dsimp only; omega)
  refine congrArg₂ (fun x y : EReal => min (Ideal.ofBits .f32 0x43E00000#32) (max (Ideal.ofBits .f32 0xC3E00000#32) (x * y))) ?_ ?_
  · refine (shapeCast_1ab_ab_apply _ _ _ _).trans ?_
    refine (pS_apply v1 W S i ⟨(y 2).val / 128, by omega⟩ ⟨(y 1).val / 64, by omega⟩ ⟨(y 1).val % 64, by omega⟩ ⟨(y 2).val % 128, by omega⟩ _ ?_ ?_ ?_).trans ?_
    · show (y 2).val / 128 + 1 * 0 = (y 2).val / 128; omega
    · show 64 * ((y 1).val / 64) + 1 * ((y 1).val % 64) = 64 * ((y 1).val / 64) + (y 1).val % 64; omega
    · show 0 + 1 * ((y 2).val % 128) = (y 2).val % 128; omega
    · rw [hn]
      unfold krow
      exact congrArg (fun o => kpv v1 W S i o n) (Fin.ext (by dsimp only; omega))
  · refine (broadcastTo_1b_ab_apply _ _ _ _).trans ((shapeCast_1ab_ab_apply _ _ _ _).trans ((hb _ _ _).trans ?_))
    rw [hn, hh]

theorem scS_apply (hd : Fin 16) (n : Fin 256) (y : Tsc.Idx) (h1 : (y 1).val = hd.val) (h2 : (y 2).val = n.val) :
    scS v1 v3 W S i y = scaleK (top64 (krow v1 W S i hd n)) (v3 (ix2 (0 : Fin 1) n)) := by
  have e1 : y 1 = hd := Fin.ext h1
  have hn : (⟨128 * (⟨(y 2).val / 128, by omega⟩ : Fin 2).val + (⟨(y 2).val % 128, by omega⟩ : Fin 128).val, by dsimp only; omega⟩ : Fin 256) = n :=
    Fin.ext (by dsimp only; omega)
  unfold scS
  rw [e1]
  have ha : amax v1 W S i ⟨(y 2).val / 128, by omega⟩ (ix2 hd ⟨(y 2).val % 128, by omega⟩) = top64 (krow v1 W S i hd n) := by
    rw [amax_apply]
    exact congrArg (fun n => top64 (krow v1 W S i hd n)) hn
  have he : expOf (amax v1 W S i ⟨(y 2).val / 128, by omega⟩) (ix2 hd ⟨(y 2).val % 128, by omega⟩) = expE (top64 (krow v1 W S i hd n)) := by
    rw [expOf_apply, ha]
  unfold scaleOf scaleK
  rw [← select_eq_ite, ← Ideal.ofBits_one_f32]
  have hv : broadcastTo B16 (extractStridedSlice B1 ![0, 128 * ((y 2).val / 128)] v3
      (⟨rfl, by intro a; fin_cases a <;> simp <;> omega⟩)) (by decide) (ix2 hd ⟨(y 2).val % 128, by omega⟩) = v3 (ix2 (0 : Fin 1) n) :=
    (broadcastTo_1b_ab_apply _ _ _ _).trans (extractStridedSlice_apply _ _ _ _ (ix2 (0 : Fin 1) n) (fun a => by
      match a with
      | ⟨0, _⟩ => rfl
      | ⟨1, _⟩ => show n.val = 128 * ((y 2).val / 128) + (y 2).val % 128; omega))
  rw [← hv, ← he]
  have h0 : Ideal.cmp .oeq (top64 (krow v1 W S i hd n)) 0 = Ideal.cmp .oeq (amax v1 W S i ⟨(y 2).val / 128, by omega⟩ (ix2 hd ⟨(y 2).val % 128, by omega⟩)) (Ideal.ofBits .f32 0#32) := by
    rw [ha, Ideal.ofBits_zero_f32]
  rw [h0]
  rfl

end

/-- A head's row of products as the input blocks give it. -/
def kp (H : Vec Ideal Th .fp8e4m3) (W : Vec Ideal Tw .fp8e4m3) (S : Vec Ideal Ts .f32) (i : Fin 3) (o : Fin 1024) (n : Fin 256) : EReal :=
  (∑ k : Fin 1024, W (ix2 (⟨1024 * i.val + o.val, by omega⟩ : Fin 3072) k) * H (ix3 (0 : Fin 1) n k))
    * S (ix2 (⟨1024 * i.val + o.val, by omega⟩ : Fin 3072) (⟨n.val % 128, by omega⟩ : Fin 128))

theorem kpv_eq (H : Vec Ideal Th .fp8e4m3) (W : Vec Ideal Tw .fp8e4m3) (S : Vec Ideal Ts .f32) (i : Fin 3) (o : Fin 1024) (n : Fin 256) :
    kpv (shapeCast Bw (fun x => H (rH.idx x)) rfl) W S i o n = kp H W S i o n := by
  unfold kpv kp
  congr 1
  refine Finset.sum_congr rfl fun k _ => ?_
  refine congrArg (fun z : EReal => _ * z) ((shapeCast_1ab_ab_apply _ _ _ _).trans (congrArg H ?_))
  funext a; refine Fin.ext ?_
  match a with
  | ⟨0, _⟩ => rfl
  | ⟨1, _⟩ => show 0 + 1 * n.val = n.val; omega
  | ⟨2, _⟩ => show 0 + 1 * k.val = k.val; omega

/-- The code left at channel `y 1` and node `y 2` of the block. -/
theorem outC_ideal (i : Fin 3) (H : Vec Ideal Th .fp8e4m3) (W : Vec Ideal Tw .fp8e4m3) (S : Vec Ideal Ts .f32)
    (o : Fin 1024) (n : Fin 256) (y : Tc.Idx) (h1 : (y 1).val = o.val) (h2 : (y 2).val = n.val) :
    outC i H W S y = codeE (top64 fun r => kp H W S i ⟨64 * (o.val / 64) + r.val, by omega⟩ n) (kp H W S i o n) := by
  unfold outC
  rw [cS_apply _ W S i o n y h1 h2, kpv_eq]
  exact congrArg (fun f => codeE (top64 f) (kp H W S i o n)) (funext fun r => kpv_eq H W S i _ n)

/-- The scale left at head `y 1` and node `y 2` of the block. -/
theorem outS_ideal (i : Fin 3) (H : Vec Ideal Th .fp8e4m3) (Hs : Vec Ideal Ths .f32) (W : Vec Ideal Tw .fp8e4m3) (S : Vec Ideal Ts .f32)
    (hd : Fin 16) (n : Fin 256) (y : Tsc.Idx) (h1 : (y 1).val = hd.val) (h2 : (y 2).val = n.val) :
    outS i H Hs W S y = scaleK (top64 fun r => kp H W S i ⟨64 * hd.val + r.val, by omega⟩ n) (Hs (ix3 (0 : Fin 1) (0 : Fin 1) n)) := by
  unfold outS
  rw [scS_apply _ _ W S i hd n y h1 h2]
  refine congrArg₂ (fun f z => scaleK (top64 f) z) (funext fun r => kpv_eq H W S i _ n)
    ((shapeCast_1ab_ab_apply _ _ _ _).trans (congrArg Hs ?_))
  funext a; refine Fin.ext ?_
  match a with
  | ⟨0, _⟩ => rfl
  | ⟨1, _⟩ => rfl
  | ⟨2, _⟩ => show 0 + 1 * n.val = n.val; omega

end Cert.Proj
-- ==== Proof.Results.lean ====
/-
  What the six results hold, as functions of the arrays the projections read: the codes of one
  projection (`codesG`) and its scales (`scalesG`).
-/
module

public import proofs.«01_k».proof.Proof.IdealSpec

@[expose] public section

noncomputable section

namespace Cert.Proj

open Idealize.ShloMosaic Idealize.SL.Sem Idealize.ShloMosaic.ValueIdx

abbrev Ah : Shape := ⟨3, ![2, 10880, 1024]⟩
abbrev Ahs : Shape := ⟨3, ![2, 1, 10880]⟩
abbrev Ac : Shape := ⟨3, ![2, 1024, 10880]⟩
abbrev Asc : Shape := ⟨3, ![2, 16, 10880]⟩

variable (h : Vec Ideal Ah .fp8e4m3) (hs : Vec Ideal Ahs .f32) (W : Vec Ideal Tw .fp8e4m3) (S : Vec Ideal Ts .f32) (i : Fin 3)

/-- The product of channel `o` of projection `i` and node `n` of graph `b`, times the channel's weight scale. -/
def prodG (b : Fin 2) (n : Fin 10880) (o : Fin 1024) : EReal :=
  (∑ k : Fin 1024, W (ix2 (⟨1024 * i.val + o.val, by omega⟩ : Fin 3072) k) * h (ix3 b n k))
    * S (ix2 (⟨1024 * i.val + o.val, by omega⟩ : Fin 3072) (⟨n.val % 128, by omega⟩ : Fin 128))

/-- The code of channel `o` of node `n`. -/
def codeG (b : Fin 2) (n : Fin 10880) (o : Fin 1024) : EReal :=
  codeE (top64 fun r => prodG h W S i b n ⟨64 * (o.val / 64) + r.val, by omega⟩) (prodG h W S i b n o)

/-- The scale of head `hd` of node `n`. -/
def scaleG (b : Fin 2) (n : Fin 10880) (hd : Fin 16) : EReal :=
  scaleK (top64 fun r => prodG h W S i b n ⟨64 * hd.val + r.val, by omega⟩) (hs (ix3 b (0 : Fin 1) n))

/-- The codes of projection `i`. -/
def codesG : Vec Ideal Ac .fp8e4m3 := fun y => codeG h W S i (y 0) (y 2) (y 1)
/-- The scales of projection `i`. -/
def scalesG : Vec Ideal Asc .f32 := fun y => scaleG h hs W S i (y 0) (y 2) (y 1)

/-- A block's products are the array's, at a node the block holds. -/
theorem kp_eq_prodG (H : Vec Ideal Th .fp8e4m3) (b : Fin 2) (q : ℕ) (n : Fin 256) (N : Fin 10880) (hN : N.val = 256 * q + n.val)
    (hH : ∀ k : Fin 1024, H (ix3 (0 : Fin 1) n k) = h (ix3 b N k)) (o : Fin 1024) :
    kp H W S i o n = prodG h W S i b N o := by
  unfold kp prodG
  refine congrArg₂ (fun x y : EReal => x * y) (Finset.sum_congr rfl fun k _ => congrArg (fun z : EReal => _ * z) (hH k)) (congrArg S ?_)
  refine congrArg (ix2 _) (Fin.ext ?_)
  show n.val % 128 = N.val % 128
  omega

theorem outC_eq_codeG (H : Vec Ideal Th .fp8e4m3) (b : Fin 2) (q : ℕ) (n : Fin 256) (N : Fin 10880) (hN : N.val = 256 * q + n.val)
    (hH : ∀ k : Fin 1024, H (ix3 (0 : Fin 1) n k) = h (ix3 b N k)) (o : Fin 1024) (y : Tc.Idx) (h1 : (y 1).val = o.val) (h2 : (y 2).val = n.val) :
    outC i H W S y = codeG h W S i b N o := by
  rw [outC_ideal i H W S o n y h1 h2]
  unfold codeG
  rw [kp_eq_prodG h W S i H b q n N hN hH o]
  exact congrArg (fun f => codeE (top64 f) (prodG h W S i b N o)) (funext fun r => kp_eq_prodG h W S i H b q n N hN hH _)

theorem outS_eq_scaleG (H : Vec Ideal Th .fp8e4m3) (Hs : Vec Ideal Ths .f32) (b : Fin 2) (q : ℕ) (n : Fin 256) (N : Fin 10880) (hN : N.val = 256 * q + n.val)
    (hH : ∀ k : Fin 1024, H (ix3 (0 : Fin 1) n k) = h (ix3 b N k)) (hHs : Hs (ix3 (0 : Fin 1) (0 : Fin 1) n) = hs (ix3 b (0 : Fin 1) N))
    (hd : Fin 16) (y : Tsc.Idx) (h1 : (y 1).val = hd.val) (h2 : (y 2).val = n.val) :
    outS i H Hs W S y = scaleG h hs W S i b N hd := by
  rw [outS_ideal i H Hs W S hd n y h1 h2, hHs]
  unfold scaleG
  exact congrArg (fun f => scaleK (top64 f) (hs (ix3 b (0 : Fin 1) N))) (funext fun r => kp_eq_prodG h W S i H b q n N hN hH _)

end Cert.Proj

end
-- ==== Proof.KernelIdealBlocks.lean ====
/-
  The blocks of the idealized kernel over the extended reals: what the body leaves in the part of an
  output's buffer that is written back is that part of the result, whatever the input buffers hold past
  the ends of their arrays.
-/
module

public import proofs.«01_k».proof.Proof.KernelIdealFrame
public import proofs.«01_k».proof.Proof.Results
public import Idealize.ShloMosaic.Lib.Pipeline.Covers

@[expose] public section

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- A block's index inside the array is one the transfer moves. -/
theorem moved_of {sig : RefSig} {G : Pipeline.Grid} (w : Window sig G) (hk : w.kind = .blocked) (i : G.Coords) (j : w.block.Idx)
    (h : ∀ a, w.indexMap i a * w.size a + (j a).val < w.shape.size a) : w.moved i j = true := by
  rw [w.moved_iff]
  intro a
  have hc := w.hclip i a
  have ha := h a
  have hj : (j a).val < w.size a := (j a).isLt
  rw [hk] at hc
  show (j a).val < (w.clip i a).extent (w.size a)
  cases e : w.clip i a with
  | none => exact hj
  | some n =>
    rw [e] at hc
    have h3 : w.indexMap i a * w.size a + n = w.shape.size a := hc.2.2
    show (j a).val < n
    omega

theorem map0 (t : Fin cfg0.N) : cc0_transform_0 (grid0.coords t) = ![(grid0.coords t 0).val, (grid0.coords t 1).val, 0] := by
  funext a
  have h0 : (grid0.coords t 0).val < 2 := (grid0.coords t 0).isLt
  have h1 : (grid0.coords t 1).val < 43 := (grid0.coords t 1).isLt
  unfold cc0_transform_0
  match a with
  | ⟨0, _⟩ => simp [BitVec.toNat_ofNat]; omega
  | ⟨1, _⟩ => simp [BitVec.toNat_ofNat]; omega
  | ⟨2, _⟩ => simp

theorem hfill (c : Dev nD) (t : Fin cfg0.N) (d) (b : Fin 2) (n : Fin 256) (N : Fin 10880)
    (hb : b.val = (grid0.coords t 0).val) (hN : N.val = 256 * (grid0.coords t 1).val + n.val) (k : Fin 1024) :
    win0_0.fill (grid0.coords t) d (iblk m c 0 t) (ix3 (0 : Fin 1) n k) = V m c main_arg0 (ix3 b N k) := by
  have hmv : win0_0.moved (grid0.coords t) (ix3 (0 : Fin 1) n k) = true := by
    refine moved_of win0_0 rfl _ _ fun a => ?_
    show cc0_transform_0 (grid0.coords t) a * _ + _ < _
    rw [map0]
    match a with
    | ⟨0, _⟩ => show (grid0.coords t 0).val * 1 + 0 < 2; omega
    | ⟨1, _⟩ => show (grid0.coords t 1).val * 256 + n.val < 10880; omega
    | ⟨2, _⟩ => show 0 * 1024 + k.val < 1024; omega
  unfold Window.fill
  rw [dif_pos hmv]
  refine congrArg (V m c main_arg0) (funext fun a => Fin.ext ?_)
  refine (win0_0.rect_emb_val t _ a).trans ?_
  show cc0_transform_0 (grid0.coords t) a * _ + _ = _
  rw [map0]
  match a with
  | ⟨0, _⟩ => show (grid0.coords t 0).val * 1 + 0 = b.val; omega
  | ⟨1, _⟩ => show (grid0.coords t 1).val * 256 + n.val = N.val; omega
  | ⟨2, _⟩ => show 0 * 1024 + k.val = k.val; omega

theorem map1 (t : Fin cfg0.N) : cc0_transform_1 (grid0.coords t) = ![(grid0.coords t 0).val, 0, (grid0.coords t 1).val] := by
  funext a
  have h0 : (grid0.coords t 0).val < 2 := (grid0.coords t 0).isLt
  have h1 : (grid0.coords t 1).val < 43 := (grid0.coords t 1).isLt
  unfold cc0_transform_1
  match a with
  | ⟨0, _⟩ => simp [BitVec.toNat_ofNat]; omega
  | ⟨1, _⟩ => simp
  | ⟨2, _⟩ => simp [BitVec.toNat_ofNat]; omega

theorem hsfill (c : Dev nD) (t : Fin cfg0.N) (d) (b : Fin 2) (n : Fin 256) (N : Fin 10880)
    (hb : b.val = (grid0.coords t 0).val) (hN : N.val = 256 * (grid0.coords t 1).val + n.val) :
    win0_1.fill (grid0.coords t) d (iblk m c 1 t) (ix3 (0 : Fin 1) (0 : Fin 1) n) = V m c main_arg1 (ix3 b (0 : Fin 1) N) := by
  have hmv : win0_1.moved (grid0.coords t) (ix3 (0 : Fin 1) (0 : Fin 1) n) = true := by
    refine moved_of win0_1 rfl _ _ fun a => ?_
    show cc0_transform_1 (grid0.coords t) a * _ + _ < _
    rw [map1]
    match a with
    | ⟨0, _⟩ => show (grid0.coords t 0).val * 1 + 0 < 2; omega
    | ⟨1, _⟩ => show 0 * 1 + 0 < 1; omega
    | ⟨2, _⟩ => show (grid0.coords t 1).val * 256 + n.val < 10880; omega
  unfold Window.fill
  rw [dif_pos hmv]
  refine congrArg (V m c main_arg1) (funext fun a => Fin.ext ?_)
  refine (win0_1.rect_emb_val t _ a).trans ?_
  show cc0_transform_1 (grid0.coords t) a * _ + _ = _
  rw [map1]
  match a with
  | ⟨0, _⟩ => show (grid0.coords t 0).val * 1 + 0 = b.val; omega
  | ⟨1, _⟩ => show 0 * 1 + 0 = 0; omega
  | ⟨2, _⟩ => show (grid0.coords t 1).val * 256 + n.val = N.val; omega

/-- The weights' block is their array; -/
theorem wblk_eq (c : Dev nD) (t : Fin cfg0.N) : iblk m c 2 t = V m c main_v3 := by
  unfold iblk
  funext x
  refine congrArg (V m c main_v3) (funext fun a => Fin.ext ?_)
  refine (win0_2.rect_emb_val_of_index_zero t a ?_ x)
  show cc0_transform_2 (grid0.coords t) a = 0
  unfold cc0_transform_2
  match a with
  | ⟨0, _⟩ => rfl
  | ⟨1, _⟩ => rfl

/-- and their scales'. -/
theorem sblk_eq (c : Dev nD) (t : Fin cfg0.N) : iblk m c 3 t = V m c main_v6 := by
  unfold iblk
  funext x
  refine congrArg (V m c main_v6) (funext fun a => Fin.ext ?_)
  refine (win0_3.rect_emb_val_of_index_zero t a ?_ x)
  show cc0_transform_3 (grid0.coords t) a = 0
  unfold cc0_transform_3
  match a with
  | ⟨0, _⟩ => rfl
  | ⟨1, _⟩ => rfl

/-- Result arrays: the codes of projection `i`, -/
def resC (i : Fin 3) (c : Dev nD) : Vec Ideal S2x1024x10880 .fp8e4m3 :=
  Proj.codesG (V m c main_arg0) (V m c main_v3) (V m c main_v6) i
/-- and its scales. -/
def resS (i : Fin 3) (c : Dev nD) : Vec Ideal S2x16x10880 .f32 :=
  Proj.scalesG (V m c main_arg0) (V m c main_arg1) (V m c main_v3) (V m c main_v6) i

theorem map4 (t : Fin cfg0.N) : cc0_transform_4 (grid0.coords t) = ![(grid0.coords t 0).val, 0, (grid0.coords t 1).val] :=
  map1 t

theorem point4 (c : Dev nD) (t : Fin cfg0.N) (d0) (x : (win0_4.xblock (grid0.coords t)).Idx) :
    Proj.outC 0 (win0_0.fill (grid0.coords t) d0 (iblk m c 0 t)) (iblk m c 2 t) (iblk m c 3 t) (win0_4.xinj (grid0.coords t) x)
      = resC m 0 c ((win0_4.rect t).emb x) := by
  have e0 : (((win0_4.rect t).emb x) 0).val = (grid0.coords t 0).val := by
    refine (win0_4.rect_emb_val t x 0).trans ?_
    show cc0_transform_4 (grid0.coords t) 0 * 1 + (x 0).val = _
    rw [map4]
    have : (x 0).val < 1 := Nat.lt_of_lt_of_le (x 0).isLt (win0_4.xsize_le _ 0)
    show (grid0.coords t 0).val * 1 + (x 0).val = _
    omega
  have e1 : (x 1).val = (((win0_4.rect t).emb x) 1).val := by
    refine ((win0_4.rect_emb_val t x 1).trans ?_).symm
    show cc0_transform_4 (grid0.coords t) 1 * 1024 + (x 1).val = _
    rw [map4]
    show 0 * 1024 + (x 1).val = _
    omega
  have e2 : (((win0_4.rect t).emb x) 2).val = 256 * (grid0.coords t 1).val + (x 2).val := by
    refine (win0_4.rect_emb_val t x 2).trans ?_
    show cc0_transform_4 (grid0.coords t) 2 * 256 + (x 2).val = _
    rw [map4]
    show (grid0.coords t 1).val * 256 + (x 2).val = _
    omega
  rw [wblk_eq, sblk_eq]
  exact Proj.outC_eq_codeG (V m c main_arg0) (V m c main_v3) (V m c main_v6) 0 (win0_0.fill (grid0.coords t) d0 (iblk m c 0 t))
    (((win0_4.rect t).emb x) 0) (grid0.coords t 1).val (win0_4.xinj (grid0.coords t) x 2) (((win0_4.rect t).emb x) 2) e2
    (fun k => hfill m c t d0 _ _ _ e0 e2 k) (((win0_4.rect t).emb x) 1) _ e1 rfl

theorem cover4 (y : S2x1024x10880.Idx) : ∃ t : Fin cfg0.N, win0_4.flush t = true ∧ y ∈ (win0_4.rect t).set := by
  have y0 : (y 0).val < 2 := (y 0).isLt
  have y1 : (y 1).val < 1024 := (y 1).isLt
  have y2 : (y 2).val < 10880 := (y 2).isLt
  obtain ⟨t, ht⟩ := grid0.coords_surjective (fun a => match a with
    | ⟨0, _⟩ => (⟨(y 0).val, y0⟩ : Fin 2)
    | ⟨1, _⟩ => (⟨(y 2).val / 256, by omega⟩ : Fin 43))
  have c0 : (grid0.coords t 0).val = (y 0).val := by rw [ht]
  have c1 : (grid0.coords t 1).val = (y 2).val / 256 := by rw [ht]
  refine ⟨t, flush0_4 t, Rect.mem_set_unit.mpr fun a => ?_⟩
  show win0_4.indexMap (grid0.coords t) a * win0_4.size a ≤ (y a).val ∧ (y a).val < win0_4.indexMap (grid0.coords t) a * win0_4.size a + win0_4.xsize (grid0.coords t) a
  have hx := win0_4.xsize_eq_or_end rfl (grid0.coords t) a
  generalize win0_4.xsize (grid0.coords t) a = X at hx ⊢
  have hx' : X = win0_4.size a ∨ S2x1024x10880.size a ≤ cc0_transform_4 (grid0.coords t) a * win0_4.size a + X := hx
  show cc0_transform_4 (grid0.coords t) a * win0_4.size a ≤ (y a).val ∧ (y a).val < cc0_transform_4 (grid0.coords t) a * win0_4.size a + X
  rw [map4] at hx' ⊢
  match a with
  | ⟨0, _⟩ =>
    have h : X = 1 ∨ 2 ≤ (grid0.coords t 0).val * 1 + X := hx'
    show (grid0.coords t 0).val * 1 ≤ (y 0).val ∧ (y 0).val < (grid0.coords t 0).val * 1 + X
    omega
  | ⟨1, _⟩ =>
    have h : X = 1024 ∨ 1024 ≤ 0 * 1024 + X := hx'
    show 0 * 1024 ≤ (y 1).val ∧ (y 1).val < 0 * 1024 + X
    omega
  | ⟨2, _⟩ =>
    have h : X = 256 ∨ 10880 ≤ (grid0.coords t 1).val * 256 + X := hx'
    show (grid0.coords t 1).val * 256 ≤ (y 2).val ∧ (y 2).val < (grid0.coords t 1).val * 256 + X
    omega

theorem map5 (t : Fin cfg0.N) : cc0_transform_5 (grid0.coords t) = ![(grid0.coords t 0).val, 0, (grid0.coords t 1).val] :=
  map1 t

theorem point5 (c : Dev nD) (t : Fin cfg0.N) (d0) (d1) (x : (win0_5.xblock (grid0.coords t)).Idx) :
    Proj.outS 0 (win0_0.fill (grid0.coords t) d0 (iblk m c 0 t)) (win0_1.fill (grid0.coords t) d1 (iblk m c 1 t)) (iblk m c 2 t) (iblk m c 3 t) (win0_5.xinj (grid0.coords t) x)
      = resS m 0 c ((win0_5.rect t).emb x) := by
  have e0 : (((win0_5.rect t).emb x) 0).val = (grid0.coords t 0).val := by
    refine (win0_5.rect_emb_val t x 0).trans ?_
    show cc0_transform_5 (grid0.coords t) 0 * 1 + (x 0).val = _
    rw [map5]
    have : (x 0).val < 1 := Nat.lt_of_lt_of_le (x 0).isLt (win0_5.xsize_le _ 0)
    show (grid0.coords t 0).val * 1 + (x 0).val = _
    omega
  have e1 : (x 1).val = (((win0_5.rect t).emb x) 1).val := by
    refine ((win0_5.rect_emb_val t x 1).trans ?_).symm
    show cc0_transform_5 (grid0.coords t) 1 * 16 + (x 1).val = _
    rw [map5]
    show 0 * 16 + (x 1).val = _
    omega
  have e2 : (((win0_5.rect t).emb x) 2).val = 256 * (grid0.coords t 1).val + (x 2).val := by
    refine (win0_5.rect_emb_val t x 2).trans ?_
    show cc0_transform_5 (grid0.coords t) 2 * 256 + (x 2).val = _
    rw [map5]
    show (grid0.coords t 1).val * 256 + (x 2).val = _
    omega
  rw [wblk_eq, sblk_eq]
  exact Proj.outS_eq_scaleG (V m c main_arg0) (V m c main_arg1) (V m c main_v3) (V m c main_v6) 0 (win0_0.fill (grid0.coords t) d0 (iblk m c 0 t))
    (win0_1.fill (grid0.coords t) d1 (iblk m c 1 t))
    (((win0_5.rect t).emb x) 0) (grid0.coords t 1).val (win0_5.xinj (grid0.coords t) x 2) (((win0_5.rect t).emb x) 2) e2
    (fun k => hfill m c t d0 _ _ _ e0 e2 k) (hsfill m c t d1 _ _ _ e0 e2) (((win0_5.rect t).emb x) 1) _ e1 rfl

theorem cover5 (y : S2x16x10880.Idx) : ∃ t : Fin cfg0.N, win0_5.flush t = true ∧ y ∈ (win0_5.rect t).set := by
  have y0 : (y 0).val < 2 := (y 0).isLt
  have y1 : (y 1).val < 16 := (y 1).isLt
  have y2 : (y 2).val < 10880 := (y 2).isLt
  obtain ⟨t, ht⟩ := grid0.coords_surjective (fun a => match a with
    | ⟨0, _⟩ => (⟨(y 0).val, y0⟩ : Fin 2)
    | ⟨1, _⟩ => (⟨(y 2).val / 256, by omega⟩ : Fin 43))
  have c0 : (grid0.coords t 0).val = (y 0).val := by rw [ht]
  have c1 : (grid0.coords t 1).val = (y 2).val / 256 := by rw [ht]
  refine ⟨t, flush0_5 t, Rect.mem_set_unit.mpr fun a => ?_⟩
  show win0_5.indexMap (grid0.coords t) a * win0_5.size a ≤ (y a).val ∧ (y a).val < win0_5.indexMap (grid0.coords t) a * win0_5.size a + win0_5.xsize (grid0.coords t) a
  have hx := win0_5.xsize_eq_or_end rfl (grid0.coords t) a
  generalize win0_5.xsize (grid0.coords t) a = X at hx ⊢
  have hx' : X = win0_5.size a ∨ S2x16x10880.size a ≤ cc0_transform_5 (grid0.coords t) a * win0_5.size a + X := hx
  show cc0_transform_5 (grid0.coords t) a * win0_5.size a ≤ (y a).val ∧ (y a).val < cc0_transform_5 (grid0.coords t) a * win0_5.size a + X
  rw [map5] at hx' ⊢
  match a with
  | ⟨0, _⟩ =>
    have h : X = 1 ∨ 2 ≤ (grid0.coords t 0).val * 1 + X := hx'
    show (grid0.coords t 0).val * 1 ≤ (y 0).val ∧ (y 0).val < (grid0.coords t 0).val * 1 + X
    omega
  | ⟨1, _⟩ =>
    have h : X = 16 ∨ 16 ≤ 0 * 16 + X := hx'
    show 0 * 16 ≤ (y 1).val ∧ (y 1).val < 0 * 16 + X
    omega
  | ⟨2, _⟩ =>
    have h : X = 256 ∨ 10880 ≤ (grid0.coords t 1).val * 256 + X := hx'
    show (grid0.coords t 1).val * 256 ≤ (y 2).val ∧ (y 2).val < (grid0.coords t 1).val * 256 + X
    omega

theorem map6 (t : Fin cfg0.N) : cc0_transform_6 (grid0.coords t) = ![(grid0.coords t 0).val, 0, (grid0.coords t 1).val] :=
  map1 t

theorem point6 (c : Dev nD) (t : Fin cfg0.N) (d0) (x : (win0_6.xblock (grid0.coords t)).Idx) :
    Proj.outC 1 (win0_0.fill (grid0.coords t) d0 (iblk m c 0 t)) (iblk m c 2 t) (iblk m c 3 t) (win0_6.xinj (grid0.coords t) x)
      = resC m 1 c ((win0_6.rect t).emb x) := by
  have e0 : (((win0_6.rect t).emb x) 0).val = (grid0.coords t 0).val := by
    refine (win0_6.rect_emb_val t x 0).trans ?_
    show cc0_transform_6 (grid0.coords t) 0 * 1 + (x 0).val = _
    rw [map6]
    have : (x 0).val < 1 := Nat.lt_of_lt_of_le (x 0).isLt (win0_6.xsize_le _ 0)
    show (grid0.coords t 0).val * 1 + (x 0).val = _
    omega
  have e1 : (x 1).val = (((win0_6.rect t).emb x) 1).val := by
    refine ((win0_6.rect_emb_val t x 1).trans ?_).symm
    show cc0_transform_6 (grid0.coords t) 1 * 1024 + (x 1).val = _
    rw [map6]
    show 0 * 1024 + (x 1).val = _
    omega
  have e2 : (((win0_6.rect t).emb x) 2).val = 256 * (grid0.coords t 1).val + (x 2).val := by
    refine (win0_6.rect_emb_val t x 2).trans ?_
    show cc0_transform_6 (grid0.coords t) 2 * 256 + (x 2).val = _
    rw [map6]
    show (grid0.coords t 1).val * 256 + (x 2).val = _
    omega
  rw [wblk_eq, sblk_eq]
  exact Proj.outC_eq_codeG (V m c main_arg0) (V m c main_v3) (V m c main_v6) 1 (win0_0.fill (grid0.coords t) d0 (iblk m c 0 t))
    (((win0_6.rect t).emb x) 0) (grid0.coords t 1).val (win0_6.xinj (grid0.coords t) x 2) (((win0_6.rect t).emb x) 2) e2
    (fun k => hfill m c t d0 _ _ _ e0 e2 k) (((win0_6.rect t).emb x) 1) _ e1 rfl

theorem cover6 (y : S2x1024x10880.Idx) : ∃ t : Fin cfg0.N, win0_6.flush t = true ∧ y ∈ (win0_6.rect t).set := by
  have y0 : (y 0).val < 2 := (y 0).isLt
  have y1 : (y 1).val < 1024 := (y 1).isLt
  have y2 : (y 2).val < 10880 := (y 2).isLt
  obtain ⟨t, ht⟩ := grid0.coords_surjective (fun a => match a with
    | ⟨0, _⟩ => (⟨(y 0).val, y0⟩ : Fin 2)
    | ⟨1, _⟩ => (⟨(y 2).val / 256, by omega⟩ : Fin 43))
  have c0 : (grid0.coords t 0).val = (y 0).val := by rw [ht]
  have c1 : (grid0.coords t 1).val = (y 2).val / 256 := by rw [ht]
  refine ⟨t, flush0_6 t, Rect.mem_set_unit.mpr fun a => ?_⟩
  show win0_6.indexMap (grid0.coords t) a * win0_6.size a ≤ (y a).val ∧ (y a).val < win0_6.indexMap (grid0.coords t) a * win0_6.size a + win0_6.xsize (grid0.coords t) a
  have hx := win0_6.xsize_eq_or_end rfl (grid0.coords t) a
  generalize win0_6.xsize (grid0.coords t) a = X at hx ⊢
  have hx' : X = win0_6.size a ∨ S2x1024x10880.size a ≤ cc0_transform_6 (grid0.coords t) a * win0_6.size a + X := hx
  show cc0_transform_6 (grid0.coords t) a * win0_6.size a ≤ (y a).val ∧ (y a).val < cc0_transform_6 (grid0.coords t) a * win0_6.size a + X
  rw [map6] at hx' ⊢
  match a with
  | ⟨0, _⟩ =>
    have h : X = 1 ∨ 2 ≤ (grid0.coords t 0).val * 1 + X := hx'
    show (grid0.coords t 0).val * 1 ≤ (y 0).val ∧ (y 0).val < (grid0.coords t 0).val * 1 + X
    omega
  | ⟨1, _⟩ =>
    have h : X = 1024 ∨ 1024 ≤ 0 * 1024 + X := hx'
    show 0 * 1024 ≤ (y 1).val ∧ (y 1).val < 0 * 1024 + X
    omega
  | ⟨2, _⟩ =>
    have h : X = 256 ∨ 10880 ≤ (grid0.coords t 1).val * 256 + X := hx'
    show (grid0.coords t 1).val * 256 ≤ (y 2).val ∧ (y 2).val < (grid0.coords t 1).val * 256 + X
    omega

theorem map7 (t : Fin cfg0.N) : cc0_transform_7 (grid0.coords t) = ![(grid0.coords t 0).val, 0, (grid0.coords t 1).val] :=
  map1 t

theorem point7 (c : Dev nD) (t : Fin cfg0.N) (d0) (d1) (x : (win0_7.xblock (grid0.coords t)).Idx) :
    Proj.outS 1 (win0_0.fill (grid0.coords t) d0 (iblk m c 0 t)) (win0_1.fill (grid0.coords t) d1 (iblk m c 1 t)) (iblk m c 2 t) (iblk m c 3 t) (win0_7.xinj (grid0.coords t) x)
      = resS m 1 c ((win0_7.rect t).emb x) := by
  have e0 : (((win0_7.rect t).emb x) 0).val = (grid0.coords t 0).val := by
    refine (win0_7.rect_emb_val t x 0).trans ?_
    show cc0_transform_7 (grid0.coords t) 0 * 1 + (x 0).val = _
    rw [map7]
    have : (x 0).val < 1 := Nat.lt_of_lt_of_le (x 0).isLt (win0_7.xsize_le _ 0)
    show (grid0.coords t 0).val * 1 + (x 0).val = _
    omega
  have e1 : (x 1).val = (((win0_7.rect t).emb x) 1).val := by
    refine ((win0_7.rect_emb_val t x 1).trans ?_).symm
    show cc0_transform_7 (grid0.coords t) 1 * 16 + (x 1).val = _
    rw [map7]
    show 0 * 16 + (x 1).val = _
    omega
  have e2 : (((win0_7.rect t).emb x) 2).val = 256 * (grid0.coords t 1).val + (x 2).val := by
    refine (win0_7.rect_emb_val t x 2).trans ?_
    show cc0_transform_7 (grid0.coords t) 2 * 256 + (x 2).val = _
    rw [map7]
    show (grid0.coords t 1).val * 256 + (x 2).val = _
    omega
  rw [wblk_eq, sblk_eq]
  exact Proj.outS_eq_scaleG (V m c main_arg0) (V m c main_arg1) (V m c main_v3) (V m c main_v6) 1 (win0_0.fill (grid0.coords t) d0 (iblk m c 0 t))
    (win0_1.fill (grid0.coords t) d1 (iblk m c 1 t))
    (((win0_7.rect t).emb x) 0) (grid0.coords t 1).val (win0_7.xinj (grid0.coords t) x 2) (((win0_7.rect t).emb x) 2) e2
    (fun k => hfill m c t d0 _ _ _ e0 e2 k) (hsfill m c t d1 _ _ _ e0 e2) (((win0_7.rect t).emb x) 1) _ e1 rfl

theorem cover7 (y : S2x16x10880.Idx) : ∃ t : Fin cfg0.N, win0_7.flush t = true ∧ y ∈ (win0_7.rect t).set := by
  have y0 : (y 0).val < 2 := (y 0).isLt
  have y1 : (y 1).val < 16 := (y 1).isLt
  have y2 : (y 2).val < 10880 := (y 2).isLt
  obtain ⟨t, ht⟩ := grid0.coords_surjective (fun a => match a with
    | ⟨0, _⟩ => (⟨(y 0).val, y0⟩ : Fin 2)
    | ⟨1, _⟩ => (⟨(y 2).val / 256, by omega⟩ : Fin 43))
  have c0 : (grid0.coords t 0).val = (y 0).val := by rw [ht]
  have c1 : (grid0.coords t 1).val = (y 2).val / 256 := by rw [ht]
  refine ⟨t, flush0_7 t, Rect.mem_set_unit.mpr fun a => ?_⟩
  show win0_7.indexMap (grid0.coords t) a * win0_7.size a ≤ (y a).val ∧ (y a).val < win0_7.indexMap (grid0.coords t) a * win0_7.size a + win0_7.xsize (grid0.coords t) a
  have hx := win0_7.xsize_eq_or_end rfl (grid0.coords t) a
  generalize win0_7.xsize (grid0.coords t) a = X at hx ⊢
  have hx' : X = win0_7.size a ∨ S2x16x10880.size a ≤ cc0_transform_7 (grid0.coords t) a * win0_7.size a + X := hx
  show cc0_transform_7 (grid0.coords t) a * win0_7.size a ≤ (y a).val ∧ (y a).val < cc0_transform_7 (grid0.coords t) a * win0_7.size a + X
  rw [map7] at hx' ⊢
  match a with
  | ⟨0, _⟩ =>
    have h : X = 1 ∨ 2 ≤ (grid0.coords t 0).val * 1 + X := hx'
    show (grid0.coords t 0).val * 1 ≤ (y 0).val ∧ (y 0).val < (grid0.coords t 0).val * 1 + X
    omega
  | ⟨1, _⟩ =>
    have h : X = 16 ∨ 16 ≤ 0 * 16 + X := hx'
    show 0 * 16 ≤ (y 1).val ∧ (y 1).val < 0 * 16 + X
    omega
  | ⟨2, _⟩ =>
    have h : X = 256 ∨ 10880 ≤ (grid0.coords t 1).val * 256 + X := hx'
    show (grid0.coords t 1).val * 256 ≤ (y 2).val ∧ (y 2).val < (grid0.coords t 1).val * 256 + X
    omega

theorem map8 (t : Fin cfg0.N) : cc0_transform_8 (grid0.coords t) = ![(grid0.coords t 0).val, 0, (grid0.coords t 1).val] :=
  map1 t

theorem point8 (c : Dev nD) (t : Fin cfg0.N) (d0) (x : (win0_8.xblock (grid0.coords t)).Idx) :
    Proj.outC 2 (win0_0.fill (grid0.coords t) d0 (iblk m c 0 t)) (iblk m c 2 t) (iblk m c 3 t) (win0_8.xinj (grid0.coords t) x)
      = resC m 2 c ((win0_8.rect t).emb x) := by
  have e0 : (((win0_8.rect t).emb x) 0).val = (grid0.coords t 0).val := by
    refine (win0_8.rect_emb_val t x 0).trans ?_
    show cc0_transform_8 (grid0.coords t) 0 * 1 + (x 0).val = _
    rw [map8]
    have : (x 0).val < 1 := Nat.lt_of_lt_of_le (x 0).isLt (win0_8.xsize_le _ 0)
    show (grid0.coords t 0).val * 1 + (x 0).val = _
    omega
  have e1 : (x 1).val = (((win0_8.rect t).emb x) 1).val := by
    refine ((win0_8.rect_emb_val t x 1).trans ?_).symm
    show cc0_transform_8 (grid0.coords t) 1 * 1024 + (x 1).val = _
    rw [map8]
    show 0 * 1024 + (x 1).val = _
    omega
  have e2 : (((win0_8.rect t).emb x) 2).val = 256 * (grid0.coords t 1).val + (x 2).val := by
    refine (win0_8.rect_emb_val t x 2).trans ?_
    show cc0_transform_8 (grid0.coords t) 2 * 256 + (x 2).val = _
    rw [map8]
    show (grid0.coords t 1).val * 256 + (x 2).val = _
    omega
  rw [wblk_eq, sblk_eq]
  exact Proj.outC_eq_codeG (V m c main_arg0) (V m c main_v3) (V m c main_v6) 2 (win0_0.fill (grid0.coords t) d0 (iblk m c 0 t))
    (((win0_8.rect t).emb x) 0) (grid0.coords t 1).val (win0_8.xinj (grid0.coords t) x 2) (((win0_8.rect t).emb x) 2) e2
    (fun k => hfill m c t d0 _ _ _ e0 e2 k) (((win0_8.rect t).emb x) 1) _ e1 rfl

theorem cover8 (y : S2x1024x10880.Idx) : ∃ t : Fin cfg0.N, win0_8.flush t = true ∧ y ∈ (win0_8.rect t).set := by
  have y0 : (y 0).val < 2 := (y 0).isLt
  have y1 : (y 1).val < 1024 := (y 1).isLt
  have y2 : (y 2).val < 10880 := (y 2).isLt
  obtain ⟨t, ht⟩ := grid0.coords_surjective (fun a => match a with
    | ⟨0, _⟩ => (⟨(y 0).val, y0⟩ : Fin 2)
    | ⟨1, _⟩ => (⟨(y 2).val / 256, by omega⟩ : Fin 43))
  have c0 : (grid0.coords t 0).val = (y 0).val := by rw [ht]
  have c1 : (grid0.coords t 1).val = (y 2).val / 256 := by rw [ht]
  refine ⟨t, flush0_8 t, Rect.mem_set_unit.mpr fun a => ?_⟩
  show win0_8.indexMap (grid0.coords t) a * win0_8.size a ≤ (y a).val ∧ (y a).val < win0_8.indexMap (grid0.coords t) a * win0_8.size a + win0_8.xsize (grid0.coords t) a
  have hx := win0_8.xsize_eq_or_end rfl (grid0.coords t) a
  generalize win0_8.xsize (grid0.coords t) a = X at hx ⊢
  have hx' : X = win0_8.size a ∨ S2x1024x10880.size a ≤ cc0_transform_8 (grid0.coords t) a * win0_8.size a + X := hx
  show cc0_transform_8 (grid0.coords t) a * win0_8.size a ≤ (y a).val ∧ (y a).val < cc0_transform_8 (grid0.coords t) a * win0_8.size a + X
  rw [map8] at hx' ⊢
  match a with
  | ⟨0, _⟩ =>
    have h : X = 1 ∨ 2 ≤ (grid0.coords t 0).val * 1 + X := hx'
    show (grid0.coords t 0).val * 1 ≤ (y 0).val ∧ (y 0).val < (grid0.coords t 0).val * 1 + X
    omega
  | ⟨1, _⟩ =>
    have h : X = 1024 ∨ 1024 ≤ 0 * 1024 + X := hx'
    show 0 * 1024 ≤ (y 1).val ∧ (y 1).val < 0 * 1024 + X
    omega
  | ⟨2, _⟩ =>
    have h : X = 256 ∨ 10880 ≤ (grid0.coords t 1).val * 256 + X := hx'
    show (grid0.coords t 1).val * 256 ≤ (y 2).val ∧ (y 2).val < (grid0.coords t 1).val * 256 + X
    omega

theorem map9 (t : Fin cfg0.N) : cc0_transform_9 (grid0.coords t) = ![(grid0.coords t 0).val, 0, (grid0.coords t 1).val] :=
  map1 t

theorem point9 (c : Dev nD) (t : Fin cfg0.N) (d0) (d1) (x : (win0_9.xblock (grid0.coords t)).Idx) :
    Proj.outS 2 (win0_0.fill (grid0.coords t) d0 (iblk m c 0 t)) (win0_1.fill (grid0.coords t) d1 (iblk m c 1 t)) (iblk m c 2 t) (iblk m c 3 t) (win0_9.xinj (grid0.coords t) x)
      = resS m 2 c ((win0_9.rect t).emb x) := by
  have e0 : (((win0_9.rect t).emb x) 0).val = (grid0.coords t 0).val := by
    refine (win0_9.rect_emb_val t x 0).trans ?_
    show cc0_transform_9 (grid0.coords t) 0 * 1 + (x 0).val = _
    rw [map9]
    have : (x 0).val < 1 := Nat.lt_of_lt_of_le (x 0).isLt (win0_9.xsize_le _ 0)
    show (grid0.coords t 0).val * 1 + (x 0).val = _
    omega
  have e1 : (x 1).val = (((win0_9.rect t).emb x) 1).val := by
    refine ((win0_9.rect_emb_val t x 1).trans ?_).symm
    show cc0_transform_9 (grid0.coords t) 1 * 16 + (x 1).val = _
    rw [map9]
    show 0 * 16 + (x 1).val = _
    omega
  have e2 : (((win0_9.rect t).emb x) 2).val = 256 * (grid0.coords t 1).val + (x 2).val := by
    refine (win0_9.rect_emb_val t x 2).trans ?_
    show cc0_transform_9 (grid0.coords t) 2 * 256 + (x 2).val = _
    rw [map9]
    show (grid0.coords t 1).val * 256 + (x 2).val = _
    omega
  rw [wblk_eq, sblk_eq]
  exact Proj.outS_eq_scaleG (V m c main_arg0) (V m c main_arg1) (V m c main_v3) (V m c main_v6) 2 (win0_0.fill (grid0.coords t) d0 (iblk m c 0 t))
    (win0_1.fill (grid0.coords t) d1 (iblk m c 1 t))
    (((win0_9.rect t).emb x) 0) (grid0.coords t 1).val (win0_9.xinj (grid0.coords t) x 2) (((win0_9.rect t).emb x) 2) e2
    (fun k => hfill m c t d0 _ _ _ e0 e2 k) (hsfill m c t d1 _ _ _ e0 e2) (((win0_9.rect t).emb x) 1) _ e1 rfl

theorem cover9 (y : S2x16x10880.Idx) : ∃ t : Fin cfg0.N, win0_9.flush t = true ∧ y ∈ (win0_9.rect t).set := by
  have y0 : (y 0).val < 2 := (y 0).isLt
  have y1 : (y 1).val < 16 := (y 1).isLt
  have y2 : (y 2).val < 10880 := (y 2).isLt
  obtain ⟨t, ht⟩ := grid0.coords_surjective (fun a => match a with
    | ⟨0, _⟩ => (⟨(y 0).val, y0⟩ : Fin 2)
    | ⟨1, _⟩ => (⟨(y 2).val / 256, by omega⟩ : Fin 43))
  have c0 : (grid0.coords t 0).val = (y 0).val := by rw [ht]
  have c1 : (grid0.coords t 1).val = (y 2).val / 256 := by rw [ht]
  refine ⟨t, flush0_9 t, Rect.mem_set_unit.mpr fun a => ?_⟩
  show win0_9.indexMap (grid0.coords t) a * win0_9.size a ≤ (y a).val ∧ (y a).val < win0_9.indexMap (grid0.coords t) a * win0_9.size a + win0_9.xsize (grid0.coords t) a
  have hx := win0_9.xsize_eq_or_end rfl (grid0.coords t) a
  generalize win0_9.xsize (grid0.coords t) a = X at hx ⊢
  have hx' : X = win0_9.size a ∨ S2x16x10880.size a ≤ cc0_transform_9 (grid0.coords t) a * win0_9.size a + X := hx
  show cc0_transform_9 (grid0.coords t) a * win0_9.size a ≤ (y a).val ∧ (y a).val < cc0_transform_9 (grid0.coords t) a * win0_9.size a + X
  rw [map9] at hx' ⊢
  match a with
  | ⟨0, _⟩ =>
    have h : X = 1 ∨ 2 ≤ (grid0.coords t 0).val * 1 + X := hx'
    show (grid0.coords t 0).val * 1 ≤ (y 0).val ∧ (y 0).val < (grid0.coords t 0).val * 1 + X
    omega
  | ⟨1, _⟩ =>
    have h : X = 16 ∨ 16 ≤ 0 * 16 + X := hx'
    show 0 * 16 ≤ (y 1).val ∧ (y 1).val < 0 * 16 + X
    omega
  | ⟨2, _⟩ =>
    have h : X = 256 ∨ 10880 ≤ (grid0.coords t 1).val * 256 + X := hx'
    show (grid0.coords t 1).val * 256 ≤ (y 2).val ∧ (y 2).val < (grid0.coords t 1).val * 256 + X
    omega

end Cert.KernelIdeal.Gen

end
-- ==== Proof.KernelIdealRun.lean ====
/-
  The run of the idealized kernel over the extended reals, naming what it leaves: the six results are the
  codes and scales of the three projections of what the host operations before it leave.
-/
module

public import proofs.«01_k».proof.Proof.KernelIdealBlocks

@[expose] public section

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable (m : (ℓ : Loc nD τ sig) → Buf (Elt Ideal) ℓ) (ρ : Dev nD → PrngReg)

/-- What output 4's buffer holds after the body at point `t`, where it is written back. -/
def left4 (c : Dev nD) (t : Fin cfg0.N) : Vec Ideal S1x1024x256 .fp8e4m3 :=
  win0_4.fill (grid0.coords t) (fun _ => (0 : EReal)) (fun x => resC m 0 c ((win0_4.rect t).emb x))
/-- What output 5's buffer holds after the body at point `t`, where it is written back. -/
def left5 (c : Dev nD) (t : Fin cfg0.N) : Vec Ideal S1x16x256 .f32 :=
  win0_5.fill (grid0.coords t) (fun _ => (0 : EReal)) (fun x => resS m 0 c ((win0_5.rect t).emb x))
/-- What output 6's buffer holds after the body at point `t`, where it is written back. -/
def left6 (c : Dev nD) (t : Fin cfg0.N) : Vec Ideal S1x1024x256 .fp8e4m3 :=
  win0_6.fill (grid0.coords t) (fun _ => (0 : EReal)) (fun x => resC m 1 c ((win0_6.rect t).emb x))
/-- What output 7's buffer holds after the body at point `t`, where it is written back. -/
def left7 (c : Dev nD) (t : Fin cfg0.N) : Vec Ideal S1x16x256 .f32 :=
  win0_7.fill (grid0.coords t) (fun _ => (0 : EReal)) (fun x => resS m 1 c ((win0_7.rect t).emb x))
/-- What output 8's buffer holds after the body at point `t`, where it is written back. -/
def left8 (c : Dev nD) (t : Fin cfg0.N) : Vec Ideal S1x1024x256 .fp8e4m3 :=
  win0_8.fill (grid0.coords t) (fun _ => (0 : EReal)) (fun x => resC m 2 c ((win0_8.rect t).emb x))
/-- What output 9's buffer holds after the body at point `t`, where it is written back. -/
def left9 (c : Dev nD) (t : Fin cfg0.N) : Vec Ideal S1x16x256 .f32 :=
  win0_9.fill (grid0.coords t) (fun _ => (0 : EReal)) (fun x => resS m 2 c ((win0_9.rect t).emb x))

/-- The proof data: the inputs' buffers at their blocks after the body, the outputs' at the results' blocks. -/
def vdats (_ : Fin 1) (c : Dev nD) : Dat τ (Elt Ideal) Unit ℕ (UR sig nD τ) ℕ cfg0 c where
  A w := V m c (Pipeline.arrRef spec0 w)
  after w t := match w with
    | ⟨0, _⟩ => hblk m c t
    | ⟨1, _⟩ => hsblk m c t
    | ⟨2, _⟩ => iblk m c 2 t
    | ⟨3, _⟩ => iblk m c 3 t
    | ⟨4, _⟩ => left4 m c t
    | ⟨5, _⟩ => left5 m c t
    | ⟨6, _⟩ => left6 m c t
    | ⟨7, _⟩ => left7 m c t
    | ⟨8, _⟩ => left8 m c t
    | ⟨9, _⟩ => left9 m c t
  Φ _ := Pipeline.ΦA spec0 c
  q _ := fullShare
  owed _ := 0

theorem vA_eq (c : Dev nD) (w : Fin cfg0.W) : (vdats m 0 c).A w = V m c (Pipeline.arrRef spec0 w) := by
  dsimp only [vdats]

theorem vafter0_0 (c : Dev nD) (t : Fin cfg0.N) : (vdats m 0 c).after 0 t = hblk m c t := by dsimp only [vdats]
theorem vafter0_1 (c : Dev nD) (t : Fin cfg0.N) : (vdats m 0 c).after 1 t = hsblk m c t := by dsimp only [vdats]
theorem vafter0_2 (c : Dev nD) (t : Fin cfg0.N) : (vdats m 0 c).after 2 t = iblk m c 2 t := by dsimp only [vdats]
theorem vafter0_3 (c : Dev nD) (t : Fin cfg0.N) : (vdats m 0 c).after 3 t = iblk m c 3 t := by dsimp only [vdats]
theorem vafter0_4 (c : Dev nD) (t : Fin cfg0.N) : (vdats m 0 c).after 4 t = left4 m c t := by dsimp only [vdats]
theorem vafter0_5 (c : Dev nD) (t : Fin cfg0.N) : (vdats m 0 c).after 5 t = left5 m c t := by dsimp only [vdats]
theorem vafter0_6 (c : Dev nD) (t : Fin cfg0.N) : (vdats m 0 c).after 6 t = left6 m c t := by dsimp only [vdats]
theorem vafter0_7 (c : Dev nD) (t : Fin cfg0.N) : (vdats m 0 c).after 7 t = left7 m c t := by dsimp only [vdats]
theorem vafter0_8 (c : Dev nD) (t : Fin cfg0.N) : (vdats m 0 c).after 8 t = left8 m c t := by dsimp only [vdats]
theorem vafter0_9 (c : Dev nD) (t : Fin cfg0.N) : (vdats m 0 c).after 9 t = left9 m c t := by dsimp only [vdats]

theorem vbefore0_0 (c : Dev nD) (t : Fin cfg0.N) (d) : (vdats m 0 c).before 0 t d = win0_0.fill (grid0.coords t) d (iblk m c 0 t) := by
  unfold Dat.before; rw [if_pos (fetch0_0 t)]; unfold Dat.fetched Dat.blockOf iblk; rw [vA_eq]
theorem vbefore0_1 (c : Dev nD) (t : Fin cfg0.N) (d) : (vdats m 0 c).before 1 t d = win0_1.fill (grid0.coords t) d (iblk m c 1 t) := by
  unfold Dat.before; rw [if_pos (fetch0_1 t)]; unfold Dat.fetched Dat.blockOf iblk; rw [vA_eq]
theorem vbefore0_2 (c : Dev nD) (t : Fin cfg0.N) (d) : (vdats m 0 c).before 2 t d = iblk m c 2 t :=
  before0_2_of m (vdats m 0 c) (vA_eq m c 2) (vafter0_2 m c) t d
theorem vbefore0_3 (c : Dev nD) (t : Fin cfg0.N) (d) : (vdats m 0 c).before 3 t d = iblk m c 3 t :=
  before0_3_of m (vdats m 0 c) (vA_eq m c 3) (vafter0_3 m c) t d

theorem leaves4 (c : Dev nD) (t : Fin cfg0.N) (d0) :
    Proj.outC 0 (win0_0.fill (grid0.coords t) d0 (iblk m c 0 t)) (iblk m c 2 t) (iblk m c 3 t) = win0_4.fill (grid0.coords t) (Proj.outC 0 (win0_0.fill (grid0.coords t) d0 (iblk m c 0 t)) (iblk m c 2 t) (iblk m c 3 t)) (win0_4.cut (grid0.coords t) (left4 m c t)) := by
  have e : win0_4.cut (grid0.coords t) (left4 m c t) = win0_4.cut (grid0.coords t) (Proj.outC 0 (win0_0.fill (grid0.coords t) d0 (iblk m c 0 t)) (iblk m c 2 t) (iblk m c 3 t)) :=
    (win0_4.cut_fill _ _ _).trans (funext fun x => (point4 m c t d0 x).symm)
  rw [e]
  exact (win0_4.fill_cut _ _).symm

theorem leaves5 (c : Dev nD) (t : Fin cfg0.N) (d0) (d1) :
    Proj.outS 0 (win0_0.fill (grid0.coords t) d0 (iblk m c 0 t)) (win0_1.fill (grid0.coords t) d1 (iblk m c 1 t)) (iblk m c 2 t) (iblk m c 3 t) = win0_5.fill (grid0.coords t) (Proj.outS 0 (win0_0.fill (grid0.coords t) d0 (iblk m c 0 t)) (win0_1.fill (grid0.coords t) d1 (iblk m c 1 t)) (iblk m c 2 t) (iblk m c 3 t)) (win0_5.cut (grid0.coords t) (left5 m c t)) := by
  have e : win0_5.cut (grid0.coords t) (left5 m c t) = win0_5.cut (grid0.coords t) (Proj.outS 0 (win0_0.fill (grid0.coords t) d0 (iblk m c 0 t)) (win0_1.fill (grid0.coords t) d1 (iblk m c 1 t)) (iblk m c 2 t) (iblk m c 3 t)) :=
    (win0_5.cut_fill _ _ _).trans (funext fun x => (point5 m c t d0 d1 x).symm)
  rw [e]
  exact (win0_5.fill_cut _ _).symm

theorem leaves6 (c : Dev nD) (t : Fin cfg0.N) (d0) :
    Proj.outC 1 (win0_0.fill (grid0.coords t) d0 (iblk m c 0 t)) (iblk m c 2 t) (iblk m c 3 t) = win0_6.fill (grid0.coords t) (Proj.outC 1 (win0_0.fill (grid0.coords t) d0 (iblk m c 0 t)) (iblk m c 2 t) (iblk m c 3 t)) (win0_6.cut (grid0.coords t) (left6 m c t)) := by
  have e : win0_6.cut (grid0.coords t) (left6 m c t) = win0_6.cut (grid0.coords t) (Proj.outC 1 (win0_0.fill (grid0.coords t) d0 (iblk m c 0 t)) (iblk m c 2 t) (iblk m c 3 t)) :=
    (win0_6.cut_fill _ _ _).trans (funext fun x => (point6 m c t d0 x).symm)
  rw [e]
  exact (win0_6.fill_cut _ _).symm

theorem leaves7 (c : Dev nD) (t : Fin cfg0.N) (d0) (d1) :
    Proj.outS 1 (win0_0.fill (grid0.coords t) d0 (iblk m c 0 t)) (win0_1.fill (grid0.coords t) d1 (iblk m c 1 t)) (iblk m c 2 t) (iblk m c 3 t) = win0_7.fill (grid0.coords t) (Proj.outS 1 (win0_0.fill (grid0.coords t) d0 (iblk m c 0 t)) (win0_1.fill (grid0.coords t) d1 (iblk m c 1 t)) (iblk m c 2 t) (iblk m c 3 t)) (win0_7.cut (grid0.coords t) (left7 m c t)) := by
  have e : win0_7.cut (grid0.coords t) (left7 m c t) = win0_7.cut (grid0.coords t) (Proj.outS 1 (win0_0.fill (grid0.coords t) d0 (iblk m c 0 t)) (win0_1.fill (grid0.coords t) d1 (iblk m c 1 t)) (iblk m c 2 t) (iblk m c 3 t)) :=
    (win0_7.cut_fill _ _ _).trans (funext fun x => (point7 m c t d0 d1 x).symm)
  rw [e]
  exact (win0_7.fill_cut _ _).symm

theorem leaves8 (c : Dev nD) (t : Fin cfg0.N) (d0) :
    Proj.outC 2 (win0_0.fill (grid0.coords t) d0 (iblk m c 0 t)) (iblk m c 2 t) (iblk m c 3 t) = win0_8.fill (grid0.coords t) (Proj.outC 2 (win0_0.fill (grid0.coords t) d0 (iblk m c 0 t)) (iblk m c 2 t) (iblk m c 3 t)) (win0_8.cut (grid0.coords t) (left8 m c t)) := by
  have e : win0_8.cut (grid0.coords t) (left8 m c t) = win0_8.cut (grid0.coords t) (Proj.outC 2 (win0_0.fill (grid0.coords t) d0 (iblk m c 0 t)) (iblk m c 2 t) (iblk m c 3 t)) :=
    (win0_8.cut_fill _ _ _).trans (funext fun x => (point8 m c t d0 x).symm)
  rw [e]
  exact (win0_8.fill_cut _ _).symm

theorem leaves9 (c : Dev nD) (t : Fin cfg0.N) (d0) (d1) :
    Proj.outS 2 (win0_0.fill (grid0.coords t) d0 (iblk m c 0 t)) (win0_1.fill (grid0.coords t) d1 (iblk m c 1 t)) (iblk m c 2 t) (iblk m c 3 t) = win0_9.fill (grid0.coords t) (Proj.outS 2 (win0_0.fill (grid0.coords t) d0 (iblk m c 0 t)) (win0_1.fill (grid0.coords t) d1 (iblk m c 1 t)) (iblk m c 2 t) (iblk m c 3 t)) (win0_9.cut (grid0.coords t) (left9 m c t)) := by
  have e : win0_9.cut (grid0.coords t) (left9 m c t) = win0_9.cut (grid0.coords t) (Proj.outS 2 (win0_0.fill (grid0.coords t) d0 (iblk m c 0 t)) (win0_1.fill (grid0.coords t) d1 (iblk m c 1 t)) (iblk m c 2 t) (iblk m c 3 t)) :=
    (win0_9.cut_fill _ _ _).trans (funext fun x => (point9 m c t d0 d1 x).symm)
  rw [e]
  exact (win0_9.fill_cut _ _).symm

set_option maxHeartbeats 1200000 in
/-- The body at any point. -/
theorem vbody_obligation (c : Dev nD) : BodyObligationLoose (vdats m 0 c) (defs₀ (F := Ideal)) Variants.none () Set.univ := fun t => by
  rw [bigSep_W0, bigSep_W0, defs₀_row]
  unfold bodyAt0
  rw [show (vdats m 0 c).Φ t.succ = (vdats m 0 c).Φ t.castSucc from rfl,
    show (vdats m 0 c).owesAt () t.succ = (vdats m 0 c).owesAt () t.castSucc from rfl]
  rw [show (vdats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [vbefore0_0, vbefore0_1, vbefore0_2, vbefore0_3, cc0_project_eq]
  iapply (Proj.wp_frame_wand (Proj.body_tri (c := c) (defs := defs₀ (F := Ideal)) _ _ _ _ _ _ _ _ _ _ _ _ _ _ _ _
    (win0_0.fill (grid0.coords t) d0 (iblk m c 0 t)) (win0_1.fill (grid0.coords t) d1 (iblk m c 1 t)) (iblk m c 2 t) (iblk m c 3 t) Set.univ))
  isplitl [H0 H1 H2 H3 H4 H5 H6 H7 H8 H9 HS0 HS1 HS2]
  · isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    iexact HS2
  iintro ⟨H0, H1, H2, H3, H4, H5, H6, H7, H8, H9, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  have hx : win0_0.cut (grid0.coords t) (hblk m c t) = iblk m c 0 t := win0_0.cut_fill _ _ _
  have hy : win0_1.cut (grid0.coords t) (hsblk m c t) = iblk m c 1 t := win0_1.cut_fill _ _ _
  isplitl [H0]
  · iexists d0
    change _ ⊢ owns (c : Thread nD τ) (stage0_0 (cfg0.slots t 0)) fullShare (win0_0.fill (grid0.coords t) d0 (win0_0.cut (grid0.coords t) (hblk m c t)))
    rw [hx]
  isplitl [H1]
  · iexists d1
    change _ ⊢ owns (c : Thread nD τ) (stage0_1 (cfg0.slots t 1)) fullShare (win0_1.fill (grid0.coords t) d1 (win0_1.cut (grid0.coords t) (hsblk m c t)))
    rw [hy]
  isplitl [H2]
  · change _ ⊢ owns (c : Thread nD τ) (stage0_2 (cfg0.slots t 2)) fullShare ((vdats m 0 c).after 2 t)
    rw [vafter0_2]
  isplitl [H3]
  · change _ ⊢ owns (c : Thread nD τ) (stage0_3 (cfg0.slots t 3)) fullShare ((vdats m 0 c).after 3 t)
    rw [vafter0_3]
  isplitl [H4]
  · iexists (Proj.outC 0 (win0_0.fill (grid0.coords t) d0 (iblk m c 0 t)) (iblk m c 2 t) (iblk m c 3 t))
    change _ ⊢ owns (c : Thread nD τ) (stage0_4 (cfg0.slots t 4)) fullShare (win0_4.fill (grid0.coords t) (Proj.outC 0 (win0_0.fill (grid0.coords t) d0 (iblk m c 0 t)) (iblk m c 2 t) (iblk m c 3 t)) (win0_4.cut (grid0.coords t) (left4 m c t)))
    rw [← leaves4 m c t d0]
  isplitl [H5]
  · iexists (Proj.outS 0 (win0_0.fill (grid0.coords t) d0 (iblk m c 0 t)) (win0_1.fill (grid0.coords t) d1 (iblk m c 1 t)) (iblk m c 2 t) (iblk m c 3 t))
    change _ ⊢ owns (c : Thread nD τ) (stage0_5 (cfg0.slots t 5)) fullShare (win0_5.fill (grid0.coords t) (Proj.outS 0 (win0_0.fill (grid0.coords t) d0 (iblk m c 0 t)) (win0_1.fill (grid0.coords t) d1 (iblk m c 1 t)) (iblk m c 2 t) (iblk m c 3 t)) (win0_5.cut (grid0.coords t) (left5 m c t)))
    rw [← leaves5 m c t d0 d1]
  isplitl [H6]
  · iexists (Proj.outC 1 (win0_0.fill (grid0.coords t) d0 (iblk m c 0 t)) (iblk m c 2 t) (iblk m c 3 t))
    change _ ⊢ owns (c : Thread nD τ) (stage0_6 (cfg0.slots t 6)) fullShare (win0_6.fill (grid0.coords t) (Proj.outC 1 (win0_0.fill (grid0.coords t) d0 (iblk m c 0 t)) (iblk m c 2 t) (iblk m c 3 t)) (win0_6.cut (grid0.coords t) (left6 m c t)))
    rw [← leaves6 m c t d0]
  isplitl [H7]
  · iexists (Proj.outS 1 (win0_0.fill (grid0.coords t) d0 (iblk m c 0 t)) (win0_1.fill (grid0.coords t) d1 (iblk m c 1 t)) (iblk m c 2 t) (iblk m c 3 t))
    change _ ⊢ owns (c : Thread nD τ) (stage0_7 (cfg0.slots t 7)) fullShare (win0_7.fill (grid0.coords t) (Proj.outS 1 (win0_0.fill (grid0.coords t) d0 (iblk m c 0 t)) (win0_1.fill (grid0.coords t) d1 (iblk m c 1 t)) (iblk m c 2 t) (iblk m c 3 t)) (win0_7.cut (grid0.coords t) (left7 m c t)))
    rw [← leaves7 m c t d0 d1]
  isplitl [H8]
  · iexists (Proj.outC 2 (win0_0.fill (grid0.coords t) d0 (iblk m c 0 t)) (iblk m c 2 t) (iblk m c 3 t))
    change _ ⊢ owns (c : Thread nD τ) (stage0_8 (cfg0.slots t 8)) fullShare (win0_8.fill (grid0.coords t) (Proj.outC 2 (win0_0.fill (grid0.coords t) d0 (iblk m c 0 t)) (iblk m c 2 t) (iblk m c 3 t)) (win0_8.cut (grid0.coords t) (left8 m c t)))
    rw [← leaves8 m c t d0]
  · iexists (Proj.outS 2 (win0_0.fill (grid0.coords t) d0 (iblk m c 0 t)) (win0_1.fill (grid0.coords t) d1 (iblk m c 1 t)) (iblk m c 2 t) (iblk m c 3 t))
    change _ ⊢ owns (c : Thread nD τ) (stage0_9 (cfg0.slots t 9)) fullShare (win0_9.fill (grid0.coords t) (Proj.outS 2 (win0_0.fill (grid0.coords t) d0 (iblk m c 0 t)) (win0_1.fill (grid0.coords t) d1 (iblk m c 1 t)) (iblk m c 2 t) (iblk m c 3 t)) (win0_9.cut (grid0.coords t) (left9 m c t)))
    rw [← leaves9 m c t d0 d1]

set_option backward.isDefEq.respectTransparency.types false in
theorem vrun_main : θ_run defs (onTc (τ := τ) (main (F := Ideal))) (s₀ m ρ) (Pipeline.FramePost cfgs (vdats m) 0 (V m)) :=
  Pipeline.θ_run_frame cfgs (vdats m) (0 : Fin 1) launch0 defs₀ Variants.none m ρ main
    (hbody := fun c => vbody_obligation m c) (hshare := fun c => (vdats m 0 c).share_full fun _ => rfl)
    (howed := fun _ _ => rfl) (V := V m) (hmain := hmain m Variants.none) (hA := vA_eq m) (hΦ := fun _ _ => rfl)

theorem arr4 (c : Dev nD) : (vdats m 0 c).arrAt 4 cfg0.N = resC m 0 c :=
  (vdats m 0 c).arrAt_eq_of_cover 4 (resC m 0 c)
    (fun t _ => by
      refine Eq.trans (b := win0_4.cut (grid0.coords t) (left4 m c t)) ?_ (win0_4.cut_fill _ _ _)
      rfl)
    (fun y => by
      obtain ⟨t, hf, hy⟩ := cover4 y
      exact ⟨t, hf, (Finset.ext_iff.mp (View.set_slice_whole main_v7_0 (win0_4.rect t)) y).mpr hy⟩)

theorem arr5 (c : Dev nD) : (vdats m 0 c).arrAt 5 cfg0.N = resS m 0 c :=
  (vdats m 0 c).arrAt_eq_of_cover 5 (resS m 0 c)
    (fun t _ => by
      refine Eq.trans (b := win0_5.cut (grid0.coords t) (left5 m c t)) ?_ (win0_5.cut_fill _ _ _)
      rfl)
    (fun y => by
      obtain ⟨t, hf, hy⟩ := cover5 y
      exact ⟨t, hf, (Finset.ext_iff.mp (View.set_slice_whole main_v7_1 (win0_5.rect t)) y).mpr hy⟩)

theorem arr6 (c : Dev nD) : (vdats m 0 c).arrAt 6 cfg0.N = resC m 1 c :=
  (vdats m 0 c).arrAt_eq_of_cover 6 (resC m 1 c)
    (fun t _ => by
      refine Eq.trans (b := win0_6.cut (grid0.coords t) (left6 m c t)) ?_ (win0_6.cut_fill _ _ _)
      rfl)
    (fun y => by
      obtain ⟨t, hf, hy⟩ := cover6 y
      exact ⟨t, hf, (Finset.ext_iff.mp (View.set_slice_whole main_v7_2 (win0_6.rect t)) y).mpr hy⟩)

theorem arr7 (c : Dev nD) : (vdats m 0 c).arrAt 7 cfg0.N = resS m 1 c :=
  (vdats m 0 c).arrAt_eq_of_cover 7 (resS m 1 c)
    (fun t _ => by
      refine Eq.trans (b := win0_7.cut (grid0.coords t) (left7 m c t)) ?_ (win0_7.cut_fill _ _ _)
      rfl)
    (fun y => by
      obtain ⟨t, hf, hy⟩ := cover7 y
      exact ⟨t, hf, (Finset.ext_iff.mp (View.set_slice_whole main_v7_3 (win0_7.rect t)) y).mpr hy⟩)

theorem arr8 (c : Dev nD) : (vdats m 0 c).arrAt 8 cfg0.N = resC m 2 c :=
  (vdats m 0 c).arrAt_eq_of_cover 8 (resC m 2 c)
    (fun t _ => by
      refine Eq.trans (b := win0_8.cut (grid0.coords t) (left8 m c t)) ?_ (win0_8.cut_fill _ _ _)
      rfl)
    (fun y => by
      obtain ⟨t, hf, hy⟩ := cover8 y
      exact ⟨t, hf, (Finset.ext_iff.mp (View.set_slice_whole main_v7_4 (win0_8.rect t)) y).mpr hy⟩)

theorem arr9 (c : Dev nD) : (vdats m 0 c).arrAt 9 cfg0.N = resS m 2 c :=
  (vdats m 0 c).arrAt_eq_of_cover 9 (resS m 2 c)
    (fun t _ => by
      refine Eq.trans (b := win0_9.cut (grid0.coords t) (left9 m c t)) ?_ (win0_9.cut_fill _ _ _)
      rfl)
    (fun y => by
      obtain ⟨t, hf, hy⟩ := cover9 y
      exact ⟨t, hf, (Finset.ext_iff.mp (View.set_slice_whole main_v7_5 (win0_9.rect t)) y).mpr hy⟩)

end Cert.KernelIdeal.Gen

end
-- ==== Proof.KernelIdealHost.lean ====
/-
  The two arrays the kernel's host code prepares: the three weight matrices transposed and stacked, and
  the three rows of channel scales stacked and repeated along the lanes.
-/
module

public import proofs.«01_k».proof.Proof.KernelIdealBlocks
public import Idealize.ShloMosaic.Lib.Pipeline.ValueKit

@[expose] public section

set_option maxRecDepth 16384

noncomputable section

namespace Cert.KernelIdeal.Gen

open Idealize.ShloMosaic Idealize.ShloMosaic.TcCoe Idealize.ShloMosaic.ValueIdx
open Idealize.SL.Sem

variable (m : (ℓ : Loc nD τ sig) → Buf (Elt Ideal) ℓ)

theorem tr_apply (x : Vec Ideal S1024x1024 .fp8e4m3) (o k : Fin 1024) :
    transpose S1024x1024 [1, 0] x transposes_S1024x1024_S1024x1024_1_0 (ValueIdx.ix2 o k) = x (ValueIdx.ix2 k o) :=
  transpose_apply _ _ _ _ (ValueIdx.ix2 k o) fun a => by
    match a with
    | ⟨0, _⟩ => rfl
    | ⟨1, _⟩ => rfl

theorem catW0 (x0 x1 x2 : Vec Ideal S1024x1024 .fp8e4m3) (h) (o k : Fin 1024) :
    concatenate S3072x1024 0 [⟨S1024x1024, x0⟩, ⟨S1024x1024, x1⟩, ⟨S1024x1024, x2⟩] h (ValueIdx.ix2 (⟨1024 * 0 + o.val, by omega⟩ : Fin 3072) k)
      = x0 (ValueIdx.ix2 o k) := by
  refine concatenate_apply_piece (t := S3072x1024) 0 [⟨S1024x1024, x0⟩, ⟨S1024x1024, x1⟩, ⟨S1024x1024, x2⟩] h _ 0
    (show 0 < 3 by omega) S1024x1024 x0 rfl rfl 0 rfl (ValueIdx.ix2 o k) (fun b hb => ?_) ?_
  · match b, hb with
    | ⟨0, _⟩, hb => exact absurd rfl hb
    | ⟨1, _⟩, _ => rfl
  · show 0 + o.val = 1024 * 0 + o.val
    omega

theorem catS0 (x0 x1 x2 : Vec Ideal S1024 .f32) (h) (o : Fin 1024) :
    concatenate S3072 0 [⟨S1024, x0⟩, ⟨S1024, x1⟩, ⟨S1024, x2⟩] h (ValueIdx.ix1 (⟨1024 * 0 + o.val, by omega⟩ : Fin 3072))
      = x0 (ValueIdx.ix1 o) := by
  refine concatenate_apply_piece (t := S3072) 0 [⟨S1024, x0⟩, ⟨S1024, x1⟩, ⟨S1024, x2⟩] h _ 0
    (show 0 < 3 by omega) S1024 x0 rfl rfl 0 rfl (ValueIdx.ix1 o) (fun b hb => ?_) ?_
  · match b, hb with
    | ⟨0, _⟩, hb => exact absurd rfl hb
  · show 0 + o.val = 1024 * 0 + o.val
    omega

theorem catW1 (x0 x1 x2 : Vec Ideal S1024x1024 .fp8e4m3) (h) (o k : Fin 1024) :
    concatenate S3072x1024 0 [⟨S1024x1024, x0⟩, ⟨S1024x1024, x1⟩, ⟨S1024x1024, x2⟩] h (ValueIdx.ix2 (⟨1024 * 1 + o.val, by omega⟩ : Fin 3072) k)
      = x1 (ValueIdx.ix2 o k) := by
  refine concatenate_apply_piece (t := S3072x1024) 0 [⟨S1024x1024, x0⟩, ⟨S1024x1024, x1⟩, ⟨S1024x1024, x2⟩] h _ 1
    (show 1 < 3 by omega) S1024x1024 x1 rfl rfl 1024 rfl (ValueIdx.ix2 o k) (fun b hb => ?_) ?_
  · match b, hb with
    | ⟨0, _⟩, hb => exact absurd rfl hb
    | ⟨1, _⟩, _ => rfl
  · show 1024 + o.val = 1024 * 1 + o.val
    omega

theorem catS1 (x0 x1 x2 : Vec Ideal S1024 .f32) (h) (o : Fin 1024) :
    concatenate S3072 0 [⟨S1024, x0⟩, ⟨S1024, x1⟩, ⟨S1024, x2⟩] h (ValueIdx.ix1 (⟨1024 * 1 + o.val, by omega⟩ : Fin 3072))
      = x1 (ValueIdx.ix1 o) := by
  refine concatenate_apply_piece (t := S3072) 0 [⟨S1024, x0⟩, ⟨S1024, x1⟩, ⟨S1024, x2⟩] h _ 1
    (show 1 < 3 by omega) S1024 x1 rfl rfl 1024 rfl (ValueIdx.ix1 o) (fun b hb => ?_) ?_
  · match b, hb with
    | ⟨0, _⟩, hb => exact absurd rfl hb
  · show 1024 + o.val = 1024 * 1 + o.val
    omega

theorem catW2 (x0 x1 x2 : Vec Ideal S1024x1024 .fp8e4m3) (h) (o k : Fin 1024) :
    concatenate S3072x1024 0 [⟨S1024x1024, x0⟩, ⟨S1024x1024, x1⟩, ⟨S1024x1024, x2⟩] h (ValueIdx.ix2 (⟨1024 * 2 + o.val, by omega⟩ : Fin 3072) k)
      = x2 (ValueIdx.ix2 o k) := by
  refine concatenate_apply_piece (t := S3072x1024) 0 [⟨S1024x1024, x0⟩, ⟨S1024x1024, x1⟩, ⟨S1024x1024, x2⟩] h _ 2
    (show 2 < 3 by omega) S1024x1024 x2 rfl rfl 2048 rfl (ValueIdx.ix2 o k) (fun b hb => ?_) ?_
  · match b, hb with
    | ⟨0, _⟩, hb => exact absurd rfl hb
    | ⟨1, _⟩, _ => rfl
  · show 2048 + o.val = 1024 * 2 + o.val
    omega

theorem catS2 (x0 x1 x2 : Vec Ideal S1024 .f32) (h) (o : Fin 1024) :
    concatenate S3072 0 [⟨S1024, x0⟩, ⟨S1024, x1⟩, ⟨S1024, x2⟩] h (ValueIdx.ix1 (⟨1024 * 2 + o.val, by omega⟩ : Fin 3072))
      = x2 (ValueIdx.ix1 o) := by
  refine concatenate_apply_piece (t := S3072) 0 [⟨S1024, x0⟩, ⟨S1024, x1⟩, ⟨S1024, x2⟩] h _ 2
    (show 2 < 3 by omega) S1024 x2 rfl rfl 2048 rfl (ValueIdx.ix1 o) (fun b hb => ?_) ?_
  · match b, hb with
    | ⟨0, _⟩, hb => exact absurd rfl hb
  · show 2048 + o.val = 1024 * 2 + o.val
    omega

theorem lanes_apply (x : Vec Ideal S3072 .f32) (h1) (h2) (j : Fin 3072) (l : Fin 128) :
    broadcastInDim S3072x128 ![0, 1] h2 (broadcastInDim S3072x1 ![0] h1 x) (ValueIdx.ix2 j l) = x (ValueIdx.ix1 j) := by
  refine (broadcastInDim_apply _ _ _ _ (ValueIdx.ix2 j (0 : Fin 1)) fun a => ?_).trans ?_
  · match a with
    | ⟨0, _⟩ => rfl
    | ⟨1, _⟩ => rfl
  refine broadcastInDim_apply _ _ _ _ (ValueIdx.ix1 j) fun a => ?_
  match a with
  | ⟨0, _⟩ => rfl

theorem V_v3 (c : Dev nD) : V m c main_v3 = concatenate S3072x1024 0
    [⟨S1024x1024, transpose S1024x1024 [1, 0] (m ((c : Thread nD τ).loc main_arg2)) transposes_S1024x1024_S1024x1024_1_0⟩,
     ⟨S1024x1024, transpose S1024x1024 [1, 0] (m ((c : Thread nD τ).loc main_arg3)) transposes_S1024x1024_S1024x1024_1_0⟩,
     ⟨S1024x1024, transpose S1024x1024 [1, 0] (m ((c : Thread nD τ).loc main_arg4)) transposes_S1024x1024_S1024x1024_1_0⟩]
    concatenates_S1024x1024_S1024x1024_S1024x1024_S3072x1024_d0 := by
  rfl

theorem V_v6 (c : Dev nD) : V m c main_v6 = broadcastInDim S3072x128 ![0, 1] bcast_S3072x1_S3072x128_0_1
    (broadcastInDim S3072x1 ![0] bcast_S3072_S3072x1_0 (concatenate S3072 0
      [⟨S1024, m ((c : Thread nD τ).loc main_arg5)⟩, ⟨S1024, m ((c : Thread nD τ).loc main_arg6)⟩,
       ⟨S1024, m ((c : Thread nD τ).loc main_arg7)⟩] concatenates_S1024_S1024_S1024_S3072_d0)) := by
  rfl

theorem V_w0 (c : Dev nD) (o k : Fin 1024) :
    V m c main_v3 (ValueIdx.ix2 (⟨1024 * 0 + o.val, by omega⟩ : Fin 3072) k) = m ((c : Thread nD τ).loc main_arg2) (ValueIdx.ix2 k o) :=
  (congrFun (V_v3 m c) _).trans ((catW0 _ _ _ _ o k).trans (tr_apply _ o k))

theorem V_s0 (c : Dev nD) (o : Fin 1024) (l : Fin 128) :
    V m c main_v6 (ValueIdx.ix2 (⟨1024 * 0 + o.val, by omega⟩ : Fin 3072) l) = m ((c : Thread nD τ).loc main_arg5) (ValueIdx.ix1 o) :=
  (congrFun (V_v6 m c) _).trans ((lanes_apply _ _ _ _ l).trans (catS0 _ _ _ _ o))

theorem V_w1 (c : Dev nD) (o k : Fin 1024) :
    V m c main_v3 (ValueIdx.ix2 (⟨1024 * 1 + o.val, by omega⟩ : Fin 3072) k) = m ((c : Thread nD τ).loc main_arg3) (ValueIdx.ix2 k o) :=
  (congrFun (V_v3 m c) _).trans ((catW1 _ _ _ _ o k).trans (tr_apply _ o k))

theorem V_s1 (c : Dev nD) (o : Fin 1024) (l : Fin 128) :
    V m c main_v6 (ValueIdx.ix2 (⟨1024 * 1 + o.val, by omega⟩ : Fin 3072) l) = m ((c : Thread nD τ).loc main_arg6) (ValueIdx.ix1 o) :=
  (congrFun (V_v6 m c) _).trans ((lanes_apply _ _ _ _ l).trans (catS1 _ _ _ _ o))

theorem V_w2 (c : Dev nD) (o k : Fin 1024) :
    V m c main_v3 (ValueIdx.ix2 (⟨1024 * 2 + o.val, by omega⟩ : Fin 3072) k) = m ((c : Thread nD τ).loc main_arg4) (ValueIdx.ix2 k o) :=
  (congrFun (V_v3 m c) _).trans ((catW2 _ _ _ _ o k).trans (tr_apply _ o k))

theorem V_s2 (c : Dev nD) (o : Fin 1024) (l : Fin 128) :
    V m c main_v6 (ValueIdx.ix2 (⟨1024 * 2 + o.val, by omega⟩ : Fin 3072) l) = m ((c : Thread nD τ).loc main_arg7) (ValueIdx.ix1 o) :=
  (congrFun (V_v6 m c) _).trans ((lanes_apply _ _ _ _ l).trans (catS2 _ _ _ _ o))

end Cert.KernelIdeal.Gen
-- ==== Proof.RefSpec.lean ====
/-
  What the reference's body leaves in its results over the extended reals, index by index.
-/
module

public import proofs.«01_k».proof.Proof.Gen.ReferenceIdeal.Frame
public import proofs.«01_k».proof.Proof.Results

@[expose] public section

set_option maxRecDepth 16384

noncomputable section

namespace Cert.ReferenceIdeal.Gen

open Idealize.ShloMosaic Idealize.SL.Sem Idealize.ShloMosaic.ValueIdx
open Cert.Proj (expE codeE scaleE top64)

abbrev dimsR := dot_S2x10880x1024_S1024x1024_S2x10880x1024_2_0_01_1_n_n

theorem dimsR_contr_rank : dimsR.contr.rank = 1 := rfl
theorem dimsR_contr_size : dimsR.contr.size ⟨0, by rw [dimsR_contr_rank]; omega⟩ = 1024 := rfl

variable (h : Vec Ideal S2x10880x1024 .fp8e4m3) (hs : Vec Ideal S2x1x10880 .f32) (w : Vec Ideal S1024x1024 .fp8e4m3)
  (s : Vec Ideal S1x1x1024 .f32)

/-- The projected value of channel `o` of node `n` of graph `b`. -/
def refP (b : Fin 2) (n : Fin 10880) (o : Fin 1024) : EReal :=
  ((∑ k : Fin 1024, h (ix3 b n k) * w (ix2 k o)) * hs (ix3 b (0 : Fin 1) n)) * s (ix3 (0 : Fin 1) (0 : Fin 1) o)

theorem dotR_apply (b : Fin 2) (n : Fin 10880) (o : Fin 1024) :
    matmul (φ₁ := .fp8e4m3) (φ₂ := .fp8e4m3) dimsR none h w (constant S2x10880x1024 .f32 0x00000000#32 : FVec Ideal S2x10880x1024 .f32) (ix3 b n o)
      = ∑ k : Fin 1024, (h (ix3 b n k) * w (ix2 k o) : EReal) := by
  refine (Ideal.matmul_constant_zero_apply (φ₁ := .fp8e4m3) (φ₂ := .fp8e4m3) dimsR none _ _ _).trans ?_
  rw [← Equiv.sum_comp (contrEquiv1 dimsR 1024 dimsR_contr_rank dimsR_contr_size).symm]
  refine Finset.sum_congr rfl fun k _ => ?_
  have hk := contrEquiv1_symm_val dimsR 1024 dimsR_contr_rank dimsR_contr_size k
  congr 2
  · funext c; refine Fin.ext ?_
    match c with
    | ⟨0, _⟩ => rfl
    | ⟨1, _⟩ => rfl
    | ⟨2, _⟩ => exact hk
  · funext c; refine Fin.ext ?_
    match c with
    | ⟨0, _⟩ => exact hk
    | ⟨1, _⟩ => rfl

theorem pay4_apply (b : Fin 2) (n : Fin 10880) (hd : Fin 16) (r : Fin 64) :
    k0_pay4 h hs w s (ix4 b n hd r) = refP h hs w s b n ⟨64 * hd.val + r.val, by omega⟩ := by
  unfold k0_pay4 refP
  refine (shapeCast_apply _ _ _ (ix3 b n (⟨64 * hd.val + r.val, by omega⟩ : Fin 1024)) ?_).trans ?_
  · rw [Shape.rowMajor_val_three, Shape.rowMajor_val_four]
    show (b.val * 10880 + n.val) * 1024 + (64 * hd.val + r.val) = ((b.val * 10880 + n.val) * 16 + hd.val) * 64 + r.val
    omega
  refine congrArg₂ (fun x y : EReal => x * y) (congrArg₂ (fun x y : EReal => x * y) (dotR_apply h w b n _) ?_) ?_
  · refine (broadcastTo_apply _ _ _ (ix3 b n (0 : Fin 1)) fun a => ?_).trans ?_
    · match a with
      | ⟨0, _⟩ => rfl
      | ⟨1, _⟩ => rfl
      | ⟨2, _⟩ => rfl
    refine (shapeCast_apply _ _ _ (ix2 b n) ?_).trans (shapeCast_apply _ _ _ (ix3 b (0 : Fin 1) n) ?_)
    · rw [Shape.rowMajor_val_two, Shape.rowMajor_val_three]
      show b.val * 10880 + n.val = (b.val * 10880 + n.val) * 1 + 0
      omega
    · rw [Shape.rowMajor_val_three, Shape.rowMajor_val_two]
      show (b.val * 1 + 0) * 10880 + n.val = b.val * 10880 + n.val
      omega
  · refine (broadcastTo_apply _ _ _ (ix3 (0 : Fin 1) (0 : Fin 1) (⟨64 * hd.val + r.val, by omega⟩ : Fin 1024)) fun a => ?_).trans ?_
    · match a with
      | ⟨0, _⟩ => rfl
      | ⟨1, _⟩ => rfl
      | ⟨2, _⟩ => rfl
    exact congrFun (shapeCast_self _ _) _

/-- The largest magnitude of a head's row. -/
def refA (b : Fin 2) (n : Fin 10880) (hd : Fin 16) : EReal :=
  top64 fun r => refP h hs w s b n ⟨64 * hd.val + r.val, by omega⟩

theorem pay15_apply (b : Fin 2) (n : Fin 10880) (hd : Fin 16) :
    k0_pay15 h hs w s (ix4 b n hd (0 : Fin 1)) = refA h hs w s b n hd := by
  unfold k0_pay15 refA top64
  refine (shapeCast_apply _ _ _ (ix3 b n hd) ?_).trans ?_
  · rw [Shape.rowMajor_val_three, Shape.rowMajor_val_four]
    show (b.val * 10880 + n.val) * 16 + hd.val = ((b.val * 10880 + n.val) * 16 + hd.val) * 1 + 0
    omega
  refine (Ideal.multiReduction_maximumf_single _ _ _ _ _ _).trans ?_
  have hbot : (FloatOps.ofBits (F := Ideal) .f32 0xFF800000#32 : EReal) = ⊥ := by
    show Ideal.ofBits .f32 0xFF800000#32 = ⊥
    simp [Ideal.ofBits, Ideal.ieee]
  show Finset.fold max (FloatOps.ofBits (F := Ideal) .f32 0xFF800000#32 : EReal) _ _ = _
  rw [hbot, Finset.sup_def]
  refine Finset.fold_congr fun r _ => ?_
  have hl : reduces_S2x10880x16x64_S2x10880x16.lift (ix3 b n hd) r = ix4 b n hd r := by
    funext c; refine Fin.ext ?_
    match c with
    | ⟨0, _⟩ => rfl
    | ⟨1, _⟩ => rfl
    | ⟨2, _⟩ => rfl
    | ⟨3, _⟩ => rfl
  show (max (k0_pay14 h hs w s _) (-(k0_pay14 h hs w s _)) : EReal) = _
  rw [hl]
  exact congrArg (fun x : EReal => max x (-x)) (pay4_apply h hs w s b n hd r)

/-- The exponent of a scale, from the largest magnitudes, as the reference computes it. -/
def expR {S : Shape} (a : FVec Ideal S .f32) : FVec Ideal S .f32 :=
  select (cmpf .oeq a (broadcast S (Scalar.ofBits .f32 0x00000000#32 : Ideal .f32))) (broadcast S (Scalar.ofBits .f32 0x00000000#32 : Ideal .f32))
    (addf (floor (divf (log (mulf a (broadcast S (Scalar.ofBits .f32 0x3B124925#32 : Ideal .f32)))) (log (broadcast S (Scalar.ofBits .f32 0x40000000#32 : Ideal .f32)))))
      (broadcast S (Scalar.ofBits .f32 0x3F800000#32 : Ideal .f32)))

theorem expR_apply {S : Shape} (a : FVec Ideal S .f32) (y : S.Idx) : expR a y = expE (a y) := by
  unfold expE
  rw [← Ideal.ofBits_one_f32, ← Proj.select_eq_ite]
  unfold expR
  rw [← Ideal.ofBits_zero_f32]
  rfl

/-- The factor to the codes, from the exponents. -/
def downR {S : Shape} (e : FVec Ideal S .f32) : FVec Ideal S .f32 :=
  exp2 (subf (broadcast S (Scalar.ofBits .f32 0x00000000#32 : Ideal .f32)) e)

theorem downR_apply {S : Shape} (e : FVec Ideal S .f32) (y : S.Idx) : downR e y = Ideal.exp2 (0 - e y) := by
  rw [← Ideal.ofBits_zero_f32]
  rfl

/-- Scaled, clipped and cast. -/
def clipR {S : Shape} (p d : FVec Ideal S .f32) : FVec Ideal S .fp8e4m3 :=
  truncf .fp8e4m3 (minimumf (broadcast S (Scalar.ofBits .f32 0x43E00000#32 : Ideal .f32))
    (maximumf (broadcast S (Scalar.ofBits .f32 0xC3E00000#32 : Ideal .f32)) (mulf p d))) bitsLt_fp8e4m3_f32

theorem clipR_apply {S : Shape} (p d : FVec Ideal S .f32) (y : S.Idx) (a : EReal) (hd : d y = Ideal.exp2 (0 - expE a)) :
    clipR p d y = codeE a (p y) := by
  unfold codeE
  rw [← hd]
  rfl

theorem exp2_read {S : Shape} (e : FVec Ideal S .f32) (y : S.Idx) : (exp2 e : FVec Ideal S .f32) y = Ideal.exp2 (e y) := rfl

theorem pay5_eq : k0_pay5 h hs w s = expR (k0_pay15 h hs w s) := by
  unfold k0_pay5 expR k0_pay15 k0_pay14 k0_pay4
  rfl

theorem pay6_eq : k0_pay6 h hs w s = clipR (k0_pay4 h hs w s)
    (broadcastTo S2x10880x16x64 (downR (k0_pay5 h hs w s)) broadcasts_S2x10880x16x1_S2x10880x16x64) := by
  unfold k0_pay6 clipR downR
  rfl

theorem pay5_apply (b : Fin 2) (n : Fin 10880) (hd : Fin 16) :
    k0_pay5 h hs w s (ix4 b n hd (0 : Fin 1)) = expE (refA h hs w s b n hd) := by
  rw [← pay15_apply, ← expR_apply, pay5_eq]

theorem pay8_apply (b : Fin 2) (n : Fin 10880) (hd : Fin 16) :
    k0_pay8 (k0_pay5 h hs w s) (ix3 b hd n) = scaleE (refA h hs w s b n hd) := by
  unfold k0_pay8
  refine (transpose_apply _ _ _ _ (ix3 b n hd) fun a => ?_).trans ?_
  · match a with
    | ⟨0, _⟩ => rfl
    | ⟨1, _⟩ => rfl
    | ⟨2, _⟩ => rfl
  refine (shapeCast_apply _ _ _ (ix4 b n hd (0 : Fin 1)) ?_).trans ?_
  · rw [Shape.rowMajor_val_three, Shape.rowMajor_val_four]
    show ((b.val * 10880 + n.val) * 16 + hd.val) * 1 + 0 = (b.val * 10880 + n.val) * 16 + hd.val
    omega
  exact (exp2_read _ _).trans (congrArg Ideal.exp2 (pay5_apply h hs w s b n hd))

theorem pay6_apply (b : Fin 2) (n : Fin 10880) (hd : Fin 16) (r : Fin 64) :
    k0_pay6 h hs w s (ix4 b n hd r) = codeE (refA h hs w s b n hd) (refP h hs w s b n ⟨64 * hd.val + r.val, by omega⟩) := by
  rw [← pay4_apply, pay6_eq]
  refine clipR_apply _ _ _ _ ?_
  refine (broadcastTo_apply _ _ _ (ix4 b n hd (0 : Fin 1)) fun a => ?_).trans ?_
  · match a with
    | ⟨0, _⟩ => rfl
    | ⟨1, _⟩ => rfl
    | ⟨2, _⟩ => rfl
    | ⟨3, _⟩ => rfl
  rw [downR_apply, pay5_apply]

theorem pay7_apply (b : Fin 2) (n : Fin 10880) (o : Fin 1024) :
    k0_pay7 (k0_pay6 h hs w s) (ix3 b o n) = codeE (refA h hs w s b n ⟨o.val / 64, by omega⟩) (refP h hs w s b n o) := by
  unfold k0_pay7
  refine (transpose_apply _ _ _ _ (ix3 b n o) fun a => ?_).trans ?_
  · match a with
    | ⟨0, _⟩ => rfl
    | ⟨1, _⟩ => rfl
    | ⟨2, _⟩ => rfl
  refine (shapeCast_apply _ _ _ (ix4 b n (⟨o.val / 64, by omega⟩ : Fin 16) (⟨o.val % 64, by omega⟩ : Fin 64)) ?_).trans ?_
  · rw [Shape.rowMajor_val_three, Shape.rowMajor_val_four]
    show ((b.val * 10880 + n.val) * 16 + o.val / 64) * 64 + o.val % 64 = (b.val * 10880 + n.val) * 1024 + o.val
    omega
  refine (pay6_apply h hs w s _ _ _ _).trans ?_
  refine congrArg (fun o => codeE _ (refP h hs w s b n o)) (Fin.ext ?_)
  show 64 * (o.val / 64) + o.val % 64 = o.val
  omega

end Cert.ReferenceIdeal.Gen
-- ==== Proof.RefRun.lean ====
/-
  The six results of the reference's run over the extended reals: its one call computes them from whole
  arrays, the last three operands reshaped.
-/
module

public import proofs.«01_k».proof.Proof.RefSpec
public import Idealize.ShloMosaic.Lib.Pipeline.ValueKit

@[expose] public section

set_option maxRecDepth 16384

noncomputable section

namespace Cert.ReferenceIdeal.Gen

open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

theorem blk0_eq (c : Dev nD) (t : Fin cfg0.N) : iblk m c 0 t = V m c main_arg0 := by
  unfold iblk
  funext x
  refine congrArg (V m c main_arg0) (funext fun a => Fin.ext ?_)
  exact win0_0.rect_emb_val_of_index_zero t a rfl x

theorem blk1_eq (c : Dev nD) (t : Fin cfg0.N) : iblk m c 1 t = V m c main_arg1 := by
  unfold iblk
  funext x
  refine congrArg (V m c main_arg1) (funext fun a => Fin.ext ?_)
  exact win0_1.rect_emb_val_of_index_zero t a rfl x

theorem blk2_eq (c : Dev nD) (t : Fin cfg0.N) : iblk m c 2 t = V m c main_arg2 := by
  unfold iblk
  funext x
  refine congrArg (V m c main_arg2) (funext fun a => Fin.ext ?_)
  exact win0_2.rect_emb_val_of_index_zero t a rfl x

theorem blk3_eq (c : Dev nD) (t : Fin cfg0.N) : iblk m c 3 t = V m c main_arg3 := by
  unfold iblk
  funext x
  refine congrArg (V m c main_arg3) (funext fun a => Fin.ext ?_)
  exact win0_3.rect_emb_val_of_index_zero t a rfl x

theorem blk4_eq (c : Dev nD) (t : Fin cfg0.N) : iblk m c 4 t = V m c main_arg4 := by
  unfold iblk
  funext x
  refine congrArg (V m c main_arg4) (funext fun a => Fin.ext ?_)
  exact win0_4.rect_emb_val_of_index_zero t a rfl x

theorem blk5_eq (c : Dev nD) (t : Fin cfg0.N) : iblk m c 5 t = V m c main_v0 := by
  unfold iblk
  funext x
  refine congrArg (V m c main_v0) (funext fun a => Fin.ext ?_)
  exact win0_5.rect_emb_val_of_index_zero t a rfl x

theorem blk6_eq (c : Dev nD) (t : Fin cfg0.N) : iblk m c 6 t = V m c main_v1 := by
  unfold iblk
  funext x
  refine congrArg (V m c main_v1) (funext fun a => Fin.ext ?_)
  exact win0_6.rect_emb_val_of_index_zero t a rfl x

theorem blk7_eq (c : Dev nD) (t : Fin cfg0.N) : iblk m c 7 t = V m c main_v2 := by
  unfold iblk
  funext x
  refine congrArg (V m c main_v2) (funext fun a => Fin.ext ?_)
  exact win0_7.rect_emb_val_of_index_zero t a rfl x

/-- The codes a projection's weights `w` and channel scales `s` give. -/
def refC (h : Vec Ideal S2x10880x1024 .fp8e4m3) (hs : Vec Ideal S2x1x10880 .f32) (w : Vec Ideal S1024x1024 .fp8e4m3)
    (s : Vec Ideal S1x1x1024 .f32) : Vec Ideal S2x1024x10880 .fp8e4m3 := k0_pay7 (k0_pay6 h hs w s)
/-- And its scales. -/
def refS (h : Vec Ideal S2x10880x1024 .fp8e4m3) (hs : Vec Ideal S2x1x10880 .f32) (w : Vec Ideal S1024x1024 .fp8e4m3)
    (s : Vec Ideal S1x1x1024 .f32) : Vec Ideal S2x16x10880 .f32 := k0_pay8 (k0_pay5 h hs w s)

section

variable (x0 : Vec Ideal S2x10880x1024 .fp8e4m3) (x1 : Vec Ideal S2x1x10880 .f32) (x2 x3 x4 : Vec Ideal S1024x1024 .fp8e4m3)
  (x5 x6 x7 : Vec Ideal S1x1x1024 .f32)

theorem ld0 : View.ld x0 r0_0 = x0 := View.ld_unit_lit _ _ (by decide)
theorem ld1 : View.ld x1 r0_1 = x1 := View.ld_unit_lit _ _ (by decide)
theorem ld2 : View.ld x2 r0_2 = x2 := View.ld_unit_lit _ _ (by decide)
theorem ld3 : View.ld x5 r0_3 = x5 := View.ld_unit_lit _ _ (by decide)

theorem out8_eq : out0_8 x0 x1 x2 x3 x4 x5 x6 x7 = refC x0 x1 x2 x5 := by
  unfold out0_8
  refine (View.canon_cons_unit_lit _ _ _ (by decide)).trans ?_
  rw [ld0, ld1, ld2, ld3]
  rfl

theorem out9_eq : out0_9 x0 x1 x2 x3 x4 x5 x6 x7 = refS x0 x1 x2 x5 := by
  unfold out0_9
  refine (View.canon_cons_unit_lit _ _ _ (by decide)).trans ?_
  rw [ld0, ld1, ld2, ld3]
  rfl

theorem out10_eq : out0_10 x0 x1 x2 x3 x4 x5 x6 x7 = refC x0 x1 x3 x6 := by
  unfold out0_10
  refine (View.canon_cons_unit_lit _ _ _ (by decide)).trans ?_
  rw [ld0, ld1, ld2, ld3]
  rfl

theorem out11_eq : out0_11 x0 x1 x2 x3 x4 x5 x6 x7 = refS x0 x1 x3 x6 := by
  unfold out0_11
  refine (View.canon_cons_unit_lit _ _ _ (by decide)).trans ?_
  rw [ld0, ld1, ld2, ld3]
  rfl

theorem out12_eq : out0_12 x0 x1 x2 x3 x4 x5 x6 x7 = refC x0 x1 x4 x7 := by
  unfold out0_12
  refine (View.canon_cons_unit_lit _ _ _ (by decide)).trans ?_
  unfold k0_pay19 k0_pay20 k0_pay21
  rw [ld0, ld1, ld2, ld3]
  rfl

theorem out13_eq : out0_13 x0 x1 x2 x3 x4 x5 x6 x7 = refS x0 x1 x4 x7 := by
  unfold out0_13
  refine (View.canon_cons_unit_lit _ _ _ (by decide)).trans ?_
  unfold k0_pay19 k0_pay20 k0_pay21
  rw [ld0, ld1, ld2, ld3]
  rfl

end

theorem arr8 (c : Dev nD) : (dats m 0 c).arrAt 8 cfg0.N
    = refC (V m c main_arg0) (V m c main_arg1) (V m c main_arg2) (V m c main_v0) := by
  refine (dats m 0 c).arrAt_eq_of_after_last 8 t0_0 (by decide +kernel) _ fun j => ?_
  have h := (after0_8 m c t0_0).trans (out8_eq ..)
  rw [blk0_eq, blk1_eq, blk2_eq, blk5_eq] at h
  exact congrFun h j

theorem arr9 (c : Dev nD) : (dats m 0 c).arrAt 9 cfg0.N
    = refS (V m c main_arg0) (V m c main_arg1) (V m c main_arg2) (V m c main_v0) := by
  refine (dats m 0 c).arrAt_eq_of_after_last 9 t0_0 (by decide +kernel) _ fun j => ?_
  have h := (after0_9 m c t0_0).trans (out9_eq ..)
  rw [blk0_eq, blk1_eq, blk2_eq, blk5_eq] at h
  exact congrFun h j

theorem arr10 (c : Dev nD) : (dats m 0 c).arrAt 10 cfg0.N
    = refC (V m c main_arg0) (V m c main_arg1) (V m c main_arg3) (V m c main_v1) := by
  refine (dats m 0 c).arrAt_eq_of_after_last 10 t0_0 (by decide +kernel) _ fun j => ?_
  have h := (after0_10 m c t0_0).trans (out10_eq ..)
  rw [blk0_eq, blk1_eq, blk3_eq, blk6_eq] at h
  exact congrFun h j

theorem arr11 (c : Dev nD) : (dats m 0 c).arrAt 11 cfg0.N
    = refS (V m c main_arg0) (V m c main_arg1) (V m c main_arg3) (V m c main_v1) := by
  refine (dats m 0 c).arrAt_eq_of_after_last 11 t0_0 (by decide +kernel) _ fun j => ?_
  have h := (after0_11 m c t0_0).trans (out11_eq ..)
  rw [blk0_eq, blk1_eq, blk3_eq, blk6_eq] at h
  exact congrFun h j

theorem arr12 (c : Dev nD) : (dats m 0 c).arrAt 12 cfg0.N
    = refC (V m c main_arg0) (V m c main_arg1) (V m c main_arg4) (V m c main_v2) := by
  refine (dats m 0 c).arrAt_eq_of_after_last 12 t0_0 (by decide +kernel) _ fun j => ?_
  have h := (after0_12 m c t0_0).trans (out12_eq ..)
  rw [blk0_eq, blk1_eq, blk4_eq, blk7_eq] at h
  exact congrFun h j

theorem arr13 (c : Dev nD) : (dats m 0 c).arrAt 13 cfg0.N
    = refS (V m c main_arg0) (V m c main_arg1) (V m c main_arg4) (V m c main_v2) := by
  refine (dats m 0 c).arrAt_eq_of_after_last 13 t0_0 (by decide +kernel) _ fun j => ?_
  have h := (after0_13 m c t0_0).trans (out13_eq ..)
  rw [blk0_eq, blk1_eq, blk4_eq, blk7_eq] at h
  exact congrFun h j

theorem V_v0 (c : Dev nD) (o : Fin 1024) :
    V m c main_v0 (ValueIdx.ix3 (0 : Fin 1) (0 : Fin 1) o) = m ((c : Thread nD τ).loc main_arg5) (ValueIdx.ix1 o) := by
  entry_read
  refine (shapeCast_apply _ _ _ (ValueIdx.ix1 o) ?_)
  refine (Shape.rowMajor_val_one _).trans (Eq.trans ?_ (Shape.rowMajor_val_three (d := ![1, 1, 1024]) _).symm)
  show o.val = (0 * 1 + 0) * 1024 + o.val
  omega

theorem V_v1 (c : Dev nD) (o : Fin 1024) :
    V m c main_v1 (ValueIdx.ix3 (0 : Fin 1) (0 : Fin 1) o) = m ((c : Thread nD τ).loc main_arg6) (ValueIdx.ix1 o) := by
  entry_read
  refine (shapeCast_apply _ _ _ (ValueIdx.ix1 o) ?_)
  refine (Shape.rowMajor_val_one _).trans (Eq.trans ?_ (Shape.rowMajor_val_three (d := ![1, 1, 1024]) _).symm)
  show o.val = (0 * 1 + 0) * 1024 + o.val
  omega

theorem V_v2 (c : Dev nD) (o : Fin 1024) :
    V m c main_v2 (ValueIdx.ix3 (0 : Fin 1) (0 : Fin 1) o) = m ((c : Thread nD τ).loc main_arg7) (ValueIdx.ix1 o) := by
  entry_read
  refine (shapeCast_apply _ _ _ (ValueIdx.ix1 o) ?_)
  refine (Shape.rowMajor_val_one _).trans (Eq.trans ?_ (Shape.rowMajor_val_three (d := ![1, 1, 1024]) _).symm)
  show o.val = (0 * 1 + 0) * 1024 + o.val
  omega

end Cert.ReferenceIdeal.Gen
-- ==== Proof.Equal.lean ====
/-
  The kernel's codes and scales are the reference's: the node scale `hs` is a power of two, so a row
  scaled by it has the same codes, and its scale is the row's own times `hs`.
-/
module

public import proofs.«01_k».proof.Proof.RefSpec

@[expose] public section

set_option maxRecDepth 16384

noncomputable section

namespace Cert.Proj

open Idealize.ShloMosaic Idealize.SL.Sem
open Cert.ReferenceIdeal.Gen (refP refA k0_pay5 k0_pay6 k0_pay7 k0_pay8 pay7_apply pay8_apply)

/-- Projection `i`'s part of the stacked weights is `w`, transposed. -/
def StackedW (W : Vec Ideal Tw .fp8e4m3) (i : Fin 3) (w : Vec Ideal (⟨2, ![1024, 1024]⟩ : Shape) .fp8e4m3) : Prop :=
  ∀ o k : Fin 1024, W (ValueIdx.ix2 (⟨1024 * i.val + o.val, by omega⟩ : Fin 3072) k) = w (ValueIdx.ix2 k o)

/-- Projection `i`'s part of the stacked channel scales is `s`, in every lane. -/
def StackedS (S : Vec Ideal Ts .f32) (i : Fin 3) (s : Vec Ideal (⟨3, ![1, 1, 1024]⟩ : Shape) .f32) : Prop :=
  ∀ (o : Fin 1024) (l : Fin 128),
    S (ValueIdx.ix2 (⟨1024 * i.val + o.val, by omega⟩ : Fin 3072) l) = s (ValueIdx.ix3 (0 : Fin 1) (0 : Fin 1) o)

variable (h : Vec Ideal Ah .fp8e4m3) (hs : Vec Ideal Ahs .f32) (W : Vec Ideal Tw .fp8e4m3) (S : Vec Ideal Ts .f32) (i : Fin 3)
  (w : Vec Ideal (⟨2, ![1024, 1024]⟩ : Shape) .fp8e4m3) (s : Vec Ideal (⟨3, ![1, 1, 1024]⟩ : Shape) .f32)
  (hW : StackedW W i w) (hS : StackedS S i s)
  (hp : ∀ (b : Fin 2) (n : Fin 10880), IsPow2 (hs (ValueIdx.ix3 b (0 : Fin 1) n)))

include hW hS

theorem refP_eq (b : Fin 2) (n : Fin 10880) (o : Fin 1024) :
    refP h hs w s b n o = hs (ValueIdx.ix3 b (0 : Fin 1) n) * prodG h W S i b n o := by
  unfold StackedW at hW
  unfold StackedS at hS
  unfold refP prodG
  rw [hS]
  have hsum : (∑ k : Fin 1024, h (ValueIdx.ix3 b n k) * w (ValueIdx.ix2 k o) : EReal)
      = ∑ k : Fin 1024, W (ValueIdx.ix2 (⟨1024 * i.val + o.val, by omega⟩ : Fin 3072) k) * h (ValueIdx.ix3 b n k) :=
    Finset.sum_congr rfl fun k _ => by rw [hW, mul_comm]
  rw [hsum, mul_comm (∑ k : Fin 1024, _) (hs _), mul_assoc]

include hp

theorem refA_eq (b : Fin 2) (n : Fin 10880) (hd : Fin 16) :
    refA h hs w s b n hd = hs (ValueIdx.ix3 b (0 : Fin 1) n) * top64 (fun r => prodG h W S i b n ⟨64 * hd.val + r.val, by omega⟩) := by
  unfold refA
  rw [← top64_mul (hp b n)]
  exact congrArg top64 (funext fun r => refP_eq h hs W S i w s hW hS b n _)

theorem codes_eq : codesG h W S i = k0_pay7 (k0_pay6 h hs w s) := by
  funext y
  obtain ⟨b, o, n, rfl⟩ : ∃ (b : Fin 2) (o : Fin 1024) (n : Fin 10880), y = ValueIdx.ix3 b o n :=
    ⟨y 0, y 1, y 2, by funext a; match a with | ⟨0, _⟩ => rfl | ⟨1, _⟩ => rfl | ⟨2, _⟩ => rfl⟩
  rw [pay7_apply]
  rw [refP_eq h hs W S i w s hW hS, refA_eq h hs W S i w s hW hS hp]
  refine Eq.trans ?_ (code_pow2 (top64_nonneg _) ?_ (hp b n)).symm
  · rfl
  · have hr := le_top64 (fun r : Fin 64 => prodG h W S i b n ⟨64 * (o.val / 64) + r.val, by omega⟩) (⟨o.val % 64, by omega⟩ : Fin 64)
    have ho : (⟨64 * (o.val / 64) + o.val % 64, by omega⟩ : Fin 1024) = o := Fin.ext (Nat.div_add_mod _ _)
    simpa only [ho] using hr

theorem scales_eq : scalesG h hs W S i = k0_pay8 (k0_pay5 h hs w s) := by
  funext y
  obtain ⟨b, o, n, rfl⟩ : ∃ (b : Fin 2) (o : Fin 16) (n : Fin 10880), y = ValueIdx.ix3 b o n :=
    ⟨y 0, y 1, y 2, by funext a; match a with | ⟨0, _⟩ => rfl | ⟨1, _⟩ => rfl | ⟨2, _⟩ => rfl⟩
  rw [pay8_apply]
  rw [refA_eq h hs W S i w s hW hS hp]
  exact (scale_pow2 (top64_nonneg _) (hp b n)).symm

end Cert.Proj
-- ==== Proof.PreUse.lean ====
/-
  What the precondition says of the node scales: each is a power of two.
-/
module

public import proofs.«01_k».proof.Pre_pre
public import proofs.«01_k».proof.Proof.Math
public import Idealize.ShloMosaic.Lib.Pipeline.Value

@[expose] public section

set_option maxRecDepth 16384

noncomputable section

namespace Cert.Pre_pre

open Idealize.ShloMosaic Idealize.SL.Sem

instance facts : Facts where
  bcast_S_S2x1x10880 := by decide

theorem and_one {x y : BitVec 1} (h : x &&& y = 1#1) : x = 1#1 ∧ y = 1#1 := by
  revert x y; decide

theorem ofBool_one {p : Prop} [Decidable p] (h : BitVec.ofBool (decide p) = 1#1) : p := by
  by_contra hp
  simp [hp] at h

theorem pow2_of_pre (h : FVec Ideal S2x10880x1024 .fp8e4m3) (hs : FVec Ideal S2x1x10880 .f32)
    (w0 w1 w2 : FVec Ideal S1024x1024 .fp8e4m3) (s0 s1 s2 : FVec Ideal S1024 .f32)
    (hp : fn (F := Ideal) h hs w0 w1 w2 s0 s1 s2 = fun _ => 1#1) (j : S2x1x10880.Idx) : Proj.IsPow2 (hs j) := by
  have hj : ((Ideal.cmp .ogt (hs j) (Ideal.ofBits .f32 0x00000000#32) &&& Ideal.cmp .olt (hs j) (Ideal.ofBits .f32 0x7F800000#32))
      &&& Ideal.cmp .oeq (Ideal.liftRound Int.floor (Ideal.div (Ideal.log (hs j)) (Ideal.log (Ideal.ofBits .f32 0x40000000#32))))
        (Ideal.div (Ideal.log (hs j)) (Ideal.log (Ideal.ofBits .f32 0x40000000#32)))) = 1#1 := congrFun hp j
  obtain ⟨h12, h3⟩ := and_one hj
  obtain ⟨h1, h2⟩ := and_one h12
  have h1' := ofBool_one h1
  have h2' := ofBool_one h2
  rw [Ideal.ofBits_zero_f32] at h1'
  have htop : Ideal.ofBits .f32 0x7F800000#32 = ⊤ := by simp [Ideal.ofBits, Ideal.ieee]
  rw [htop] at h2'
  exact Proj.isPow2_of _ h1' h2' (ofBool_one h3)

end Cert.Pre_pre
-- ==== Proof.Value.lean ====
/-
  The value claim: from equal arguments, the node scales powers of two, the kernel and the reference end
  with equal codes and scales.
-/
module

public import proofs.«01_k».proof.Defs
public import proofs.«01_k».proof.Proof.KernelIdealRun
public import proofs.«01_k».proof.Proof.KernelIdealHost
public import proofs.«01_k».proof.Proof.RefRun
public import proofs.«01_k».proof.Proof.Equal
public import proofs.«01_k».proof.Proof.PreUse

@[expose] public section

set_option maxRecDepth 16384

noncomputable section

namespace Cert.Proof

open Idealize.ShloMosaic Idealize.ShloMosaic.TcCoe Idealize.SL.Sem
open Cert.KernelIdeal.Gen (resC resS)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The node scales of the kernel's arguments are powers of two. -/
def Pow2 (c : Dev Cert.KernelIdeal.nD) : Prop :=
  ∀ (b : Fin 2) (n : Fin 10880),
    Proj.IsPow2 ((m ((c : Thread Cert.KernelIdeal.nD Cert.KernelIdeal.τ).loc Cert.KernelIdeal.main_arg1) : Vec Ideal Proj.Ahs .f32)
      (ValueIdx.ix3 b (0 : Fin 1) n))

theorem val8 (c : Dev Cert.KernelIdeal.nD) (hp : Pow2 m c)
    (e0 : m' ((c : Thread Cert.ReferenceIdeal.nD Cert.ReferenceIdeal.τ).loc Cert.ReferenceIdeal.main_arg0) = m ((c : Thread Cert.KernelIdeal.nD Cert.KernelIdeal.τ).loc Cert.KernelIdeal.main_arg0)) (e1 : m' ((c : Thread Cert.ReferenceIdeal.nD Cert.ReferenceIdeal.τ).loc Cert.ReferenceIdeal.main_arg1) = m ((c : Thread Cert.KernelIdeal.nD Cert.KernelIdeal.τ).loc Cert.KernelIdeal.main_arg1))
    (ew : m' ((c : Thread Cert.ReferenceIdeal.nD Cert.ReferenceIdeal.τ).loc Cert.ReferenceIdeal.main_arg2) = m ((c : Thread Cert.KernelIdeal.nD Cert.KernelIdeal.τ).loc Cert.KernelIdeal.main_arg2)) (es : m' ((c : Thread Cert.ReferenceIdeal.nD Cert.ReferenceIdeal.τ).loc Cert.ReferenceIdeal.main_arg5) = m ((c : Thread Cert.KernelIdeal.nD Cert.KernelIdeal.τ).loc Cert.KernelIdeal.main_arg5)) :
    (Cert.ReferenceIdeal.Gen.dats m' 0 c).arrAt 8 Cert.ReferenceIdeal.cfg0.N = resC m 0 c := by
  refine (Cert.ReferenceIdeal.Gen.arr8 m' c).trans ?_
  unfold resC
  rw [Cert.KernelIdeal.Gen.V_main_arg0, Cert.ReferenceIdeal.Gen.V_main_arg0, Cert.ReferenceIdeal.Gen.V_main_arg1,
    Cert.ReferenceIdeal.Gen.V_main_arg2, e0, e1, ew]
  exact (Proj.codes_eq _ _ _ _ 0 _ _ (Cert.KernelIdeal.Gen.V_w0 m c)
    (fun o l => (Cert.KernelIdeal.Gen.V_s0 m c o l).trans ((congrFun es.symm (ValueIdx.ix1 o)).trans (Cert.ReferenceIdeal.Gen.V_v0 m' c o).symm)) hp).symm

theorem val9 (c : Dev Cert.KernelIdeal.nD) (hp : Pow2 m c)
    (e0 : m' ((c : Thread Cert.ReferenceIdeal.nD Cert.ReferenceIdeal.τ).loc Cert.ReferenceIdeal.main_arg0) = m ((c : Thread Cert.KernelIdeal.nD Cert.KernelIdeal.τ).loc Cert.KernelIdeal.main_arg0)) (e1 : m' ((c : Thread Cert.ReferenceIdeal.nD Cert.ReferenceIdeal.τ).loc Cert.ReferenceIdeal.main_arg1) = m ((c : Thread Cert.KernelIdeal.nD Cert.KernelIdeal.τ).loc Cert.KernelIdeal.main_arg1))
    (ew : m' ((c : Thread Cert.ReferenceIdeal.nD Cert.ReferenceIdeal.τ).loc Cert.ReferenceIdeal.main_arg2) = m ((c : Thread Cert.KernelIdeal.nD Cert.KernelIdeal.τ).loc Cert.KernelIdeal.main_arg2)) (es : m' ((c : Thread Cert.ReferenceIdeal.nD Cert.ReferenceIdeal.τ).loc Cert.ReferenceIdeal.main_arg5) = m ((c : Thread Cert.KernelIdeal.nD Cert.KernelIdeal.τ).loc Cert.KernelIdeal.main_arg5)) :
    (Cert.ReferenceIdeal.Gen.dats m' 0 c).arrAt 9 Cert.ReferenceIdeal.cfg0.N = resS m 0 c := by
  refine (Cert.ReferenceIdeal.Gen.arr9 m' c).trans ?_
  unfold resS
  rw [Cert.KernelIdeal.Gen.V_main_arg0, Cert.KernelIdeal.Gen.V_main_arg1, Cert.ReferenceIdeal.Gen.V_main_arg0, Cert.ReferenceIdeal.Gen.V_main_arg1,
    Cert.ReferenceIdeal.Gen.V_main_arg2, e0, e1, ew]
  exact (Proj.scales_eq _ _ _ _ 0 _ _ (Cert.KernelIdeal.Gen.V_w0 m c)
    (fun o l => (Cert.KernelIdeal.Gen.V_s0 m c o l).trans ((congrFun es.symm (ValueIdx.ix1 o)).trans (Cert.ReferenceIdeal.Gen.V_v0 m' c o).symm)) hp).symm

theorem val10 (c : Dev Cert.KernelIdeal.nD) (hp : Pow2 m c)
    (e0 : m' ((c : Thread Cert.ReferenceIdeal.nD Cert.ReferenceIdeal.τ).loc Cert.ReferenceIdeal.main_arg0) = m ((c : Thread Cert.KernelIdeal.nD Cert.KernelIdeal.τ).loc Cert.KernelIdeal.main_arg0)) (e1 : m' ((c : Thread Cert.ReferenceIdeal.nD Cert.ReferenceIdeal.τ).loc Cert.ReferenceIdeal.main_arg1) = m ((c : Thread Cert.KernelIdeal.nD Cert.KernelIdeal.τ).loc Cert.KernelIdeal.main_arg1))
    (ew : m' ((c : Thread Cert.ReferenceIdeal.nD Cert.ReferenceIdeal.τ).loc Cert.ReferenceIdeal.main_arg3) = m ((c : Thread Cert.KernelIdeal.nD Cert.KernelIdeal.τ).loc Cert.KernelIdeal.main_arg3)) (es : m' ((c : Thread Cert.ReferenceIdeal.nD Cert.ReferenceIdeal.τ).loc Cert.ReferenceIdeal.main_arg6) = m ((c : Thread Cert.KernelIdeal.nD Cert.KernelIdeal.τ).loc Cert.KernelIdeal.main_arg6)) :
    (Cert.ReferenceIdeal.Gen.dats m' 0 c).arrAt 10 Cert.ReferenceIdeal.cfg0.N = resC m 1 c := by
  refine (Cert.ReferenceIdeal.Gen.arr10 m' c).trans ?_
  unfold resC
  rw [Cert.KernelIdeal.Gen.V_main_arg0, Cert.ReferenceIdeal.Gen.V_main_arg0, Cert.ReferenceIdeal.Gen.V_main_arg1,
    Cert.ReferenceIdeal.Gen.V_main_arg3, e0, e1, ew]
  exact (Proj.codes_eq _ _ _ _ 1 _ _ (Cert.KernelIdeal.Gen.V_w1 m c)
    (fun o l => (Cert.KernelIdeal.Gen.V_s1 m c o l).trans ((congrFun es.symm (ValueIdx.ix1 o)).trans (Cert.ReferenceIdeal.Gen.V_v1 m' c o).symm)) hp).symm

theorem val11 (c : Dev Cert.KernelIdeal.nD) (hp : Pow2 m c)
    (e0 : m' ((c : Thread Cert.ReferenceIdeal.nD Cert.ReferenceIdeal.τ).loc Cert.ReferenceIdeal.main_arg0) = m ((c : Thread Cert.KernelIdeal.nD Cert.KernelIdeal.τ).loc Cert.KernelIdeal.main_arg0)) (e1 : m' ((c : Thread Cert.ReferenceIdeal.nD Cert.ReferenceIdeal.τ).loc Cert.ReferenceIdeal.main_arg1) = m ((c : Thread Cert.KernelIdeal.nD Cert.KernelIdeal.τ).loc Cert.KernelIdeal.main_arg1))
    (ew : m' ((c : Thread Cert.ReferenceIdeal.nD Cert.ReferenceIdeal.τ).loc Cert.ReferenceIdeal.main_arg3) = m ((c : Thread Cert.KernelIdeal.nD Cert.KernelIdeal.τ).loc Cert.KernelIdeal.main_arg3)) (es : m' ((c : Thread Cert.ReferenceIdeal.nD Cert.ReferenceIdeal.τ).loc Cert.ReferenceIdeal.main_arg6) = m ((c : Thread Cert.KernelIdeal.nD Cert.KernelIdeal.τ).loc Cert.KernelIdeal.main_arg6)) :
    (Cert.ReferenceIdeal.Gen.dats m' 0 c).arrAt 11 Cert.ReferenceIdeal.cfg0.N = resS m 1 c := by
  refine (Cert.ReferenceIdeal.Gen.arr11 m' c).trans ?_
  unfold resS
  rw [Cert.KernelIdeal.Gen.V_main_arg0, Cert.KernelIdeal.Gen.V_main_arg1, Cert.ReferenceIdeal.Gen.V_main_arg0, Cert.ReferenceIdeal.Gen.V_main_arg1,
    Cert.ReferenceIdeal.Gen.V_main_arg3, e0, e1, ew]
  exact (Proj.scales_eq _ _ _ _ 1 _ _ (Cert.KernelIdeal.Gen.V_w1 m c)
    (fun o l => (Cert.KernelIdeal.Gen.V_s1 m c o l).trans ((congrFun es.symm (ValueIdx.ix1 o)).trans (Cert.ReferenceIdeal.Gen.V_v1 m' c o).symm)) hp).symm

theorem val12 (c : Dev Cert.KernelIdeal.nD) (hp : Pow2 m c)
    (e0 : m' ((c : Thread Cert.ReferenceIdeal.nD Cert.ReferenceIdeal.τ).loc Cert.ReferenceIdeal.main_arg0) = m ((c : Thread Cert.KernelIdeal.nD Cert.KernelIdeal.τ).loc Cert.KernelIdeal.main_arg0)) (e1 : m' ((c : Thread Cert.ReferenceIdeal.nD Cert.ReferenceIdeal.τ).loc Cert.ReferenceIdeal.main_arg1) = m ((c : Thread Cert.KernelIdeal.nD Cert.KernelIdeal.τ).loc Cert.KernelIdeal.main_arg1))
    (ew : m' ((c : Thread Cert.ReferenceIdeal.nD Cert.ReferenceIdeal.τ).loc Cert.ReferenceIdeal.main_arg4) = m ((c : Thread Cert.KernelIdeal.nD Cert.KernelIdeal.τ).loc Cert.KernelIdeal.main_arg4)) (es : m' ((c : Thread Cert.ReferenceIdeal.nD Cert.ReferenceIdeal.τ).loc Cert.ReferenceIdeal.main_arg7) = m ((c : Thread Cert.KernelIdeal.nD Cert.KernelIdeal.τ).loc Cert.KernelIdeal.main_arg7)) :
    (Cert.ReferenceIdeal.Gen.dats m' 0 c).arrAt 12 Cert.ReferenceIdeal.cfg0.N = resC m 2 c := by
  refine (Cert.ReferenceIdeal.Gen.arr12 m' c).trans ?_
  unfold resC
  rw [Cert.KernelIdeal.Gen.V_main_arg0, Cert.ReferenceIdeal.Gen.V_main_arg0, Cert.ReferenceIdeal.Gen.V_main_arg1,
    Cert.ReferenceIdeal.Gen.V_main_arg4, e0, e1, ew]
  exact (Proj.codes_eq _ _ _ _ 2 _ _ (Cert.KernelIdeal.Gen.V_w2 m c)
    (fun o l => (Cert.KernelIdeal.Gen.V_s2 m c o l).trans ((congrFun es.symm (ValueIdx.ix1 o)).trans (Cert.ReferenceIdeal.Gen.V_v2 m' c o).symm)) hp).symm

theorem val13 (c : Dev Cert.KernelIdeal.nD) (hp : Pow2 m c)
    (e0 : m' ((c : Thread Cert.ReferenceIdeal.nD Cert.ReferenceIdeal.τ).loc Cert.ReferenceIdeal.main_arg0) = m ((c : Thread Cert.KernelIdeal.nD Cert.KernelIdeal.τ).loc Cert.KernelIdeal.main_arg0)) (e1 : m' ((c : Thread Cert.ReferenceIdeal.nD Cert.ReferenceIdeal.τ).loc Cert.ReferenceIdeal.main_arg1) = m ((c : Thread Cert.KernelIdeal.nD Cert.KernelIdeal.τ).loc Cert.KernelIdeal.main_arg1))
    (ew : m' ((c : Thread Cert.ReferenceIdeal.nD Cert.ReferenceIdeal.τ).loc Cert.ReferenceIdeal.main_arg4) = m ((c : Thread Cert.KernelIdeal.nD Cert.KernelIdeal.τ).loc Cert.KernelIdeal.main_arg4)) (es : m' ((c : Thread Cert.ReferenceIdeal.nD Cert.ReferenceIdeal.τ).loc Cert.ReferenceIdeal.main_arg7) = m ((c : Thread Cert.KernelIdeal.nD Cert.KernelIdeal.τ).loc Cert.KernelIdeal.main_arg7)) :
    (Cert.ReferenceIdeal.Gen.dats m' 0 c).arrAt 13 Cert.ReferenceIdeal.cfg0.N = resS m 2 c := by
  refine (Cert.ReferenceIdeal.Gen.arr13 m' c).trans ?_
  unfold resS
  rw [Cert.KernelIdeal.Gen.V_main_arg0, Cert.KernelIdeal.Gen.V_main_arg1, Cert.ReferenceIdeal.Gen.V_main_arg0, Cert.ReferenceIdeal.Gen.V_main_arg1,
    Cert.ReferenceIdeal.Gen.V_main_arg4, e0, e1, ew]
  exact (Proj.scales_eq _ _ _ _ 2 _ _ (Cert.KernelIdeal.Gen.V_w2 m c)
    (fun o l => (Cert.KernelIdeal.Gen.V_s2 m c o l).trans ((congrFun es.symm (ValueIdx.ix1 o)).trans (Cert.ReferenceIdeal.Gen.V_v2 m' c o).symm)) hp).symm

set_option backward.isDefEq.respectTransparency.types false in
theorem algebraic : Cert.algebraic_KernelIdeal_ReferenceIdeal_pre_pre := by
  intro m g m' g' hpre hm
  have hp : ∀ c, Pow2 m c := fun c b n => Cert.Pre_pre.pow2_of_pre _ _ _ _ _ _ _ _ (hpre c) (ValueIdx.ix3 b (0 : Fin 1) n)
  refine ⟨fun c => resC m 0 c, fun c => resS m 0 c, fun c => resC m 1 c, fun c => resS m 1 c, fun c => resC m 2 c, fun c => resS m 2 c, ?_, ?_⟩
  · refine (θ_run _ _ _).mono (fun r h c => ?_) (Cert.KernelIdeal.Gen.vrun_main m g)
    refine ⟨((h c).1 4).trans (Cert.KernelIdeal.Gen.arr4 m c), ((h c).1 5).trans (Cert.KernelIdeal.Gen.arr5 m c), ((h c).1 6).trans (Cert.KernelIdeal.Gen.arr6 m c), ((h c).1 7).trans (Cert.KernelIdeal.Gen.arr7 m c), ((h c).1 8).trans (Cert.KernelIdeal.Gen.arr8 m c), ((h c).1 9).trans (Cert.KernelIdeal.Gen.arr9 m c),
      ((h c).1 0).trans (((Cert.KernelIdeal.Gen.vdats m 0 c).arrAt_in 0 rfl _).trans ((Cert.KernelIdeal.Gen.vA_eq m c 0).trans (Cert.KernelIdeal.Gen.V_main_arg0 m c))),
      ((h c).1 1).trans (((Cert.KernelIdeal.Gen.vdats m 0 c).arrAt_in 1 rfl _).trans ((Cert.KernelIdeal.Gen.vA_eq m c 1).trans (Cert.KernelIdeal.Gen.V_main_arg1 m c))),
      ((h c).2 Cert.KernelIdeal.main_arg2 (Pipeline.mem_restRefs_of Cert.KernelIdeal.main_arg2 (by decide) (by decide))).trans (Cert.KernelIdeal.Gen.V_main_arg2 m c),
      ((h c).2 Cert.KernelIdeal.main_arg3 (Pipeline.mem_restRefs_of Cert.KernelIdeal.main_arg3 (by decide) (by decide))).trans (Cert.KernelIdeal.Gen.V_main_arg3 m c),
      ((h c).2 Cert.KernelIdeal.main_arg4 (Pipeline.mem_restRefs_of Cert.KernelIdeal.main_arg4 (by decide) (by decide))).trans (Cert.KernelIdeal.Gen.V_main_arg4 m c),
      ((h c).2 Cert.KernelIdeal.main_arg5 (Pipeline.mem_restRefs_of Cert.KernelIdeal.main_arg5 (by decide) (by decide))).trans (Cert.KernelIdeal.Gen.V_main_arg5 m c),
      ((h c).2 Cert.KernelIdeal.main_arg6 (Pipeline.mem_restRefs_of Cert.KernelIdeal.main_arg6 (by decide) (by decide))).trans (Cert.KernelIdeal.Gen.V_main_arg6 m c),
      ((h c).2 Cert.KernelIdeal.main_arg7 (Pipeline.mem_restRefs_of Cert.KernelIdeal.main_arg7 (by decide) (by decide))).trans (Cert.KernelIdeal.Gen.V_main_arg7 m c)⟩
  · refine (θ_run _ _ _).mono (fun r h c => ?_) (Cert.ReferenceIdeal.Gen.run_main m' g')
    obtain ⟨e0, e1, e2, e3, e4, e5, e6, e7⟩ := hm c
    refine ⟨((h c).1 8).trans (val8 m m' c (hp c) e0 e1 e2 e5),
      ((h c).1 9).trans (val9 m m' c (hp c) e0 e1 e2 e5),
      ((h c).1 10).trans (val10 m m' c (hp c) e0 e1 e3 e6),
      ((h c).1 11).trans (val11 m m' c (hp c) e0 e1 e3 e6),
      ((h c).1 12).trans (val12 m m' c (hp c) e0 e1 e4 e7),
      ((h c).1 13).trans (val13 m m' c (hp c) e0 e1 e4 e7),
      ((h c).1 0).trans (((Cert.ReferenceIdeal.Gen.dats m' 0 c).arrAt_in 0 rfl _).trans ((Cert.ReferenceIdeal.Gen.A_eq m' c 0).trans (Cert.ReferenceIdeal.Gen.V_main_arg0 m' c))),
      ((h c).1 1).trans (((Cert.ReferenceIdeal.Gen.dats m' 0 c).arrAt_in 1 rfl _).trans ((Cert.ReferenceIdeal.Gen.A_eq m' c 1).trans (Cert.ReferenceIdeal.Gen.V_main_arg1 m' c))),
      ((h c).1 2).trans (((Cert.ReferenceIdeal.Gen.dats m' 0 c).arrAt_in 2 rfl _).trans ((Cert.ReferenceIdeal.Gen.A_eq m' c 2).trans (Cert.ReferenceIdeal.Gen.V_main_arg2 m' c))),
      ((h c).1 3).trans (((Cert.ReferenceIdeal.Gen.dats m' 0 c).arrAt_in 3 rfl _).trans ((Cert.ReferenceIdeal.Gen.A_eq m' c 3).trans (Cert.ReferenceIdeal.Gen.V_main_arg3 m' c))),
      ((h c).1 4).trans (((Cert.ReferenceIdeal.Gen.dats m' 0 c).arrAt_in 4 rfl _).trans ((Cert.ReferenceIdeal.Gen.A_eq m' c 4).trans (Cert.ReferenceIdeal.Gen.V_main_arg4 m' c))),
      ((h c).2 Cert.ReferenceIdeal.main_arg5 (Pipeline.mem_restRefs_of Cert.ReferenceIdeal.main_arg5 (by decide) (by decide))).trans (Cert.ReferenceIdeal.Gen.V_main_arg5 m' c),
      ((h c).2 Cert.ReferenceIdeal.main_arg6 (Pipeline.mem_restRefs_of Cert.ReferenceIdeal.main_arg6 (by decide) (by decide))).trans (Cert.ReferenceIdeal.Gen.V_main_arg6 m' c),
      ((h c).2 Cert.ReferenceIdeal.main_arg7 (Pipeline.mem_restRefs_of Cert.ReferenceIdeal.main_arg7 (by decide) (by decide))).trans (Cert.ReferenceIdeal.Gen.V_main_arg7 m' c)⟩

end Cert.Proof
-- ==== Proof.PyramidBody.lean ====
/-
  The body of the pyramid, run at any contents of its outputs and scratch: whichever of its three branches a
  point takes, it ends with the inputs as they were.
-/
module

public import proofs.«01_k».proof.Proof.Gen.Pyramid.Frame
public import proofs.«01_k».proof.Proof.Gen.Pyramid.Loops

@[expose] public section

set_option maxRecDepth 16384

noncomputable section

namespace Cert.Pyramid.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The six inputs at what they hold, the outputs and the scratch at anything. -/
def Held (c : Dev nD) (arg2 : Memref sig .tc .vmem S1x1024x1024 .bf16) (arg3 : Memref sig .tc .vmem S3x4096x1024 .fp8e4m3) (arg4 : Memref sig .tc .vmem S3x1024 .f32) (arg5 : Memref sig .tc .vmem S3x1024 .f32) (arg6 : Memref sig .tc .vmem S1x1024 .f32) (arg7 : Memref sig .tc .vmem S1x1024 .f32) (arg8 : Memref sig .tc .vmem S1x256x4096 .fp8e4m3) (arg9 : Memref sig .tc .vmem S1x1x256 .f32) (arg10 : Memref sig .tc .vmem S1x256x4096 .fp8e4m3) (arg11 : Memref sig .tc .vmem S1x1x256 .f32) (arg12 : Memref sig .tc .vmem S1x128x4096 .fp8e4m3) (arg13 : Memref sig .tc .vmem S1x1x128 .f32) (arg14 : Memref sig .tc .vmem S1x1024x1024 .fp8e4m3) (arg15 : Memref sig .tc .vmem S1x1x1024 .f32) (arg16 : Memref sig .tc .vmem S2688x1024 .bf16) (arg17 : Memref sig .tc .vmem S8x1024x128 .f32) (arg18 : Memref sig .tc .vmem S1024x128 .f32) (arg19 : Memref sig .tc .vmem S1024x128 .f32) (x2 : Vec F S1x1024x1024 .bf16) (x3 : Vec F S3x4096x1024 .fp8e4m3) (x4 : Vec F S3x1024 .f32) (x5 : Vec F S3x1024 .f32) (x6 : Vec F S1x1024 .f32) (x7 : Vec F S1x1024 .f32) : sProp (MT nD τ sig Unit (Elt F) ℕ (UR sig nD τ) ℕ) :=
  iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d))

set_option maxHeartbeats 40000000 in
theorem body_first (c : Dev nD) (E : Set ℕ) (i : grid0.Coords) (arg2 : Memref sig .tc .vmem S1x1024x1024 .bf16) (harg2 : arg2.IsWhole) (arg3 : Memref sig .tc .vmem S3x4096x1024 .fp8e4m3) (harg3 : arg3.IsWhole) (arg4 : Memref sig .tc .vmem S3x1024 .f32) (harg4 : arg4.IsWhole) (arg5 : Memref sig .tc .vmem S3x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x256x4096 .fp8e4m3) (harg8 : arg8.IsWhole) (arg9 : Memref sig .tc .vmem S1x1x256 .f32) (harg9 : arg9.IsWhole) (arg10 : Memref sig .tc .vmem S1x256x4096 .fp8e4m3) (harg10 : arg10.IsWhole) (arg11 : Memref sig .tc .vmem S1x1x256 .f32) (harg11 : arg11.IsWhole) (arg12 : Memref sig .tc .vmem S1x128x4096 .fp8e4m3) (harg12 : arg12.IsWhole) (arg13 : Memref sig .tc .vmem S1x1x128 .f32) (harg13 : arg13.IsWhole) (arg14 : Memref sig .tc .vmem S1x1024x1024 .fp8e4m3) (harg14 : arg14.IsWhole) (arg15 : Memref sig .tc .vmem S1x1x1024 .f32) (harg15 : arg15.IsWhole) (arg16 : Memref sig .tc .vmem S2688x1024 .bf16) (harg16 : arg16.IsWhole) (arg17 : Memref sig .tc .vmem S8x1024x128 .f32) (harg17 : arg17.IsWhole) (arg18 : Memref sig .tc .vmem S1024x128 .f32) (harg18 : arg18.IsWhole) (arg19 : Memref sig .tc .vmem S1024x128 .f32) (harg19 : arg19.IsWhole) (x2 : Vec F S1x1024x1024 .bf16) (x3 : Vec F S3x4096x1024 .fp8e4m3) (x4 : Vec F S3x1024 .f32) (x5 : Vec F S3x1024 .f32) (x6 : Vec F S1x1024 .f32) (x7 : Vec F S1x1024 .f32)
    (h1 : k0_cond1 i = 1#1) (h2 : ¬ k0_cond2 i = 1#1) (h3 : ¬ k0_cond3 i = 1#1) :
    Held c arg2 arg3 arg4 arg5 arg6 arg7 arg8 arg9 arg10 arg11 arg12 arg13 arg14 arg15 arg16 arg17 arg18 arg19 x2 x3 x4 x5 x6 x7
      ⊢ wp frame (wpE (defs₀ (F := F)) Variants.none c none) E (cc0_pyramid i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (fun _ => Held c arg2 arg3 arg4 arg5 arg6 arg7 arg8 arg9 arg10 arg11 arg12 arg13 arg14 arg15 arg16 arg17 arg18 arg19 x2 x3 x4 x5 x6 x7) := by
  simp only [cc0_pyramid_eq_skeleton]; unfold cc0_pyramid_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton]
  unfold Held owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
  sl_exec (disch := first | sl_exact h1 | sl_exact h2 | sl_exact h3)
  sl_step
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists _, _; isplitr
    swap; · iexact H8
    ipureintro; rfl
  isplitl [H9]
  · iexists _, _; isplitr
    swap; · iexact H9
    ipureintro; rfl
  isplitl [H10]
  · iexists _, _; isplitr
    swap; · iexact H10
    ipureintro; rfl
  isplitl [H11]
  · iexists _, _; isplitr
    swap; · iexact H11
    ipureintro; rfl
  isplitl [H12]
  · iexists _, _; isplitr
    swap; · iexact H12
    ipureintro; rfl
  isplitl [H13]
  · iexists _, _; isplitr
    swap; · iexact H13
    ipureintro; rfl
  isplitl [H14]
  · iexists _, _; isplitr
    swap; · iexact H14
    ipureintro; rfl
  isplitl [H15]
  · iexists _, _; isplitr
    swap; · iexact H15
    ipureintro; rfl
  isplitl [H16]
  · iexists _, _; isplitr
    swap; · iexact H16
    ipureintro; rfl
  isplitl [H17]
  · iexists _, _; isplitr
    swap; · iexact H17
    ipureintro; rfl
  isplitl [H18]
  · iexists _, _; isplitr
    swap; · iexact H18
    ipureintro; rfl
  iexists _, _; isplitr
  swap; · iexact H19
  ipureintro; rfl

set_option maxHeartbeats 40000000 in
theorem body_middle (c : Dev nD) (E : Set ℕ) (i : grid0.Coords) (arg2 : Memref sig .tc .vmem S1x1024x1024 .bf16) (harg2 : arg2.IsWhole) (arg3 : Memref sig .tc .vmem S3x4096x1024 .fp8e4m3) (harg3 : arg3.IsWhole) (arg4 : Memref sig .tc .vmem S3x1024 .f32) (harg4 : arg4.IsWhole) (arg5 : Memref sig .tc .vmem S3x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x256x4096 .fp8e4m3) (harg8 : arg8.IsWhole) (arg9 : Memref sig .tc .vmem S1x1x256 .f32) (harg9 : arg9.IsWhole) (arg10 : Memref sig .tc .vmem S1x256x4096 .fp8e4m3) (harg10 : arg10.IsWhole) (arg11 : Memref sig .tc .vmem S1x1x256 .f32) (harg11 : arg11.IsWhole) (arg12 : Memref sig .tc .vmem S1x128x4096 .fp8e4m3) (harg12 : arg12.IsWhole) (arg13 : Memref sig .tc .vmem S1x1x128 .f32) (harg13 : arg13.IsWhole) (arg14 : Memref sig .tc .vmem S1x1024x1024 .fp8e4m3) (harg14 : arg14.IsWhole) (arg15 : Memref sig .tc .vmem S1x1x1024 .f32) (harg15 : arg15.IsWhole) (arg16 : Memref sig .tc .vmem S2688x1024 .bf16) (harg16 : arg16.IsWhole) (arg17 : Memref sig .tc .vmem S8x1024x128 .f32) (harg17 : arg17.IsWhole) (arg18 : Memref sig .tc .vmem S1024x128 .f32) (harg18 : arg18.IsWhole) (arg19 : Memref sig .tc .vmem S1024x128 .f32) (harg19 : arg19.IsWhole) (x2 : Vec F S1x1024x1024 .bf16) (x3 : Vec F S3x4096x1024 .fp8e4m3) (x4 : Vec F S3x1024 .f32) (x5 : Vec F S3x1024 .f32) (x6 : Vec F S1x1024 .f32) (x7 : Vec F S1x1024 .f32)
    (h1 : ¬ k0_cond1 i = 1#1) (h2 : k0_cond2 i = 1#1) (h3 : ¬ k0_cond3 i = 1#1) :
    Held c arg2 arg3 arg4 arg5 arg6 arg7 arg8 arg9 arg10 arg11 arg12 arg13 arg14 arg15 arg16 arg17 arg18 arg19 x2 x3 x4 x5 x6 x7
      ⊢ wp frame (wpE (defs₀ (F := F)) Variants.none c none) E (cc0_pyramid i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (fun _ => Held c arg2 arg3 arg4 arg5 arg6 arg7 arg8 arg9 arg10 arg11 arg12 arg13 arg14 arg15 arg16 arg17 arg18 arg19 x2 x3 x4 x5 x6 x7) := by
  simp only [cc0_pyramid_eq_skeleton]; unfold cc0_pyramid_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton]
  unfold Held owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
  sl_exec (disch := first | sl_exact h1 | sl_exact h2 | sl_exact h3)
  sl_step
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists _, _; isplitr
    swap; · iexact H8
    ipureintro; rfl
  isplitl [H9]
  · iexists _, _; isplitr
    swap; · iexact H9
    ipureintro; rfl
  isplitl [H10]
  · iexists _, _; isplitr
    swap; · iexact H10
    ipureintro; rfl
  isplitl [H11]
  · iexists _, _; isplitr
    swap; · iexact H11
    ipureintro; rfl
  isplitl [H12]
  · iexists _, _; isplitr
    swap; · iexact H12
    ipureintro; rfl
  isplitl [H13]
  · iexists _, _; isplitr
    swap; · iexact H13
    ipureintro; rfl
  isplitl [H14]
  · iexists _, _; isplitr
    swap; · iexact H14
    ipureintro; rfl
  isplitl [H15]
  · iexists _, _; isplitr
    swap; · iexact H15
    ipureintro; rfl
  isplitl [H16]
  · iexists _, _; isplitr
    swap; · iexact H16
    ipureintro; rfl
  isplitl [H17]
  · iexists _, _; isplitr
    swap; · iexact H17
    ipureintro; rfl
  isplitl [H18]
  · iexists _, _; isplitr
    swap; · iexact H18
    ipureintro; rfl
  iexists _, _; isplitr
  swap; · iexact H19
  ipureintro; rfl

set_option maxHeartbeats 40000000 in
theorem body_last (c : Dev nD) (E : Set ℕ) (i : grid0.Coords) (arg2 : Memref sig .tc .vmem S1x1024x1024 .bf16) (harg2 : arg2.IsWhole) (arg3 : Memref sig .tc .vmem S3x4096x1024 .fp8e4m3) (harg3 : arg3.IsWhole) (arg4 : Memref sig .tc .vmem S3x1024 .f32) (harg4 : arg4.IsWhole) (arg5 : Memref sig .tc .vmem S3x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x256x4096 .fp8e4m3) (harg8 : arg8.IsWhole) (arg9 : Memref sig .tc .vmem S1x1x256 .f32) (harg9 : arg9.IsWhole) (arg10 : Memref sig .tc .vmem S1x256x4096 .fp8e4m3) (harg10 : arg10.IsWhole) (arg11 : Memref sig .tc .vmem S1x1x256 .f32) (harg11 : arg11.IsWhole) (arg12 : Memref sig .tc .vmem S1x128x4096 .fp8e4m3) (harg12 : arg12.IsWhole) (arg13 : Memref sig .tc .vmem S1x1x128 .f32) (harg13 : arg13.IsWhole) (arg14 : Memref sig .tc .vmem S1x1024x1024 .fp8e4m3) (harg14 : arg14.IsWhole) (arg15 : Memref sig .tc .vmem S1x1x1024 .f32) (harg15 : arg15.IsWhole) (arg16 : Memref sig .tc .vmem S2688x1024 .bf16) (harg16 : arg16.IsWhole) (arg17 : Memref sig .tc .vmem S8x1024x128 .f32) (harg17 : arg17.IsWhole) (arg18 : Memref sig .tc .vmem S1024x128 .f32) (harg18 : arg18.IsWhole) (arg19 : Memref sig .tc .vmem S1024x128 .f32) (harg19 : arg19.IsWhole) (x2 : Vec F S1x1024x1024 .bf16) (x3 : Vec F S3x4096x1024 .fp8e4m3) (x4 : Vec F S3x1024 .f32) (x5 : Vec F S3x1024 .f32) (x6 : Vec F S1x1024 .f32) (x7 : Vec F S1x1024 .f32)
    (h1 : ¬ k0_cond1 i = 1#1) (h2 : ¬ k0_cond2 i = 1#1) (h3 : k0_cond3 i = 1#1) :
    Held c arg2 arg3 arg4 arg5 arg6 arg7 arg8 arg9 arg10 arg11 arg12 arg13 arg14 arg15 arg16 arg17 arg18 arg19 x2 x3 x4 x5 x6 x7
      ⊢ wp frame (wpE (defs₀ (F := F)) Variants.none c none) E (cc0_pyramid i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (fun _ => Held c arg2 arg3 arg4 arg5 arg6 arg7 arg8 arg9 arg10 arg11 arg12 arg13 arg14 arg15 arg16 arg17 arg18 arg19 x2 x3 x4 x5 x6 x7) := by
  simp only [cc0_pyramid_eq_skeleton]; unfold cc0_pyramid_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton]
  unfold Held owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
  sl_exec (disch := first | sl_exact h1 | sl_exact h2 | sl_exact h3)
  sl_step
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists _, _; isplitr
    swap; · iexact H8
    ipureintro; rfl
  isplitl [H9]
  · iexists _, _; isplitr
    swap; · iexact H9
    ipureintro; rfl
  isplitl [H10]
  · iexists _, _; isplitr
    swap; · iexact H10
    ipureintro; rfl
  isplitl [H11]
  · iexists _, _; isplitr
    swap; · iexact H11
    ipureintro; rfl
  isplitl [H12]
  · iexists _, _; isplitr
    swap; · iexact H12
    ipureintro; rfl
  isplitl [H13]
  · iexists _, _; isplitr
    swap; · iexact H13
    ipureintro; rfl
  isplitl [H14]
  · iexists _, _; isplitr
    swap; · iexact H14
    ipureintro; rfl
  isplitl [H15]
  · iexists _, _; isplitr
    swap; · iexact H15
    ipureintro; rfl
  isplitl [H16]
  · iexists _, _; isplitr
    swap; · iexact H16
    ipureintro; rfl
  isplitl [H17]
  · iexists _, _; isplitr
    swap; · iexact H17
    ipureintro; rfl
  isplitl [H18]
  · iexists _, _; isplitr
    swap; · iexact H18
    ipureintro; rfl
  iexists _, _; isplitr
  swap; · iexact H19
  ipureintro; rfl

/-- A point takes exactly one of the branches. -/
theorem branch : ∀ i : grid0.Coords, (k0_cond1 i = 1#1 ∧ ¬ k0_cond2 i = 1#1 ∧ ¬ k0_cond3 i = 1#1)
    ∨ (¬ k0_cond1 i = 1#1 ∧ k0_cond2 i = 1#1 ∧ ¬ k0_cond3 i = 1#1)
    ∨ (¬ k0_cond1 i = 1#1 ∧ ¬ k0_cond2 i = 1#1 ∧ k0_cond3 i = 1#1) := by
  decide +kernel

theorem body_any (c : Dev nD) (E : Set ℕ) (i : grid0.Coords) (arg2 : Memref sig .tc .vmem S1x1024x1024 .bf16) (harg2 : arg2.IsWhole) (arg3 : Memref sig .tc .vmem S3x4096x1024 .fp8e4m3) (harg3 : arg3.IsWhole) (arg4 : Memref sig .tc .vmem S3x1024 .f32) (harg4 : arg4.IsWhole) (arg5 : Memref sig .tc .vmem S3x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x256x4096 .fp8e4m3) (harg8 : arg8.IsWhole) (arg9 : Memref sig .tc .vmem S1x1x256 .f32) (harg9 : arg9.IsWhole) (arg10 : Memref sig .tc .vmem S1x256x4096 .fp8e4m3) (harg10 : arg10.IsWhole) (arg11 : Memref sig .tc .vmem S1x1x256 .f32) (harg11 : arg11.IsWhole) (arg12 : Memref sig .tc .vmem S1x128x4096 .fp8e4m3) (harg12 : arg12.IsWhole) (arg13 : Memref sig .tc .vmem S1x1x128 .f32) (harg13 : arg13.IsWhole) (arg14 : Memref sig .tc .vmem S1x1024x1024 .fp8e4m3) (harg14 : arg14.IsWhole) (arg15 : Memref sig .tc .vmem S1x1x1024 .f32) (harg15 : arg15.IsWhole) (arg16 : Memref sig .tc .vmem S2688x1024 .bf16) (harg16 : arg16.IsWhole) (arg17 : Memref sig .tc .vmem S8x1024x128 .f32) (harg17 : arg17.IsWhole) (arg18 : Memref sig .tc .vmem S1024x128 .f32) (harg18 : arg18.IsWhole) (arg19 : Memref sig .tc .vmem S1024x128 .f32) (harg19 : arg19.IsWhole) (x2 : Vec F S1x1024x1024 .bf16) (x3 : Vec F S3x4096x1024 .fp8e4m3) (x4 : Vec F S3x1024 .f32) (x5 : Vec F S3x1024 .f32) (x6 : Vec F S1x1024 .f32) (x7 : Vec F S1x1024 .f32) :
    Held c arg2 arg3 arg4 arg5 arg6 arg7 arg8 arg9 arg10 arg11 arg12 arg13 arg14 arg15 arg16 arg17 arg18 arg19 x2 x3 x4 x5 x6 x7
      ⊢ wp frame (wpE (defs₀ (F := F)) Variants.none c none) E (cc0_pyramid i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (fun _ => Held c arg2 arg3 arg4 arg5 arg6 arg7 arg8 arg9 arg10 arg11 arg12 arg13 arg14 arg15 arg16 arg17 arg18 arg19 x2 x3 x4 x5 x6 x7) := by
  rcases branch i with ⟨h1, h2, h3⟩ | ⟨h1, h2, h3⟩ | ⟨h1, h2, h3⟩
  · exact body_first c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 x7 h1 h2 h3
  · exact body_middle c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 x7 h1 h2 h3
  · exact body_last c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 x7 h1 h2 h3

/-- A triple used under a frame. -/
theorem wp_frame_wand {c : Dev nD} {E : Set ℕ} {p : Prog (TpuEff nD τ sig (Elt F) Λ₀ .tc) PUnit} {pre post : sProp (MT nD τ sig Unit (Elt F) ℕ (UR sig nD τ) ℕ)} {Q : PUnit → sProp (MT nD τ sig Unit (Elt F) ℕ (UR sig nD τ) ℕ)}
    (h : pre ⊢ wp frame (wpE (defs₀ (F := F)) Variants.none (c : Thread nD τ) none) E p fun _ => post) :
    iprop(pre ∗ (post -∗ Q ⟨⟩)) ⊢ wp frame (wpE (defs₀ (F := F)) Variants.none (c : Thread nD τ) none) E p Q := by
  refine (sep_mono_left h).trans ?_
  refine (wp_frame_r frame _ E).trans (wp_mono frame _ E fun _ => ?_)
  iintro ⟨H, Hk⟩
  iapply Hk
  iexact H

end Cert.Pyramid.Gen

end
-- ==== Proof.PyramidFrame.lean ====
/-
  The frame of the pyramid: nothing is said here of what its results hold.
-/
module

public import proofs.«01_k».proof.Proof.PyramidBody
public import Idealize.ShloMosaic.Lib.Claim

@[expose] public section

set_option maxRecDepth 16384

noncomputable section

namespace Cert.Pyramid.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

variable (m : (ℓ : Loc nD τ sig) → Buf (Elt F) ℓ) (ρ : Dev nD → PrngReg)

abbrev scM0_0 : Memref sig .tc .vmem S2688x1024 .bf16 := Memref.whole cc0_scratch0
abbrev scM0_1 : Memref sig .tc .vmem S8x1024x128 .f32 := Memref.whole cc0_scratch1
abbrev scM0_2 : Memref sig .tc .vmem S1024x128 .f32 := Memref.whole cc0_scratch2
abbrev scM0_3 : Memref sig .tc .vmem S1024x128 .f32 := Memref.whole cc0_scratch3

/-- The invariant: the four scratch buffers at some contents, and the generator's register. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The outputs, of which nothing is said. -/
def forgets0 : Fin 14 → Bool := ![false, false, false, false, false, false, true, true, true, true, true, true, true, true]

/-- The proof data: the inputs' buffers at their blocks after the body, the outputs' not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

set_option maxHeartbeats 1200000 in
/-- The body at any point. -/
theorem body_obligation (c : Dev nD) : BodyObligationLoose (dats (F := F) m 0 c) (defs₀ (F := F)) Variants.none () Set.univ forgets0 := fun t => by
  rw [bigSep_W0, bigSep_W0, defs₀_row]
  simp only [show forgets0 0 = false from rfl, show forgets0 1 = false from rfl, show forgets0 2 = false from rfl, show forgets0 3 = false from rfl, show forgets0 4 = false from rfl, show forgets0 5 = false from rfl, show forgets0 6 = true from rfl, show forgets0 7 = true from rfl, show forgets0 8 = true from rfl, show forgets0 9 = true from rfl, show forgets0 10 = true from rfl, show forgets0 11 = true from rfl, show forgets0 12 = true from rfl, show forgets0 13 = true from rfl]
  unfold bodyAt0
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, H6, H7, H8, H9, H10, H11, H12, H13⟩
  rw [before0_0, before0_1, before0_2, before0_3, before0_4, before0_5]
  iapply (wp_frame_wand (body_any c Set.univ _ _ _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t)))
  unfold Held
  isplitl [H0 H1 H2 H3 H4 H5 H6 H7 H8 H9 H10 H11 H12 H13 HS0 HS1 HS2 HS3]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS0]; · iexact HS0
    isplitl [HS1]; · iexact HS1
    isplitl [HS2]; · iexact HS2
    iexact HS3
  iintro ⟨H0, H1, H2, H3, H4, H5, H6, H7, H8, H9, H10, H11, H12, H13, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]
  · change _ ⊢ owns (c : Thread nD τ) (stage0_0 (cfg0.slots t 0)) fullShare ((dats m 0 c).after 0 t)
    rw [after0_0]
  isplitl [H1]
  · change _ ⊢ owns (c : Thread nD τ) (stage0_1 (cfg0.slots t 1)) fullShare ((dats m 0 c).after 1 t)
    rw [after0_1]
  isplitl [H2]
  · change _ ⊢ owns (c : Thread nD τ) (stage0_2 (cfg0.slots t 2)) fullShare ((dats m 0 c).after 2 t)
    rw [after0_2]
  isplitl [H3]
  · change _ ⊢ owns (c : Thread nD τ) (stage0_3 (cfg0.slots t 3)) fullShare ((dats m 0 c).after 3 t)
    rw [after0_3]
  isplitl [H4]
  · change _ ⊢ owns (c : Thread nD τ) (stage0_4 (cfg0.slots t 4)) fullShare ((dats m 0 c).after 4 t)
    rw [after0_4]
  isplitl [H5]
  · change _ ⊢ owns (c : Thread nD τ) (stage0_5 (cfg0.slots t 5)) fullShare ((dats m 0 c).after 5 t)
    rw [after0_5]
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => body_obligation m c) (hshare := fun c => (dats m 0 c).share_full fun _ => rfl)
    (howed := fun _ _ => rfl) (V := V m) (hmain := hmain m Variants.none) (hA := A_eq m) (hΦ := fun _ _ => rfl)

theorem framePost (r : PUnit × MemSt nD τ sig (Elt F))
    (h : Pipeline.RDat.FramePost (cfgs 0) (fun c => (dats m 0 c).toRForget forgets0) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(Eq.mp (congrFun (Pipeline.RDat.ArrAt_in ((dats m 0 c).toRForget forgets0) 0 rfl _) _) ((h c).1 0)).trans (V_main_arg0 m c),
    (Eq.mp (congrFun (Pipeline.RDat.ArrAt_in ((dats m 0 c).toRForget forgets0) 1 rfl _) _) ((h c).1 1)).trans (V_main_arg1 m c),
    (Eq.mp (congrFun (Pipeline.RDat.ArrAt_in ((dats m 0 c).toRForget forgets0) 2 rfl _) _) ((h c).1 2)).trans (V_main_arg2 m c),
    (Eq.mp (congrFun (Pipeline.RDat.ArrAt_in ((dats m 0 c).toRForget forgets0) 3 rfl _) _) ((h c).1 3)).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- The frame: every run ends, the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => framePost m r h.1 c, h.2⟩) (run_main_quiescent m ρ)

end Cert.Pyramid.Gen

end
-- ==== Proof.PyramidIdealBody.lean ====
/-
  The body of the pyramid, run at any contents of its outputs and scratch: whichever of its three branches a
  point takes, it ends with the inputs as they were.
-/
module

public import proofs.«01_k».proof.Proof.Gen.PyramidIdeal.Frame
public import proofs.«01_k».proof.Proof.Gen.PyramidIdeal.Loops

@[expose] public section

set_option maxRecDepth 16384

noncomputable section

namespace Cert.PyramidIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The six inputs at what they hold, the outputs and the scratch at anything. -/
def Held (c : Dev nD) (arg2 : Memref sig .tc .vmem S1x1024x1024 .bf16) (arg3 : Memref sig .tc .vmem S3x4096x1024 .fp8e4m3) (arg4 : Memref sig .tc .vmem S3x1024 .f32) (arg5 : Memref sig .tc .vmem S3x1024 .f32) (arg6 : Memref sig .tc .vmem S1x1024 .f32) (arg7 : Memref sig .tc .vmem S1x1024 .f32) (arg8 : Memref sig .tc .vmem S1x256x4096 .fp8e4m3) (arg9 : Memref sig .tc .vmem S1x1x256 .f32) (arg10 : Memref sig .tc .vmem S1x256x4096 .fp8e4m3) (arg11 : Memref sig .tc .vmem S1x1x256 .f32) (arg12 : Memref sig .tc .vmem S1x128x4096 .fp8e4m3) (arg13 : Memref sig .tc .vmem S1x1x128 .f32) (arg14 : Memref sig .tc .vmem S1x1024x1024 .fp8e4m3) (arg15 : Memref sig .tc .vmem S1x1x1024 .f32) (arg16 : Memref sig .tc .vmem S2688x1024 .bf16) (arg17 : Memref sig .tc .vmem S8x1024x128 .f32) (arg18 : Memref sig .tc .vmem S1024x128 .f32) (arg19 : Memref sig .tc .vmem S1024x128 .f32) (x2 : Vec F S1x1024x1024 .bf16) (x3 : Vec F S3x4096x1024 .fp8e4m3) (x4 : Vec F S3x1024 .f32) (x5 : Vec F S3x1024 .f32) (x6 : Vec F S1x1024 .f32) (x7 : Vec F S1x1024 .f32) : sProp (MT nD τ sig Unit (Elt F) ℕ (UR sig nD τ) ℕ) :=
  iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d))

set_option maxHeartbeats 40000000 in
theorem body_first (c : Dev nD) (E : Set ℕ) (i : grid0.Coords) (arg2 : Memref sig .tc .vmem S1x1024x1024 .bf16) (harg2 : arg2.IsWhole) (arg3 : Memref sig .tc .vmem S3x4096x1024 .fp8e4m3) (harg3 : arg3.IsWhole) (arg4 : Memref sig .tc .vmem S3x1024 .f32) (harg4 : arg4.IsWhole) (arg5 : Memref sig .tc .vmem S3x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x256x4096 .fp8e4m3) (harg8 : arg8.IsWhole) (arg9 : Memref sig .tc .vmem S1x1x256 .f32) (harg9 : arg9.IsWhole) (arg10 : Memref sig .tc .vmem S1x256x4096 .fp8e4m3) (harg10 : arg10.IsWhole) (arg11 : Memref sig .tc .vmem S1x1x256 .f32) (harg11 : arg11.IsWhole) (arg12 : Memref sig .tc .vmem S1x128x4096 .fp8e4m3) (harg12 : arg12.IsWhole) (arg13 : Memref sig .tc .vmem S1x1x128 .f32) (harg13 : arg13.IsWhole) (arg14 : Memref sig .tc .vmem S1x1024x1024 .fp8e4m3) (harg14 : arg14.IsWhole) (arg15 : Memref sig .tc .vmem S1x1x1024 .f32) (harg15 : arg15.IsWhole) (arg16 : Memref sig .tc .vmem S2688x1024 .bf16) (harg16 : arg16.IsWhole) (arg17 : Memref sig .tc .vmem S8x1024x128 .f32) (harg17 : arg17.IsWhole) (arg18 : Memref sig .tc .vmem S1024x128 .f32) (harg18 : arg18.IsWhole) (arg19 : Memref sig .tc .vmem S1024x128 .f32) (harg19 : arg19.IsWhole) (x2 : Vec F S1x1024x1024 .bf16) (x3 : Vec F S3x4096x1024 .fp8e4m3) (x4 : Vec F S3x1024 .f32) (x5 : Vec F S3x1024 .f32) (x6 : Vec F S1x1024 .f32) (x7 : Vec F S1x1024 .f32)
    (h1 : k0_cond1 i = 1#1) (h2 : ¬ k0_cond2 i = 1#1) (h3 : ¬ k0_cond3 i = 1#1) :
    Held c arg2 arg3 arg4 arg5 arg6 arg7 arg8 arg9 arg10 arg11 arg12 arg13 arg14 arg15 arg16 arg17 arg18 arg19 x2 x3 x4 x5 x6 x7
      ⊢ wp frame (wpE (defs₀ (F := F)) Variants.none c none) E (cc0_pyramid i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (fun _ => Held c arg2 arg3 arg4 arg5 arg6 arg7 arg8 arg9 arg10 arg11 arg12 arg13 arg14 arg15 arg16 arg17 arg18 arg19 x2 x3 x4 x5 x6 x7) := by
  simp only [cc0_pyramid_eq_skeleton]; unfold cc0_pyramid_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton]
  unfold Held owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
  sl_exec (disch := first | sl_exact h1 | sl_exact h2 | sl_exact h3)
  sl_step
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists _, _; isplitr
    swap; · iexact H8
    ipureintro; rfl
  isplitl [H9]
  · iexists _, _; isplitr
    swap; · iexact H9
    ipureintro; rfl
  isplitl [H10]
  · iexists _, _; isplitr
    swap; · iexact H10
    ipureintro; rfl
  isplitl [H11]
  · iexists _, _; isplitr
    swap; · iexact H11
    ipureintro; rfl
  isplitl [H12]
  · iexists _, _; isplitr
    swap; · iexact H12
    ipureintro; rfl
  isplitl [H13]
  · iexists _, _; isplitr
    swap; · iexact H13
    ipureintro; rfl
  isplitl [H14]
  · iexists _, _; isplitr
    swap; · iexact H14
    ipureintro; rfl
  isplitl [H15]
  · iexists _, _; isplitr
    swap; · iexact H15
    ipureintro; rfl
  isplitl [H16]
  · iexists _, _; isplitr
    swap; · iexact H16
    ipureintro; rfl
  isplitl [H17]
  · iexists _, _; isplitr
    swap; · iexact H17
    ipureintro; rfl
  isplitl [H18]
  · iexists _, _; isplitr
    swap; · iexact H18
    ipureintro; rfl
  iexists _, _; isplitr
  swap; · iexact H19
  ipureintro; rfl

set_option maxHeartbeats 40000000 in
theorem body_middle (c : Dev nD) (E : Set ℕ) (i : grid0.Coords) (arg2 : Memref sig .tc .vmem S1x1024x1024 .bf16) (harg2 : arg2.IsWhole) (arg3 : Memref sig .tc .vmem S3x4096x1024 .fp8e4m3) (harg3 : arg3.IsWhole) (arg4 : Memref sig .tc .vmem S3x1024 .f32) (harg4 : arg4.IsWhole) (arg5 : Memref sig .tc .vmem S3x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x256x4096 .fp8e4m3) (harg8 : arg8.IsWhole) (arg9 : Memref sig .tc .vmem S1x1x256 .f32) (harg9 : arg9.IsWhole) (arg10 : Memref sig .tc .vmem S1x256x4096 .fp8e4m3) (harg10 : arg10.IsWhole) (arg11 : Memref sig .tc .vmem S1x1x256 .f32) (harg11 : arg11.IsWhole) (arg12 : Memref sig .tc .vmem S1x128x4096 .fp8e4m3) (harg12 : arg12.IsWhole) (arg13 : Memref sig .tc .vmem S1x1x128 .f32) (harg13 : arg13.IsWhole) (arg14 : Memref sig .tc .vmem S1x1024x1024 .fp8e4m3) (harg14 : arg14.IsWhole) (arg15 : Memref sig .tc .vmem S1x1x1024 .f32) (harg15 : arg15.IsWhole) (arg16 : Memref sig .tc .vmem S2688x1024 .bf16) (harg16 : arg16.IsWhole) (arg17 : Memref sig .tc .vmem S8x1024x128 .f32) (harg17 : arg17.IsWhole) (arg18 : Memref sig .tc .vmem S1024x128 .f32) (harg18 : arg18.IsWhole) (arg19 : Memref sig .tc .vmem S1024x128 .f32) (harg19 : arg19.IsWhole) (x2 : Vec F S1x1024x1024 .bf16) (x3 : Vec F S3x4096x1024 .fp8e4m3) (x4 : Vec F S3x1024 .f32) (x5 : Vec F S3x1024 .f32) (x6 : Vec F S1x1024 .f32) (x7 : Vec F S1x1024 .f32)
    (h1 : ¬ k0_cond1 i = 1#1) (h2 : k0_cond2 i = 1#1) (h3 : ¬ k0_cond3 i = 1#1) :
    Held c arg2 arg3 arg4 arg5 arg6 arg7 arg8 arg9 arg10 arg11 arg12 arg13 arg14 arg15 arg16 arg17 arg18 arg19 x2 x3 x4 x5 x6 x7
      ⊢ wp frame (wpE (defs₀ (F := F)) Variants.none c none) E (cc0_pyramid i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (fun _ => Held c arg2 arg3 arg4 arg5 arg6 arg7 arg8 arg9 arg10 arg11 arg12 arg13 arg14 arg15 arg16 arg17 arg18 arg19 x2 x3 x4 x5 x6 x7) := by
  simp only [cc0_pyramid_eq_skeleton]; unfold cc0_pyramid_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton]
  unfold Held owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
  sl_exec (disch := first | sl_exact h1 | sl_exact h2 | sl_exact h3)
  sl_step
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists _, _; isplitr
    swap; · iexact H8
    ipureintro; rfl
  isplitl [H9]
  · iexists _, _; isplitr
    swap; · iexact H9
    ipureintro; rfl
  isplitl [H10]
  · iexists _, _; isplitr
    swap; · iexact H10
    ipureintro; rfl
  isplitl [H11]
  · iexists _, _; isplitr
    swap; · iexact H11
    ipureintro; rfl
  isplitl [H12]
  · iexists _, _; isplitr
    swap; · iexact H12
    ipureintro; rfl
  isplitl [H13]
  · iexists _, _; isplitr
    swap; · iexact H13
    ipureintro; rfl
  isplitl [H14]
  · iexists _, _; isplitr
    swap; · iexact H14
    ipureintro; rfl
  isplitl [H15]
  · iexists _, _; isplitr
    swap; · iexact H15
    ipureintro; rfl
  isplitl [H16]
  · iexists _, _; isplitr
    swap; · iexact H16
    ipureintro; rfl
  isplitl [H17]
  · iexists _, _; isplitr
    swap; · iexact H17
    ipureintro; rfl
  isplitl [H18]
  · iexists _, _; isplitr
    swap; · iexact H18
    ipureintro; rfl
  iexists _, _; isplitr
  swap; · iexact H19
  ipureintro; rfl

set_option maxHeartbeats 40000000 in
theorem body_last (c : Dev nD) (E : Set ℕ) (i : grid0.Coords) (arg2 : Memref sig .tc .vmem S1x1024x1024 .bf16) (harg2 : arg2.IsWhole) (arg3 : Memref sig .tc .vmem S3x4096x1024 .fp8e4m3) (harg3 : arg3.IsWhole) (arg4 : Memref sig .tc .vmem S3x1024 .f32) (harg4 : arg4.IsWhole) (arg5 : Memref sig .tc .vmem S3x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x256x4096 .fp8e4m3) (harg8 : arg8.IsWhole) (arg9 : Memref sig .tc .vmem S1x1x256 .f32) (harg9 : arg9.IsWhole) (arg10 : Memref sig .tc .vmem S1x256x4096 .fp8e4m3) (harg10 : arg10.IsWhole) (arg11 : Memref sig .tc .vmem S1x1x256 .f32) (harg11 : arg11.IsWhole) (arg12 : Memref sig .tc .vmem S1x128x4096 .fp8e4m3) (harg12 : arg12.IsWhole) (arg13 : Memref sig .tc .vmem S1x1x128 .f32) (harg13 : arg13.IsWhole) (arg14 : Memref sig .tc .vmem S1x1024x1024 .fp8e4m3) (harg14 : arg14.IsWhole) (arg15 : Memref sig .tc .vmem S1x1x1024 .f32) (harg15 : arg15.IsWhole) (arg16 : Memref sig .tc .vmem S2688x1024 .bf16) (harg16 : arg16.IsWhole) (arg17 : Memref sig .tc .vmem S8x1024x128 .f32) (harg17 : arg17.IsWhole) (arg18 : Memref sig .tc .vmem S1024x128 .f32) (harg18 : arg18.IsWhole) (arg19 : Memref sig .tc .vmem S1024x128 .f32) (harg19 : arg19.IsWhole) (x2 : Vec F S1x1024x1024 .bf16) (x3 : Vec F S3x4096x1024 .fp8e4m3) (x4 : Vec F S3x1024 .f32) (x5 : Vec F S3x1024 .f32) (x6 : Vec F S1x1024 .f32) (x7 : Vec F S1x1024 .f32)
    (h1 : ¬ k0_cond1 i = 1#1) (h2 : ¬ k0_cond2 i = 1#1) (h3 : k0_cond3 i = 1#1) :
    Held c arg2 arg3 arg4 arg5 arg6 arg7 arg8 arg9 arg10 arg11 arg12 arg13 arg14 arg15 arg16 arg17 arg18 arg19 x2 x3 x4 x5 x6 x7
      ⊢ wp frame (wpE (defs₀ (F := F)) Variants.none c none) E (cc0_pyramid i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (fun _ => Held c arg2 arg3 arg4 arg5 arg6 arg7 arg8 arg9 arg10 arg11 arg12 arg13 arg14 arg15 arg16 arg17 arg18 arg19 x2 x3 x4 x5 x6 x7) := by
  simp only [cc0_pyramid_eq_skeleton]; unfold cc0_pyramid_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton]
  unfold Held owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
  sl_exec (disch := first | sl_exact h1 | sl_exact h2 | sl_exact h3)
  sl_step
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists _, _; isplitr
    swap; · iexact H8
    ipureintro; rfl
  isplitl [H9]
  · iexists _, _; isplitr
    swap; · iexact H9
    ipureintro; rfl
  isplitl [H10]
  · iexists _, _; isplitr
    swap; · iexact H10
    ipureintro; rfl
  isplitl [H11]
  · iexists _, _; isplitr
    swap; · iexact H11
    ipureintro; rfl
  isplitl [H12]
  · iexists _, _; isplitr
    swap; · iexact H12
    ipureintro; rfl
  isplitl [H13]
  · iexists _, _; isplitr
    swap; · iexact H13
    ipureintro; rfl
  isplitl [H14]
  · iexists _, _; isplitr
    swap; · iexact H14
    ipureintro; rfl
  isplitl [H15]
  · iexists _, _; isplitr
    swap; · iexact H15
    ipureintro; rfl
  isplitl [H16]
  · iexists _, _; isplitr
    swap; · iexact H16
    ipureintro; rfl
  isplitl [H17]
  · iexists _, _; isplitr
    swap; · iexact H17
    ipureintro; rfl
  isplitl [H18]
  · iexists _, _; isplitr
    swap; · iexact H18
    ipureintro; rfl
  iexists _, _; isplitr
  swap; · iexact H19
  ipureintro; rfl

/-- A point takes exactly one of the branches. -/
theorem branch : ∀ i : grid0.Coords, (k0_cond1 i = 1#1 ∧ ¬ k0_cond2 i = 1#1 ∧ ¬ k0_cond3 i = 1#1)
    ∨ (¬ k0_cond1 i = 1#1 ∧ k0_cond2 i = 1#1 ∧ ¬ k0_cond3 i = 1#1)
    ∨ (¬ k0_cond1 i = 1#1 ∧ ¬ k0_cond2 i = 1#1 ∧ k0_cond3 i = 1#1) := by
  decide +kernel

theorem body_any (c : Dev nD) (E : Set ℕ) (i : grid0.Coords) (arg2 : Memref sig .tc .vmem S1x1024x1024 .bf16) (harg2 : arg2.IsWhole) (arg3 : Memref sig .tc .vmem S3x4096x1024 .fp8e4m3) (harg3 : arg3.IsWhole) (arg4 : Memref sig .tc .vmem S3x1024 .f32) (harg4 : arg4.IsWhole) (arg5 : Memref sig .tc .vmem S3x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x256x4096 .fp8e4m3) (harg8 : arg8.IsWhole) (arg9 : Memref sig .tc .vmem S1x1x256 .f32) (harg9 : arg9.IsWhole) (arg10 : Memref sig .tc .vmem S1x256x4096 .fp8e4m3) (harg10 : arg10.IsWhole) (arg11 : Memref sig .tc .vmem S1x1x256 .f32) (harg11 : arg11.IsWhole) (arg12 : Memref sig .tc .vmem S1x128x4096 .fp8e4m3) (harg12 : arg12.IsWhole) (arg13 : Memref sig .tc .vmem S1x1x128 .f32) (harg13 : arg13.IsWhole) (arg14 : Memref sig .tc .vmem S1x1024x1024 .fp8e4m3) (harg14 : arg14.IsWhole) (arg15 : Memref sig .tc .vmem S1x1x1024 .f32) (harg15 : arg15.IsWhole) (arg16 : Memref sig .tc .vmem S2688x1024 .bf16) (harg16 : arg16.IsWhole) (arg17 : Memref sig .tc .vmem S8x1024x128 .f32) (harg17 : arg17.IsWhole) (arg18 : Memref sig .tc .vmem S1024x128 .f32) (harg18 : arg18.IsWhole) (arg19 : Memref sig .tc .vmem S1024x128 .f32) (harg19 : arg19.IsWhole) (x2 : Vec F S1x1024x1024 .bf16) (x3 : Vec F S3x4096x1024 .fp8e4m3) (x4 : Vec F S3x1024 .f32) (x5 : Vec F S3x1024 .f32) (x6 : Vec F S1x1024 .f32) (x7 : Vec F S1x1024 .f32) :
    Held c arg2 arg3 arg4 arg5 arg6 arg7 arg8 arg9 arg10 arg11 arg12 arg13 arg14 arg15 arg16 arg17 arg18 arg19 x2 x3 x4 x5 x6 x7
      ⊢ wp frame (wpE (defs₀ (F := F)) Variants.none c none) E (cc0_pyramid i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (fun _ => Held c arg2 arg3 arg4 arg5 arg6 arg7 arg8 arg9 arg10 arg11 arg12 arg13 arg14 arg15 arg16 arg17 arg18 arg19 x2 x3 x4 x5 x6 x7) := by
  rcases branch i with ⟨h1, h2, h3⟩ | ⟨h1, h2, h3⟩ | ⟨h1, h2, h3⟩
  · exact body_first c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 x7 h1 h2 h3
  · exact body_middle c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 x7 h1 h2 h3
  · exact body_last c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 x7 h1 h2 h3

/-- A triple used under a frame. -/
theorem wp_frame_wand {c : Dev nD} {E : Set ℕ} {p : Prog (TpuEff nD τ sig (Elt F) Λ₀ .tc) PUnit} {pre post : sProp (MT nD τ sig Unit (Elt F) ℕ (UR sig nD τ) ℕ)} {Q : PUnit → sProp (MT nD τ sig Unit (Elt F) ℕ (UR sig nD τ) ℕ)}
    (h : pre ⊢ wp frame (wpE (defs₀ (F := F)) Variants.none (c : Thread nD τ) none) E p fun _ => post) :
    iprop(pre ∗ (post -∗ Q ⟨⟩)) ⊢ wp frame (wpE (defs₀ (F := F)) Variants.none (c : Thread nD τ) none) E p Q := by
  refine (sep_mono_left h).trans ?_
  refine (wp_frame_r frame _ E).trans (wp_mono frame _ E fun _ => ?_)
  iintro ⟨H, Hk⟩
  iapply Hk
  iexact H

end Cert.PyramidIdeal.Gen

end
-- ==== Proof.PyramidIdealFrame.lean ====
/-
  The frame of the pyramid over the reals: nothing is said here of what its results hold.
-/
module

public import proofs.«01_k».proof.Proof.PyramidIdealBody
public import Idealize.ShloMosaic.Lib.Claim

@[expose] public section

set_option maxRecDepth 16384

noncomputable section

namespace Cert.PyramidIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

variable (m : (ℓ : Loc nD τ sig) → Buf (Elt F) ℓ) (ρ : Dev nD → PrngReg)

abbrev scM0_0 : Memref sig .tc .vmem S2688x1024 .bf16 := Memref.whole cc0_scratch0
abbrev scM0_1 : Memref sig .tc .vmem S8x1024x128 .f32 := Memref.whole cc0_scratch1
abbrev scM0_2 : Memref sig .tc .vmem S1024x128 .f32 := Memref.whole cc0_scratch2
abbrev scM0_3 : Memref sig .tc .vmem S1024x128 .f32 := Memref.whole cc0_scratch3

/-- The invariant: the four scratch buffers at some contents, and the generator's register. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The outputs, of which nothing is said. -/
def forgets0 : Fin 14 → Bool := ![false, false, false, false, false, false, true, true, true, true, true, true, true, true]

/-- The proof data: the inputs' buffers at their blocks after the body, the outputs' not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

set_option maxHeartbeats 1200000 in
/-- The body at any point. -/
theorem body_obligation (c : Dev nD) : BodyObligationLoose (dats (F := F) m 0 c) (defs₀ (F := F)) Variants.none () Set.univ forgets0 := fun t => by
  rw [bigSep_W0, bigSep_W0, defs₀_row]
  simp only [show forgets0 0 = false from rfl, show forgets0 1 = false from rfl, show forgets0 2 = false from rfl, show forgets0 3 = false from rfl, show forgets0 4 = false from rfl, show forgets0 5 = false from rfl, show forgets0 6 = true from rfl, show forgets0 7 = true from rfl, show forgets0 8 = true from rfl, show forgets0 9 = true from rfl, show forgets0 10 = true from rfl, show forgets0 11 = true from rfl, show forgets0 12 = true from rfl, show forgets0 13 = true from rfl]
  unfold bodyAt0
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, H6, H7, H8, H9, H10, H11, H12, H13⟩
  rw [before0_0, before0_1, before0_2, before0_3, before0_4, before0_5]
  iapply (wp_frame_wand (body_any c Set.univ _ _ _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t)))
  unfold Held
  isplitl [H0 H1 H2 H3 H4 H5 H6 H7 H8 H9 H10 H11 H12 H13 HS0 HS1 HS2 HS3]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS0]; · iexact HS0
    isplitl [HS1]; · iexact HS1
    isplitl [HS2]; · iexact HS2
    iexact HS3
  iintro ⟨H0, H1, H2, H3, H4, H5, H6, H7, H8, H9, H10, H11, H12, H13, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]
  · change _ ⊢ owns (c : Thread nD τ) (stage0_0 (cfg0.slots t 0)) fullShare ((dats m 0 c).after 0 t)
    rw [after0_0]
  isplitl [H1]
  · change _ ⊢ owns (c : Thread nD τ) (stage0_1 (cfg0.slots t 1)) fullShare ((dats m 0 c).after 1 t)
    rw [after0_1]
  isplitl [H2]
  · change _ ⊢ owns (c : Thread nD τ) (stage0_2 (cfg0.slots t 2)) fullShare ((dats m 0 c).after 2 t)
    rw [after0_2]
  isplitl [H3]
  · change _ ⊢ owns (c : Thread nD τ) (stage0_3 (cfg0.slots t 3)) fullShare ((dats m 0 c).after 3 t)
    rw [after0_3]
  isplitl [H4]
  · change _ ⊢ owns (c : Thread nD τ) (stage0_4 (cfg0.slots t 4)) fullShare ((dats m 0 c).after 4 t)
    rw [after0_4]
  isplitl [H5]
  · change _ ⊢ owns (c : Thread nD τ) (stage0_5 (cfg0.slots t 5)) fullShare ((dats m 0 c).after 5 t)
    rw [after0_5]
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => body_obligation m c) (hshare := fun c => (dats m 0 c).share_full fun _ => rfl)
    (howed := fun _ _ => rfl) (V := V m) (hmain := hmain m Variants.none) (hA := A_eq m) (hΦ := fun _ _ => rfl)

theorem framePost (r : PUnit × MemSt nD τ sig (Elt F))
    (h : Pipeline.RDat.FramePost (cfgs 0) (fun c => (dats m 0 c).toRForget forgets0) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(Eq.mp (congrFun (Pipeline.RDat.ArrAt_in ((dats m 0 c).toRForget forgets0) 0 rfl _) _) ((h c).1 0)).trans (V_main_arg0 m c),
    (Eq.mp (congrFun (Pipeline.RDat.ArrAt_in ((dats m 0 c).toRForget forgets0) 1 rfl _) _) ((h c).1 1)).trans (V_main_arg1 m c),
    (Eq.mp (congrFun (Pipeline.RDat.ArrAt_in ((dats m 0 c).toRForget forgets0) 2 rfl _) _) ((h c).1 2)).trans (V_main_arg2 m c),
    (Eq.mp (congrFun (Pipeline.RDat.ArrAt_in ((dats m 0 c).toRForget forgets0) 3 rfl _) _) ((h c).1 3)).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- The frame: every run ends, the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => framePost m r h.1 c, h.2⟩) (run_main_quiescent m ρ)

end Cert.PyramidIdeal.Gen

end
-- ==== Proof.WindowLoop.lean ====
/-
  The first loop of the pyramid, by what it leaves in the two arrays the window stage reads: the 64 rows of a
  trip at f32 by tiles of 128 lanes, and each row's largest magnitude in every lane.
-/
module

public import proofs.«01_k».proof.Proof.Gen.PyramidIdeal.Skeleton
public import Idealize.ShloMosaic.Lib.Exec
public import Idealize.ShloMosaic.Lib.Tactic
public import Idealize.ShloMosaic.Lib.Pipeline.Kit
public import Idealize.ShloMosaic.Lib.Pipeline.ValueKit
public import Idealize.ShloMosaic.Lib.WritesUnit
public import Idealize.ShloMosaic.Lib.ValueLayout

@[expose] public section

set_option maxRecDepth 16384

noncomputable section

namespace Cert.PyramidIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The 64 rows of trip `k`. -/
def chunk (x : Vec F S1x1024x1024 .bf16) (k : Nat) : Vec F S1x64x1024 .bf16 :=
  fun y => x (ValueIdx.ix3 (0 : Fin 1) (⟨(64 * k + (y 1).val) % 1024, Nat.mod_lt _ (by omega)⟩ : Fin 1024) (y 2))

/-- The rows at f32: lane tile, row, lane. -/
def rowsF (x : Vec F S1x1024x1024 .bf16) : Vec F S8x1024x128 .f32 := fun j =>
  k0_pay6 (chunk x ((j 1).val / 64)) (ValueIdx.ix2 (⟨(j 1).val % 64, Nat.mod_lt _ (by omega)⟩ : Fin 64)
    (⟨(128 * (j 0).val + (j 2).val) % 1024, Nat.mod_lt _ (by omega)⟩ : Fin 1024))

/-- Each row's largest magnitude, in every lane. -/
def topsF (x : Vec F S1x1024x1024 .bf16) : Vec F S1024x128 .f32 := fun j =>
  k0_pay16 (k0_pay5 (chunk x ((j 0).val / 64))) (ValueIdx.ix2 (⟨(j 0).val % 64, Nat.mod_lt _ (by omega)⟩ : Fin 64) (j 1))

theorem off1 : ∀ k : Fin k0_t1_loop.trips, k0_off1 k = ![0, 64 * k.val, 0] := by decide +kernel
theorem off2 : ∀ k : Fin k0_t1_loop.trips, k0_off2 k = ![0, 64 * k.val, 0] := by decide +kernel
theorem off3 : ∀ k : Fin k0_t1_loop.trips, k0_off3 k = ![1, 64 * k.val, 0] := by decide +kernel
theorem off4 : ∀ k : Fin k0_t1_loop.trips, k0_off4 k = ![2, 64 * k.val, 0] := by decide +kernel
theorem off5 : ∀ k : Fin k0_t1_loop.trips, k0_off5 k = ![3, 64 * k.val, 0] := by decide +kernel
theorem off6 : ∀ k : Fin k0_t1_loop.trips, k0_off6 k = ![4, 64 * k.val, 0] := by decide +kernel
theorem off7 : ∀ k : Fin k0_t1_loop.trips, k0_off7 k = ![5, 64 * k.val, 0] := by decide +kernel
theorem off8 : ∀ k : Fin k0_t1_loop.trips, k0_off8 k = ![6, 64 * k.val, 0] := by decide +kernel
theorem off9 : ∀ k : Fin k0_t1_loop.trips, k0_off9 k = ![7, 64 * k.val, 0] := by decide +kernel
theorem off10 : ∀ k : Fin k0_t1_loop.trips, k0_off10 k = ![64 * k.val, 0] := by decide +kernel

/-- One more piece read back: right under the piece, and right where the piece does not reach. -/
theorem read_cons_of {S : Shape} {e : EltTy} {κ : Kind} {sp : Space} (v : View sig κ sp S e) (f : v.ty.Contents (Elt F)) {off off' size : Fin S.rank → ℕ}
    (inb : ∀ a, off a + size a ≤ S.size a) (w : (Rect.unit off size inb).shape.Idx → Elt F e)
    (L : List (View.Piece (Elt F) S e)) (y : S.Idx) (val : Elt F e) (heq : off = off')
    (h1 : ∀ x : (Rect.unit off size inb).shape.Idx, (∀ a, (y a).val = off' a + (x a).val) → w x = val)
    (h2 : (¬ ∀ a, off' a ≤ (y a).val ∧ (y a).val < off' a + size a) → v.read (Elt F) (v.writes (Elt F) f L) y = val) :
    v.read (Elt F) (v.writes (Elt F) f (⟨Rect.unit off size inb, w⟩ :: L)) y = val := by
  by_cases h : ∀ a, off' a ≤ (y a).val ∧ (y a).val < off' a + size a
  · have e : ∀ a, (y a).val = off' a + (Rect.unitLocal (s := S) (size := size) y h a).val := fun a => by
      rw [Rect.unitLocal_val]; have := h a; omega
    exact (View.read_writes_cons_unit_of_mem v f inb w L y (Rect.unitLocal (s := S) y h) heq e).trans (h1 (Rect.unitLocal (s := S) y h) e)
  · subst heq
    refine Eq.trans ?_ (h2 h)
    rw [View.writes_cons]
    refine View.read_slice_write_of_not_mem _ _ _ _ ?_
    rw [Rect.map_emb_univ]
    exact fun hm => h ((Rect.mem_set_unit (inb := inb)).mp hm)

theorem idx2_ext {a b : Nat} {x y : (⟨2, ![a, b]⟩ : Shape).Idx} (h0 : (x 0).val = (y 0).val) (h1 : (x 1).val = (y 1).val) : x = y := by
  funext c
  match c with
  | ⟨0, _⟩ => exact Fin.ext h0
  | ⟨1, _⟩ => exact Fin.ext h1

theorem idx3_ext {a b d : Nat} {x y : (⟨3, ![a, b, d]⟩ : Shape).Idx} (h0 : (x 0).val = (y 0).val) (h1 : (x 1).val = (y 1).val)
    (h2 : (x 2).val = (y 2).val) : x = y := by
  funext c
  match c with
  | ⟨0, _⟩ => exact Fin.ext h0
  | ⟨1, _⟩ => exact Fin.ext h1
  | ⟨2, _⟩ => exact Fin.ext h2

/-- A lane tile of a trip's rows. -/
theorem rows_tile (x : Vec F S1x1024x1024 .bf16) (k : Nat) (v : Vec F S1x64x1024 .bf16) (hv : v = chunk x k) (n m : Nat)
    (hm : m = 128 * n) (h : S64x1024.Slices ![0, m] S64x128) (h' : S64x128.ShapeCasts S1x64x128) (p : S1x64x128.Idx) (j : S8x1024x128.Idx)
    (hx : ∀ a : Fin 3, (j a).val = (![n, 64 * k, 0] : Fin 3 → Nat) a + (p a).val) :
    shapeCast S1x64x128 (extractStridedSlice S64x128 ![0, m] (k0_pay6 v) h) h' p = rowsF x j := by
  have h0 : (j 0).val = n + (p 0).val := hx 0
  have h1 : (j 1).val = 64 * k + (p 1).val := hx 1
  have h2 : (j 2).val = 0 + (p 2).val := hx 2
  have p0 : (p 0).val < 1 := (p 0).isLt
  have p1 : (p 1).val < 64 := (p 1).isLt
  have p2 : (p 2).val < 128 := (p 2).isLt
  have j0 : (j 0).val < 8 := (j 0).isLt
  obtain ⟨a, b, d, rfl⟩ : ∃ (a : Fin 1) (b : Fin 64) (d : Fin 128), p = ValueIdx.ix3 a b d :=
    ⟨p 0, p 1, p 2, idx3_ext rfl rfl rfl⟩
  have h1' : (j 1).val = 64 * k + b.val := h1
  have h2' : (j 2).val = 0 + d.val := h2
  have ha : n + 0 = (j 0).val := by
    have : (a : Fin 1).val = 0 := by omega
    have h0' : (j 0).val = n + a.val := h0
    omega
  unfold rowsF
  have hk : (j 1).val / 64 = k := by omega
  rw [hk, ← hv]
  refine (shapeCast_ab_1ab_apply _ _ _ _ _).trans (extractStridedSlice_apply _ _ _ _ _ fun c => ?_)
  match c with
  | ⟨0, _⟩ => show (j 1).val % 64 = 0 + b.val; omega
  | ⟨1, _⟩ => show (128 * (j 0).val + (j 2).val) % 1024 = m + d.val; omega

theorem tops_tile (x : Vec F S1x1024x1024 .bf16) (k : Nat) (v : Vec F S1x64x1024 .bf16) (hv : v = chunk x k) (p : S64x128.Idx) (j : S1024x128.Idx)
    (hx : ∀ a : Fin 2, (j a).val = (![64 * k, 0] : Fin 2 → Nat) a + (p a).val) :
    k0_pay16 (k0_pay5 v) p = topsF x j := by
  have h0 : (j 0).val = 64 * k + (p 0).val := hx 0
  have h1 : (j 1).val = 0 + (p 1).val := hx 1
  have p0 : (p 0).val < 64 := (p 0).isLt
  unfold topsF
  have hk : (j 0).val / 64 = k := by omega
  rw [hk, ← hv]
  refine congrArg _ (idx2_ext ?_ ?_)
  · show (p 0).val = (j 0).val % 64; omega
  · show (p 1).val = (j 1).val; omega

theorem chunk_read (arg2 : Memref sig .tc .vmem S1x1024x1024 .bf16) (X : BufTy.Contents (Elt F) arg2.view.ty) (k : Fin k0_t1_loop.trips) (hk : k.val < 16) (inb) :
    View.readAt (Elt F) arg2.view (Rect.unit (s := S1x1024x1024) (k0_off1 k) S1x64x1024.size inb).toLoadRect X = chunk (arg2.view.read (Elt F) X) k.val := by
  funext y
  have y0 : (y 0).val < 1 := (y 0).isLt
  have y1 : (y 1).val < 64 := (y 1).isLt
  refine congrArg (arg2.view.read (Elt F) X) (idx3_ext ?_ ?_ ?_)
  · have e : k0_off1 k 0 = 0 := congrFun (off1 k) 0
    show k0_off1 k 0 + 1 * (y 0).val = 0
    omega
  · have e : k0_off1 k 1 = 64 * k.val := congrFun (off1 k) 1
    show k0_off1 k 1 + 1 * (y 1).val = (64 * k.val + (y 1).val) % 1024
    omega
  · have e : k0_off1 k 2 = 0 := congrFun (off1 k) 2
    show k0_off1 k 2 + 1 * (y 2).val = (y 2).val
    omega

/-- A row of the trip is in one of its eight tiles. -/
theorem in_tile (j : S8x1024x128.Idx) (k n : Nat) (hj : (j 1).val < 64 * (k + 1)) (hn : ¬ (j 1).val < 64 * k) (h0 : (j 0).val = n) :
    ∀ a : Fin 3, (![n, 64 * k, 0] : Fin 3 → Nat) a ≤ (j a).val ∧ (j a).val < (![n, 64 * k, 0] : Fin 3 → Nat) a + S1x64x128.size a := by
  intro a
  have h2 : (j 2).val < 128 := (j 2).isLt
  match a with
  | ⟨0, _⟩ => exact ⟨h0.ge, by show (j 0).val < n + 1; omega⟩
  | ⟨1, _⟩ => exact ⟨by show 64 * k ≤ (j 1).val; omega, by show (j 1).val < 64 * k + 64; omega⟩
  | ⟨2, _⟩ => exact ⟨Nat.zero_le _, by show (j 2).val < 0 + 128; omega⟩

theorem no_tile (j : S8x1024x128.Idx) (k : Nat) (hj : (j 1).val < 64 * (k + 1)) (hn : ¬ (j 1).val < 64 * k)
    (n0 : ¬ ∀ a : Fin 3, (![0, 64 * k, 0] : Fin 3 → Nat) a ≤ (j a).val ∧ (j a).val < (![0, 64 * k, 0] : Fin 3 → Nat) a + S1x64x128.size a)
    (n1 : ¬ ∀ a : Fin 3, (![1, 64 * k, 0] : Fin 3 → Nat) a ≤ (j a).val ∧ (j a).val < (![1, 64 * k, 0] : Fin 3 → Nat) a + S1x64x128.size a)
    (n2 : ¬ ∀ a : Fin 3, (![2, 64 * k, 0] : Fin 3 → Nat) a ≤ (j a).val ∧ (j a).val < (![2, 64 * k, 0] : Fin 3 → Nat) a + S1x64x128.size a)
    (n3 : ¬ ∀ a : Fin 3, (![3, 64 * k, 0] : Fin 3 → Nat) a ≤ (j a).val ∧ (j a).val < (![3, 64 * k, 0] : Fin 3 → Nat) a + S1x64x128.size a)
    (n4 : ¬ ∀ a : Fin 3, (![4, 64 * k, 0] : Fin 3 → Nat) a ≤ (j a).val ∧ (j a).val < (![4, 64 * k, 0] : Fin 3 → Nat) a + S1x64x128.size a)
    (n5 : ¬ ∀ a : Fin 3, (![5, 64 * k, 0] : Fin 3 → Nat) a ≤ (j a).val ∧ (j a).val < (![5, 64 * k, 0] : Fin 3 → Nat) a + S1x64x128.size a)
    (n6 : ¬ ∀ a : Fin 3, (![6, 64 * k, 0] : Fin 3 → Nat) a ≤ (j a).val ∧ (j a).val < (![6, 64 * k, 0] : Fin 3 → Nat) a + S1x64x128.size a)
    (n7 : ¬ ∀ a : Fin 3, (![7, 64 * k, 0] : Fin 3 → Nat) a ≤ (j a).val ∧ (j a).val < (![7, 64 * k, 0] : Fin 3 → Nat) a + S1x64x128.size a)
    : False := by
  have h0 : (j 0).val < 8 := (j 0).isLt
  rcases (by omega : (j 0).val = 0 ∨ (j 0).val = 1 ∨ (j 0).val = 2 ∨ (j 0).val = 3 ∨ (j 0).val = 4 ∨ (j 0).val = 5 ∨ (j 0).val = 6 ∨ (j 0).val = 7)
    with h | h | h | h | h | h | h | h
  · exact n0 (in_tile j k 0 hj hn h)
  · exact n1 (in_tile j k 1 hj hn h)
  · exact n2 (in_tile j k 2 hj hn h)
  · exact n3 (in_tile j k 3 hj hn h)
  · exact n4 (in_tile j k 4 hj hn h)
  · exact n5 (in_tile j k 5 hj hn h)
  · exact n6 (in_tile j k 6 hj hn h)
  · exact n7 (in_tile j k 7 hj hn h)

/-- The class of invariants of the loop. -/
abbrev WLoopTy (Ix Name U Lvl : Type) [DecidableEq Ix] [DecidableEq Name] [RA.URA U] [Preorder Lvl]
    (𝒱 : Variants) (c : Dev nD) (bd : Option 𝒱.V) (E : Set Name) (i : grid0.Coords) (arg2 : Memref sig .tc .vmem S1x1024x1024 .bf16) (harg2 : arg2.IsWhole) (arg3 : Memref sig .tc .vmem S3x4096x1024 .fp8e4m3) (harg3 : arg3.IsWhole) (arg4 : Memref sig .tc .vmem S3x1024 .f32) (harg4 : arg4.IsWhole) (arg5 : Memref sig .tc .vmem S3x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x256x4096 .fp8e4m3) (harg8 : arg8.IsWhole) (arg9 : Memref sig .tc .vmem S1x1x256 .f32) (harg9 : arg9.IsWhole) (arg10 : Memref sig .tc .vmem S1x256x4096 .fp8e4m3) (harg10 : arg10.IsWhole) (arg11 : Memref sig .tc .vmem S1x1x256 .f32) (harg11 : arg11.IsWhole) (arg12 : Memref sig .tc .vmem S1x128x4096 .fp8e4m3) (harg12 : arg12.IsWhole) (arg13 : Memref sig .tc .vmem S1x1x128 .f32) (harg13 : arg13.IsWhole) (arg14 : Memref sig .tc .vmem S1x1024x1024 .fp8e4m3) (harg14 : arg14.IsWhole) (arg15 : Memref sig .tc .vmem S1x1x1024 .f32) (harg15 : arg15.IsWhole) (arg16 : Memref sig .tc .vmem S2688x1024 .bf16) (harg16 : arg16.IsWhole) (arg17 : Memref sig .tc .vmem S8x1024x128 .f32) (harg17 : arg17.IsWhole) (arg18 : Memref sig .tc .vmem S1024x128 .f32) (harg18 : arg18.IsWhole) (arg19 : Memref sig .tc .vmem S1024x128 .f32) (harg19 : arg19.IsWhole) (arg1 : BitVec 32) (k0_h1 : k0_cond1 i = 1#1) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st (k0_t1_ok i k0_h1) () (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 k0_h1)

/-- What holds before trip `k`. -/
abbrev winv (c : Dev nD) (arg2 : Memref sig .tc .vmem S1x1024x1024 .bf16) (arg6 : Memref sig .tc .vmem S1x1024 .f32) (arg7 : Memref sig .tc .vmem S1x1024 .f32) (arg14 : Memref sig .tc .vmem S1x1024x1024 .fp8e4m3) (arg17 : Memref sig .tc .vmem S8x1024x128 .f32) (arg18 : Memref sig .tc .vmem S1024x128 .f32) (arg19 : Memref sig .tc .vmem S1024x128 .f32) (X_arg2 : BufTy.Contents (Elt F) arg2.view.ty) (X_arg6 : BufTy.Contents (Elt F) arg6.view.ty) (X_arg7 : BufTy.Contents (Elt F) arg7.view.ty) (k : Nat) : sProp (MT nD τ sig Unit (Elt F) ℕ (UR sig nD τ) ℕ) :=
  iprop((arg2.view.loc (c : Thread nD τ) ↦[arg2.view.set]{fullShare} X_arg2) ∗ (arg6.view.loc (c : Thread nD τ) ↦[arg6.view.set]{fullShare} X_arg6) ∗ (arg7.view.loc (c : Thread nD τ) ↦[arg7.view.set]{fullShare} X_arg7)
    ∗ (∃ f, (arg14.view.loc (c : Thread nD τ) ↦[arg14.view.set]{fullShare} f) ∗ ⌜True⌝)
    ∗ (∃ f, (arg17.view.loc (c : Thread nD τ) ↦[arg17.view.set]{fullShare} f) ∗ ⌜∀ j, (j 1).val < 64 * k → arg17.view.read (Elt F) f j = rowsF (arg2.view.read (Elt F) X_arg2) j⌝)
    ∗ (∃ f, (arg18.view.loc (c : Thread nD τ) ↦[arg18.view.set]{fullShare} f) ∗ ⌜∀ j, (j 0).val < 64 * k → arg18.view.read (Elt F) f j = topsF (arg2.view.read (Elt F) X_arg2) j⌝)
    ∗ (∃ f, (arg19.view.loc (c : Thread nD τ) ↦[arg19.view.set]{fullShare} f) ∗ ⌜True⌝))

set_option warn.classDefReducibility false in
set_option maxHeartbeats 4000000 in
/-- The loop by this invariant. -/
@[sl_loop] def wloop (𝒱 : Variants) (c : Dev nD) (bd : Option 𝒱.V) (E : Set ℕ) (i : grid0.Coords) (arg2 : Memref sig .tc .vmem S1x1024x1024 .bf16) (harg2 : arg2.IsWhole) (arg3 : Memref sig .tc .vmem S3x4096x1024 .fp8e4m3) (harg3 : arg3.IsWhole) (arg4 : Memref sig .tc .vmem S3x1024 .f32) (harg4 : arg4.IsWhole) (arg5 : Memref sig .tc .vmem S3x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x256x4096 .fp8e4m3) (harg8 : arg8.IsWhole) (arg9 : Memref sig .tc .vmem S1x1x256 .f32) (harg9 : arg9.IsWhole) (arg10 : Memref sig .tc .vmem S1x256x4096 .fp8e4m3) (harg10 : arg10.IsWhole) (arg11 : Memref sig .tc .vmem S1x1x256 .f32) (harg11 : arg11.IsWhole) (arg12 : Memref sig .tc .vmem S1x128x4096 .fp8e4m3) (harg12 : arg12.IsWhole) (arg13 : Memref sig .tc .vmem S1x1x128 .f32) (harg13 : arg13.IsWhole) (arg14 : Memref sig .tc .vmem S1x1024x1024 .fp8e4m3) (harg14 : arg14.IsWhole) (arg15 : Memref sig .tc .vmem S1x1x1024 .f32) (harg15 : arg15.IsWhole) (arg16 : Memref sig .tc .vmem S2688x1024 .bf16) (harg16 : arg16.IsWhole) (arg17 : Memref sig .tc .vmem S8x1024x128 .f32) (harg17 : arg17.IsWhole) (arg18 : Memref sig .tc .vmem S1024x128 .f32) (harg18 : arg18.IsWhole) (arg19 : Memref sig .tc .vmem S1024x128 .f32) (harg19 : arg19.IsWhole) (arg1 : BitVec 32) (k0_h1 : k0_cond1 i = 1#1) (X_arg2 : BufTy.Contents (Elt F) arg2.view.ty) (X_arg6 : BufTy.Contents (Elt F) arg6.view.ty) (X_arg7 : BufTy.Contents (Elt F) arg7.view.ty) :
    WLoopTy (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 k0_h1 where
  inv := fun k _ => winv c arg2 arg6 arg7 arg14 arg17 arg18 arg19 X_arg2 X_arg6 X_arg7 k
  step k acc := by
    have hk : k.val < 16 := Nat.lt_of_lt_of_le k.isLt k0_t1_abs.2.1
    iintro ⟨HR_arg2, HR_arg6, HR_arg7, ⟨%f14, HW_arg14, %h14⟩, ⟨%f17, HW_arg17, %h17⟩, ⟨%f18, HW_arg18, %h18⟩, ⟨%f19, HW_arg19, %h19⟩⟩
    unfold k0_t1_body
    sl_exec
    sl_step
    isplitl [HR_arg2]; · iexact HR_arg2
    isplitl [HR_arg6]; · iexact HR_arg6
    isplitl [HR_arg7]; · iexact HR_arg7
    isplitl [HW_arg14]
    · iexists _; isplitl [HW_arg14]; · iexact HW_arg14
      ipureintro; trivial
    isplitl [HW_arg17]
    · iexists _; isplitl [HW_arg17]; · iexact HW_arg17
      ipureintro
      intro j hj
      have hc := fun inb => chunk_read arg2 X_arg2 k hk inb
      refine read_cons_of _ _ _ _ _ _ _ (off9 k) (fun x hx => rows_tile _ k.val _ (hc _) 7 896 rfl slices_S64x1024_o0_896_S64x128 shapeCasts_S64x128_S1x64x128 x j hx) fun n7 => ?_
      refine read_cons_of _ _ _ _ _ _ _ (off8 k) (fun x hx => rows_tile _ k.val _ (hc _) 6 768 rfl slices_S64x1024_o0_768_S64x128 shapeCasts_S64x128_S1x64x128 x j hx) fun n6 => ?_
      refine read_cons_of _ _ _ _ _ _ _ (off7 k) (fun x hx => rows_tile _ k.val _ (hc _) 5 640 rfl slices_S64x1024_o0_640_S64x128 shapeCasts_S64x128_S1x64x128 x j hx) fun n5 => ?_
      refine read_cons_of _ _ _ _ _ _ _ (off6 k) (fun x hx => rows_tile _ k.val _ (hc _) 4 512 rfl slices_S64x1024_o0_512_S64x128 shapeCasts_S64x128_S1x64x128 x j hx) fun n4 => ?_
      refine read_cons_of _ _ _ _ _ _ _ (off5 k) (fun x hx => rows_tile _ k.val _ (hc _) 3 384 rfl slices_S64x1024_o0_384_S64x128 shapeCasts_S64x128_S1x64x128 x j hx) fun n3 => ?_
      refine read_cons_of _ _ _ _ _ _ _ (off4 k) (fun x hx => rows_tile _ k.val _ (hc _) 2 256 rfl slices_S64x1024_o0_256_S64x128 shapeCasts_S64x128_S1x64x128 x j hx) fun n2 => ?_
      refine read_cons_of _ _ _ _ _ _ _ (off3 k) (fun x hx => rows_tile _ k.val _ (hc _) 1 128 rfl slices_S64x1024_o0_128_S64x128 shapeCasts_S64x128_S1x64x128 x j hx) fun n1 => ?_
      refine read_cons_of _ _ _ _ _ _ _ (off2 k) (fun x hx => rows_tile _ k.val _ (hc _) 0 0 rfl slices_S64x1024_o0_0_S64x128 shapeCasts_S64x128_S1x64x128 x j hx) fun n0 => ?_
      refine h17 j ?_
      by_contra hn
      exact no_tile j k.val hj hn n0 n1 n2 n3 n4 n5 n6 n7
    isplitl [HW_arg18]
    · iexists _; isplitl [HW_arg18]; · iexact HW_arg18
      ipureintro
      intro j hj
      have hc := fun inb => chunk_read arg2 X_arg2 k hk inb
      refine read_cons_of _ _ _ _ _ _ _ (off10 k) (fun x hx => tops_tile _ k.val _ (hc _) x j hx) fun n0 => ?_
      refine h18 j ?_
      by_contra hn
      refine n0 fun a => ?_
      match a with
      | ⟨0, _⟩ => exact ⟨by show 64 * k.val ≤ (j 0).val; omega, by show (j 0).val < 64 * k.val + 64; omega⟩
      | ⟨1, _⟩ => exact ⟨Nat.zero_le _, by have : (j 1).val < 128 := (j 1).isLt; show (j 1).val < 0 + 128; omega⟩
    iexists _; isplitl [HW_arg19]; · iexact HW_arg19
    ipureintro; trivial

end Cert.PyramidIdeal.Gen
-- ==== Proof.WindowHeld.lean ====
/-
  What the pyramid's body owns while the codes and scales of the windows are followed.
-/
module

public import proofs.«01_k».proof.Proof.Gen.PyramidIdeal.Frame

@[expose] public section

set_option maxRecDepth 16384

noncomputable section

namespace Cert.PyramidIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The inputs and the two window blocks at what they hold, the rest at anything. -/
def HeldV (c : Dev nD) (arg2 : Memref sig .tc .vmem S1x1024x1024 .bf16) (arg3 : Memref sig .tc .vmem S3x4096x1024 .fp8e4m3) (arg4 : Memref sig .tc .vmem S3x1024 .f32) (arg5 : Memref sig .tc .vmem S3x1024 .f32) (arg6 : Memref sig .tc .vmem S1x1024 .f32) (arg7 : Memref sig .tc .vmem S1x1024 .f32) (arg8 : Memref sig .tc .vmem S1x256x4096 .fp8e4m3) (arg9 : Memref sig .tc .vmem S1x1x256 .f32) (arg10 : Memref sig .tc .vmem S1x256x4096 .fp8e4m3) (arg11 : Memref sig .tc .vmem S1x1x256 .f32) (arg12 : Memref sig .tc .vmem S1x128x4096 .fp8e4m3) (arg13 : Memref sig .tc .vmem S1x1x128 .f32) (arg14 : Memref sig .tc .vmem S1x1024x1024 .fp8e4m3) (arg15 : Memref sig .tc .vmem S1x1x1024 .f32) (arg16 : Memref sig .tc .vmem S2688x1024 .bf16) (arg17 : Memref sig .tc .vmem S8x1024x128 .f32) (arg18 : Memref sig .tc .vmem S1024x128 .f32) (arg19 : Memref sig .tc .vmem S1024x128 .f32) (x2 : Vec F S1x1024x1024 .bf16) (x3 : Vec F S3x4096x1024 .fp8e4m3) (x4 : Vec F S3x1024 .f32) (x5 : Vec F S3x1024 .f32) (x6 : Vec F S1x1024 .f32) (x7 : Vec F S1x1024 .f32) (x8 : Vec F S1x256x4096 .fp8e4m3) (x9 : Vec F S1x1x256 .f32) : sProp (MT nD τ sig Unit (Elt F) ℕ (UR sig nD τ) ℕ) :=
  iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d))

end Cert.PyramidIdeal.Gen

end
-- ==== Proof.WindowFirst.lean ====
/-
  The body of the pyramid at a point of its window stage: it leaves the codes and the scales of the point's
  windows in the two blocks that hold them.
-/
module

public import proofs.«01_k».proof.Proof.WindowLoop
public import proofs.«01_k».proof.Proof.WindowHeld

@[expose] public section

set_option maxRecDepth 16384

noncomputable section

namespace Cert.PyramidIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The largest magnitude of each window of four rows, in every lane. -/
def winTop (x : Vec F S1x1024x1024 .bf16) : FVec F S256x128 .f32 :=
  k0_pay23 (fun y => topsF x (ValueIdx.ix2 (⟨0 + 4 * (y 0).val, by have : (y 0).val < 256 := (y 0).isLt; omega⟩ : Fin 1024) (y 1)))
    (fun y => topsF x (ValueIdx.ix2 (⟨1 + 4 * (y 0).val, by have : (y 0).val < 256 := (y 0).isLt; omega⟩ : Fin 1024) (y 1)))
    (fun y => topsF x (ValueIdx.ix2 (⟨2 + 4 * (y 0).val, by have : (y 0).val < 256 := (y 0).isLt; omega⟩ : Fin 1024) (y 1)))
    (fun y => topsF x (ValueIdx.ix2 (⟨3 + 4 * (y 0).val, by have : (y 0).val < 256 := (y 0).isLt; omega⟩ : Fin 1024) (y 1)))

/-- The windows' scales. -/
def scalesF (x : Vec F S1x1024x1024 .bf16) : Vec F S1x1x256 .f32 := k0_pay27 (winTop x) (Scalar.ofBits .f32 0x3B124925#32)

/-- A lane tile of the windows' rows: tile `n` holds row `n / 8` of each window, lanes `128 · (n % 8)` on. -/
def tileF (x : Vec F S1x1024x1024 .bf16) (n : Fin 32) : Vec F S1x256x128 .f32 := fun y =>
  rowsF x (ValueIdx.ix3 (⟨n.val % 8, by omega⟩ : Fin 8) (⟨n.val / 8 + 4 * (y 1).val, by have : (y 1).val < 256 := (y 1).isLt; omega⟩ : Fin 1024) (y 2))

/-- The windows' codes. -/
def codesF (x : Vec F S1x1024x1024 .bf16) : Vec F S1x256x4096 .fp8e4m3 := fun j =>
  k0_pay29 (k0_pay26 (winTop x) (Scalar.ofBits .f32 0x3B124925#32)) (tileF x (⟨(j 2).val / 128, by have : (j 2).val < 4096 := (j 2).isLt; omega⟩ : Fin 32))
    (ValueIdx.ix3 (0 : Fin 1) (j 1) (⟨(j 2).val % 128, by omega⟩ : Fin 128))

theorem piece_eq (x : Vec F S1x1024x1024 .bf16) (v66 : FVec F S256x128 .f32)
    (hr : v66 = k0_pay26 (winTop x) (Scalar.ofBits .f32 0x3B124925#32)) (v88 : Vec F S1x256x128 .f32) (n : Fin 32)
    (hv : v88 = tileF x n) (j : S1x256x4096.Idx) (y : S1x256x128.Idx) (h1 : (j 1).val = (y 1).val)
    (h2 : (j 2).val = 128 * n.val + (y 2).val) : k0_pay29 v66 v88 y = codesF x j := by
  subst hr hv
  have e2 : (y 2).val < 128 := (y 2).isLt
  have hn : (⟨(j 2).val / 128, by have : (j 2).val < 4096 := (j 2).isLt; omega⟩ : Fin 32) = n := Fin.ext (by show (j 2).val / 128 = n.val; omega)
  unfold codesF
  rw [hn]
  refine congrArg (k0_pay29 _ (tileF x n)) (idx3_ext ?_ h1.symm ?_)
  · have : (y 0).val < 1 := (y 0).isLt
    show (y 0).val = 0; omega
  · show (y 2).val = (j 2).val % 128; omega

theorem tile_ld (x : Vec F S1x1024x1024 .bf16) (v : View sig .tc .vmem S8x1024x128 .f32) (f : v.ty.Contents (Elt F))
    (H : ∀ j, v.read (Elt F) f j = rowsF x j) (n : Fin 32) (lt c : Nat) (hlt : lt = n.val % 8) (hc : c = n.val / 8) (p) :
    v.readAt (Elt F) ⟨![lt, c, 0], S1x256x128.size, ![1, 4, 1], p⟩ f = tileF x n := by
  funext y
  refine (H _).trans (congrArg (rowsF x) (idx3_ext ?_ ?_ ?_))
  · have : (y 0).val < 1 := (y 0).isLt
    show lt + 1 * (y 0).val = n.val % 8; omega
  · show c + 4 * (y 1).val = n.val / 8 + 4 * (y 1).val; omega
  · show 0 + 1 * (y 2).val = (y 2).val; omega

theorem top_ld (x : Vec F S1x1024x1024 .bf16) (v : View sig .tc .vmem S1024x128 .f32) (f : v.ty.Contents (Elt F))
    (H : ∀ j, v.read (Elt F) f j = topsF x j) (r : Nat) (hr : r < 4) (p) :
    v.readAt (Elt F) ⟨![r, 0], S256x128.size, ![4, 1], p⟩ f =
      fun y => topsF x (ValueIdx.ix2 (⟨r + 4 * (y 0).val, by have : (y 0).val < 256 := (y 0).isLt; omega⟩ : Fin 1024) (y 1)) := by
  funext y
  refine (H _).trans (congrArg (topsF x) (idx2_ext rfl ?_))
  show 0 + 1 * (y 1).val = (y 1).val; omega

set_option maxHeartbeats 40000000 in
theorem window_first (c : Dev nD) (E : Set ℕ) (i : grid0.Coords) (arg2 : Memref sig .tc .vmem S1x1024x1024 .bf16) (harg2 : arg2.IsWhole) (arg3 : Memref sig .tc .vmem S3x4096x1024 .fp8e4m3) (harg3 : arg3.IsWhole) (arg4 : Memref sig .tc .vmem S3x1024 .f32) (harg4 : arg4.IsWhole) (arg5 : Memref sig .tc .vmem S3x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x256x4096 .fp8e4m3) (harg8 : arg8.IsWhole) (arg9 : Memref sig .tc .vmem S1x1x256 .f32) (harg9 : arg9.IsWhole) (arg10 : Memref sig .tc .vmem S1x256x4096 .fp8e4m3) (harg10 : arg10.IsWhole) (arg11 : Memref sig .tc .vmem S1x1x256 .f32) (harg11 : arg11.IsWhole) (arg12 : Memref sig .tc .vmem S1x128x4096 .fp8e4m3) (harg12 : arg12.IsWhole) (arg13 : Memref sig .tc .vmem S1x1x128 .f32) (harg13 : arg13.IsWhole) (arg14 : Memref sig .tc .vmem S1x1024x1024 .fp8e4m3) (harg14 : arg14.IsWhole) (arg15 : Memref sig .tc .vmem S1x1x1024 .f32) (harg15 : arg15.IsWhole) (arg16 : Memref sig .tc .vmem S2688x1024 .bf16) (harg16 : arg16.IsWhole) (arg17 : Memref sig .tc .vmem S8x1024x128 .f32) (harg17 : arg17.IsWhole) (arg18 : Memref sig .tc .vmem S1024x128 .f32) (harg18 : arg18.IsWhole) (arg19 : Memref sig .tc .vmem S1024x128 .f32) (harg19 : arg19.IsWhole) (x2 : Vec F S1x1024x1024 .bf16) (x3 : Vec F S3x4096x1024 .fp8e4m3) (x4 : Vec F S3x1024 .f32) (x5 : Vec F S3x1024 .f32) (x6 : Vec F S1x1024 .f32) (x7 : Vec F S1x1024 .f32) (x8 : Vec F S1x256x4096 .fp8e4m3) (x9 : Vec F S1x1x256 .f32)
    (h1 : k0_cond1 i = 1#1) (h2 : ¬ k0_cond2 i = 1#1) (h3 : ¬ k0_cond3 i = 1#1) :
    HeldV c arg2 arg3 arg4 arg5 arg6 arg7 arg8 arg9 arg10 arg11 arg12 arg13 arg14 arg15 arg16 arg17 arg18 arg19 x2 x3 x4 x5 x6 x7 x8 x9
      ⊢ wp frame (wpE (defs₀ (F := F)) Variants.none c none) E (cc0_pyramid i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (fun _ => HeldV c arg2 arg3 arg4 arg5 arg6 arg7 arg8 arg9 arg10 arg11 arg12 arg13 arg14 arg15 arg16 arg17 arg18 arg19 x2 x3 x4 x5 x6 x7 (codesF x2) (scalesF x2)) := by
  simp only [cc0_pyramid_eq_skeleton]; unfold cc0_pyramid_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton]
  unfold HeldV owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, -, H8⟩, ⟨%f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
  sl_exec (disch := first | sl_exact h1 | sl_exact h2 | sl_exact h3)
  sl_step
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists _; isplitr
    swap; · iexact H8
    ipureintro
    have T16 : Scf.trips k0_t1_loop.lb k0_t1_loop.ub k0_t1_loop.st = 16 := by decide
    have H17 : ∀ j, View.read (Elt F) arg17.view fL1 j = rowsF x2 j := fun j => by
      have : (j 1).val < 1024 := (j 1).isLt
      rw [← hf2]; exact hL6 j (by rw [T16]; omega)
    have H18 : ∀ j, View.read (Elt F) arg18.view fL2 j = topsF x2 j := fun j => by
      have : (j 0).val < 1024 := (j 0).isLt
      rw [← hf2]; exact hL8 j (by rw [T16]; omega)
    have hr : window_first.sl.r c arg18 fL2 = winTop x2 := by
      unfold window_first.sl.r winTop
      rw [← top_ld x2 arg18.view fL2 H18 0 (by omega) (by decide), ← top_ld x2 arg18.view fL2 H18 1 (by omega) (by decide),
        ← top_ld x2 arg18.view fL2 H18 2 (by omega) (by decide), ← top_ld x2 arg18.view fL2 H18 3 (by omega) (by decide)]
    have hR : k0_pay26 (window_first.sl.r c arg18 fL2) window_first.sl.cst = k0_pay26 (winTop x2) (Scalar.ofBits .f32 0x3B124925#32) := by
      rw [hr]; rfl
    have hR2 : window_first.sl.r_2 c arg18 fL2 = k0_pay26 (winTop x2) (Scalar.ofBits .f32 0x3B124925#32) := hR
    funext j
    unfold window_first.sl.H8_32
    refine (View.read_writes_apply_eq_canon _ _ j _ (View.cover_of_tiled_head _ _ _ (by rfl) j)).trans ?_
    canon_tiles y h
    · exact piece_eq x2 _ hR2 _ (31 : Fin 32) (tile_ld x2 arg17.view fL1 H17 (31 : Fin 32) 7 3 rfl rfl _) j y (by omega) (by show (j 2).val = 128 * 31 + (y 2).val; omega)
    · exact piece_eq x2 _ hR2 _ (30 : Fin 32) (tile_ld x2 arg17.view fL1 H17 (30 : Fin 32) 6 3 rfl rfl _) j y (by omega) (by show (j 2).val = 128 * 30 + (y 2).val; omega)
    · exact piece_eq x2 _ hR2 _ (29 : Fin 32) (tile_ld x2 arg17.view fL1 H17 (29 : Fin 32) 5 3 rfl rfl _) j y (by omega) (by show (j 2).val = 128 * 29 + (y 2).val; omega)
    · exact piece_eq x2 _ hR2 _ (28 : Fin 32) (tile_ld x2 arg17.view fL1 H17 (28 : Fin 32) 4 3 rfl rfl _) j y (by omega) (by show (j 2).val = 128 * 28 + (y 2).val; omega)
    · exact piece_eq x2 _ hR2 _ (27 : Fin 32) (tile_ld x2 arg17.view fL1 H17 (27 : Fin 32) 3 3 rfl rfl _) j y (by omega) (by show (j 2).val = 128 * 27 + (y 2).val; omega)
    · exact piece_eq x2 _ hR2 _ (26 : Fin 32) (tile_ld x2 arg17.view fL1 H17 (26 : Fin 32) 2 3 rfl rfl _) j y (by omega) (by show (j 2).val = 128 * 26 + (y 2).val; omega)
    · exact piece_eq x2 _ hR2 _ (25 : Fin 32) (tile_ld x2 arg17.view fL1 H17 (25 : Fin 32) 1 3 rfl rfl _) j y (by omega) (by show (j 2).val = 128 * 25 + (y 2).val; omega)
    · exact piece_eq x2 _ hR2 _ (24 : Fin 32) (tile_ld x2 arg17.view fL1 H17 (24 : Fin 32) 0 3 rfl rfl _) j y (by omega) (by show (j 2).val = 128 * 24 + (y 2).val; omega)
    · exact piece_eq x2 _ hR2 _ (23 : Fin 32) (tile_ld x2 arg17.view fL1 H17 (23 : Fin 32) 7 2 rfl rfl _) j y (by omega) (by show (j 2).val = 128 * 23 + (y 2).val; omega)
    · exact piece_eq x2 _ hR2 _ (22 : Fin 32) (tile_ld x2 arg17.view fL1 H17 (22 : Fin 32) 6 2 rfl rfl _) j y (by omega) (by show (j 2).val = 128 * 22 + (y 2).val; omega)
    · exact piece_eq x2 _ hR2 _ (21 : Fin 32) (tile_ld x2 arg17.view fL1 H17 (21 : Fin 32) 5 2 rfl rfl _) j y (by omega) (by show (j 2).val = 128 * 21 + (y 2).val; omega)
    · exact piece_eq x2 _ hR2 _ (20 : Fin 32) (tile_ld x2 arg17.view fL1 H17 (20 : Fin 32) 4 2 rfl rfl _) j y (by omega) (by show (j 2).val = 128 * 20 + (y 2).val; omega)
    · exact piece_eq x2 _ hR2 _ (19 : Fin 32) (tile_ld x2 arg17.view fL1 H17 (19 : Fin 32) 3 2 rfl rfl _) j y (by omega) (by show (j 2).val = 128 * 19 + (y 2).val; omega)
    · exact piece_eq x2 _ hR2 _ (18 : Fin 32) (tile_ld x2 arg17.view fL1 H17 (18 : Fin 32) 2 2 rfl rfl _) j y (by omega) (by show (j 2).val = 128 * 18 + (y 2).val; omega)
    · exact piece_eq x2 _ hR2 _ (17 : Fin 32) (tile_ld x2 arg17.view fL1 H17 (17 : Fin 32) 1 2 rfl rfl _) j y (by omega) (by show (j 2).val = 128 * 17 + (y 2).val; omega)
    · exact piece_eq x2 _ hR2 _ (16 : Fin 32) (tile_ld x2 arg17.view fL1 H17 (16 : Fin 32) 0 2 rfl rfl _) j y (by omega) (by show (j 2).val = 128 * 16 + (y 2).val; omega)
    · exact piece_eq x2 _ hR2 _ (15 : Fin 32) (tile_ld x2 arg17.view fL1 H17 (15 : Fin 32) 7 1 rfl rfl _) j y (by omega) (by show (j 2).val = 128 * 15 + (y 2).val; omega)
    · exact piece_eq x2 _ hR2 _ (14 : Fin 32) (tile_ld x2 arg17.view fL1 H17 (14 : Fin 32) 6 1 rfl rfl _) j y (by omega) (by show (j 2).val = 128 * 14 + (y 2).val; omega)
    · exact piece_eq x2 _ hR2 _ (13 : Fin 32) (tile_ld x2 arg17.view fL1 H17 (13 : Fin 32) 5 1 rfl rfl _) j y (by omega) (by show (j 2).val = 128 * 13 + (y 2).val; omega)
    · exact piece_eq x2 _ hR2 _ (12 : Fin 32) (tile_ld x2 arg17.view fL1 H17 (12 : Fin 32) 4 1 rfl rfl _) j y (by omega) (by show (j 2).val = 128 * 12 + (y 2).val; omega)
    · exact piece_eq x2 _ hR2 _ (11 : Fin 32) (tile_ld x2 arg17.view fL1 H17 (11 : Fin 32) 3 1 rfl rfl _) j y (by omega) (by show (j 2).val = 128 * 11 + (y 2).val; omega)
    · exact piece_eq x2 _ hR2 _ (10 : Fin 32) (tile_ld x2 arg17.view fL1 H17 (10 : Fin 32) 2 1 rfl rfl _) j y (by omega) (by show (j 2).val = 128 * 10 + (y 2).val; omega)
    · exact piece_eq x2 _ hR2 _ (9 : Fin 32) (tile_ld x2 arg17.view fL1 H17 (9 : Fin 32) 1 1 rfl rfl _) j y (by omega) (by show (j 2).val = 128 * 9 + (y 2).val; omega)
    · exact piece_eq x2 _ hR2 _ (8 : Fin 32) (tile_ld x2 arg17.view fL1 H17 (8 : Fin 32) 0 1 rfl rfl _) j y (by omega) (by show (j 2).val = 128 * 8 + (y 2).val; omega)
    · exact piece_eq x2 _ hR2 _ (7 : Fin 32) (tile_ld x2 arg17.view fL1 H17 (7 : Fin 32) 7 0 rfl rfl _) j y (by omega) (by show (j 2).val = 128 * 7 + (y 2).val; omega)
    · exact piece_eq x2 _ hR2 _ (6 : Fin 32) (tile_ld x2 arg17.view fL1 H17 (6 : Fin 32) 6 0 rfl rfl _) j y (by omega) (by show (j 2).val = 128 * 6 + (y 2).val; omega)
    · exact piece_eq x2 _ hR2 _ (5 : Fin 32) (tile_ld x2 arg17.view fL1 H17 (5 : Fin 32) 5 0 rfl rfl _) j y (by omega) (by show (j 2).val = 128 * 5 + (y 2).val; omega)
    · exact piece_eq x2 _ hR2 _ (4 : Fin 32) (tile_ld x2 arg17.view fL1 H17 (4 : Fin 32) 4 0 rfl rfl _) j y (by omega) (by show (j 2).val = 128 * 4 + (y 2).val; omega)
    · exact piece_eq x2 _ hR2 _ (3 : Fin 32) (tile_ld x2 arg17.view fL1 H17 (3 : Fin 32) 3 0 rfl rfl _) j y (by omega) (by show (j 2).val = 128 * 3 + (y 2).val; omega)
    · exact piece_eq x2 _ hR2 _ (2 : Fin 32) (tile_ld x2 arg17.view fL1 H17 (2 : Fin 32) 2 0 rfl rfl _) j y (by omega) (by show (j 2).val = 128 * 2 + (y 2).val; omega)
    · exact piece_eq x2 _ hR2 _ (1 : Fin 32) (tile_ld x2 arg17.view fL1 H17 (1 : Fin 32) 1 0 rfl rfl _) j y (by omega) (by show (j 2).val = 128 * 1 + (y 2).val; omega)
    · exact piece_eq x2 _ hR _ (0 : Fin 32) (tile_ld x2 arg17.view fL1 H17 (0 : Fin 32) 0 0 rfl rfl _) j y (by omega) (by show (j 2).val = 128 * 0 + (y 2).val; omega)
  isplitl [H9]
  · iexists _; isplitr
    swap; · iexact H9
    ipureintro
    have T16 : Scf.trips k0_t1_loop.lb k0_t1_loop.ub k0_t1_loop.st = 16 := by decide
    have H17 : ∀ j, View.read (Elt F) arg17.view fL1 j = rowsF x2 j := fun j => by
      have : (j 1).val < 1024 := (j 1).isLt
      rw [← hf2]; exact hL6 j (by rw [T16]; omega)
    have H18 : ∀ j, View.read (Elt F) arg18.view fL2 j = topsF x2 j := fun j => by
      have : (j 0).val < 1024 := (j 0).isLt
      rw [← hf2]; exact hL8 j (by rw [T16]; omega)
    have hr : window_first.sl.r c arg18 fL2 = winTop x2 := by
      unfold window_first.sl.r winTop
      rw [← top_ld x2 arg18.view fL2 H18 0 (by omega) (by decide), ← top_ld x2 arg18.view fL2 H18 1 (by omega) (by decide),
        ← top_ld x2 arg18.view fL2 H18 2 (by omega) (by decide), ← top_ld x2 arg18.view fL2 H18 3 (by omega) (by decide)]
    funext j
    refine (View.read_writes_apply_eq_canon _ _ j _ (View.cover_of_tiled_head _ _ _ (by rfl) j)).trans ?_
    canon_tiles y h
    have ey : y = j := idx3_ext (by omega) (by omega) (by omega)
    rw [ey, hr]; rfl
  isplitl [H10]
  · iexists _, _; isplitr
    swap; · iexact H10
    ipureintro; rfl
  isplitl [H11]
  · iexists _, _; isplitr
    swap; · iexact H11
    ipureintro; rfl
  isplitl [H12]
  · iexists _, _; isplitr
    swap; · iexact H12
    ipureintro; rfl
  isplitl [H13]
  · iexists _, _; isplitr
    swap; · iexact H13
    ipureintro; rfl
  isplitl [H14]
  · iexists _, _; isplitr
    swap; · iexact H14
    ipureintro; rfl
  isplitl [H15]
  · iexists _, _; isplitr
    swap; · iexact H15
    ipureintro; rfl
  isplitl [H16]
  · iexists _, _; isplitr
    swap; · iexact H16
    ipureintro; rfl
  isplitl [H17]
  · iexists _, _; isplitr
    swap; · iexact H17
    ipureintro; rfl
  isplitl [H18]
  · iexists _, _; isplitr
    swap; · iexact H18
    ipureintro; rfl
  iexists _, _; isplitr
  swap; · iexact H19
  ipureintro; rfl

end Cert.PyramidIdeal.Gen

end
-- ==== Proof.WindowKeep.lean ====
/-
  The body of the pyramid at the points past its window stage: the codes and the scales of the windows stay.
-/
module

public import proofs.«01_k».proof.Proof.WindowHeld
public import proofs.«01_k».proof.Proof.Gen.PyramidIdeal.Loops

@[expose] public section

set_option maxRecDepth 16384

noncomputable section

namespace Cert.PyramidIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 40000000 in
theorem window_middle (c : Dev nD) (E : Set ℕ) (i : grid0.Coords) (arg2 : Memref sig .tc .vmem S1x1024x1024 .bf16) (harg2 : arg2.IsWhole) (arg3 : Memref sig .tc .vmem S3x4096x1024 .fp8e4m3) (harg3 : arg3.IsWhole) (arg4 : Memref sig .tc .vmem S3x1024 .f32) (harg4 : arg4.IsWhole) (arg5 : Memref sig .tc .vmem S3x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x256x4096 .fp8e4m3) (harg8 : arg8.IsWhole) (arg9 : Memref sig .tc .vmem S1x1x256 .f32) (harg9 : arg9.IsWhole) (arg10 : Memref sig .tc .vmem S1x256x4096 .fp8e4m3) (harg10 : arg10.IsWhole) (arg11 : Memref sig .tc .vmem S1x1x256 .f32) (harg11 : arg11.IsWhole) (arg12 : Memref sig .tc .vmem S1x128x4096 .fp8e4m3) (harg12 : arg12.IsWhole) (arg13 : Memref sig .tc .vmem S1x1x128 .f32) (harg13 : arg13.IsWhole) (arg14 : Memref sig .tc .vmem S1x1024x1024 .fp8e4m3) (harg14 : arg14.IsWhole) (arg15 : Memref sig .tc .vmem S1x1x1024 .f32) (harg15 : arg15.IsWhole) (arg16 : Memref sig .tc .vmem S2688x1024 .bf16) (harg16 : arg16.IsWhole) (arg17 : Memref sig .tc .vmem S8x1024x128 .f32) (harg17 : arg17.IsWhole) (arg18 : Memref sig .tc .vmem S1024x128 .f32) (harg18 : arg18.IsWhole) (arg19 : Memref sig .tc .vmem S1024x128 .f32) (harg19 : arg19.IsWhole) (x2 : Vec F S1x1024x1024 .bf16) (x3 : Vec F S3x4096x1024 .fp8e4m3) (x4 : Vec F S3x1024 .f32) (x5 : Vec F S3x1024 .f32) (x6 : Vec F S1x1024 .f32) (x7 : Vec F S1x1024 .f32) (x8 : Vec F S1x256x4096 .fp8e4m3) (x9 : Vec F S1x1x256 .f32)
    (h1 : ¬ k0_cond1 i = 1#1) (h2 : k0_cond2 i = 1#1) (h3 : ¬ k0_cond3 i = 1#1) :
    HeldV c arg2 arg3 arg4 arg5 arg6 arg7 arg8 arg9 arg10 arg11 arg12 arg13 arg14 arg15 arg16 arg17 arg18 arg19 x2 x3 x4 x5 x6 x7 x8 x9
      ⊢ wp frame (wpE (defs₀ (F := F)) Variants.none c none) E (cc0_pyramid i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (fun _ => HeldV c arg2 arg3 arg4 arg5 arg6 arg7 arg8 arg9 arg10 arg11 arg12 arg13 arg14 arg15 arg16 arg17 arg18 arg19 x2 x3 x4 x5 x6 x7 x8 x9) := by
  simp only [cc0_pyramid_eq_skeleton]; unfold cc0_pyramid_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton]
  unfold HeldV owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
  sl_exec (disch := first | sl_exact h1 | sl_exact h2 | sl_exact h3)
  sl_step
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists _, _; isplitr
    swap; · iexact H10
    ipureintro; rfl
  isplitl [H11]
  · iexists _, _; isplitr
    swap; · iexact H11
    ipureintro; rfl
  isplitl [H12]
  · iexists _, _; isplitr
    swap; · iexact H12
    ipureintro; rfl
  isplitl [H13]
  · iexists _, _; isplitr
    swap; · iexact H13
    ipureintro; rfl
  isplitl [H14]
  · iexists _, _; isplitr
    swap; · iexact H14
    ipureintro; rfl
  isplitl [H15]
  · iexists _, _; isplitr
    swap; · iexact H15
    ipureintro; rfl
  isplitl [H16]
  · iexists _, _; isplitr
    swap; · iexact H16
    ipureintro; rfl
  isplitl [H17]
  · iexists _, _; isplitr
    swap; · iexact H17
    ipureintro; rfl
  isplitl [H18]
  · iexists _, _; isplitr
    swap; · iexact H18
    ipureintro; rfl
  iexists _, _; isplitr
  swap; · iexact H19
  ipureintro; rfl

set_option maxHeartbeats 40000000 in
theorem window_last (c : Dev nD) (E : Set ℕ) (i : grid0.Coords) (arg2 : Memref sig .tc .vmem S1x1024x1024 .bf16) (harg2 : arg2.IsWhole) (arg3 : Memref sig .tc .vmem S3x4096x1024 .fp8e4m3) (harg3 : arg3.IsWhole) (arg4 : Memref sig .tc .vmem S3x1024 .f32) (harg4 : arg4.IsWhole) (arg5 : Memref sig .tc .vmem S3x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x256x4096 .fp8e4m3) (harg8 : arg8.IsWhole) (arg9 : Memref sig .tc .vmem S1x1x256 .f32) (harg9 : arg9.IsWhole) (arg10 : Memref sig .tc .vmem S1x256x4096 .fp8e4m3) (harg10 : arg10.IsWhole) (arg11 : Memref sig .tc .vmem S1x1x256 .f32) (harg11 : arg11.IsWhole) (arg12 : Memref sig .tc .vmem S1x128x4096 .fp8e4m3) (harg12 : arg12.IsWhole) (arg13 : Memref sig .tc .vmem S1x1x128 .f32) (harg13 : arg13.IsWhole) (arg14 : Memref sig .tc .vmem S1x1024x1024 .fp8e4m3) (harg14 : arg14.IsWhole) (arg15 : Memref sig .tc .vmem S1x1x1024 .f32) (harg15 : arg15.IsWhole) (arg16 : Memref sig .tc .vmem S2688x1024 .bf16) (harg16 : arg16.IsWhole) (arg17 : Memref sig .tc .vmem S8x1024x128 .f32) (harg17 : arg17.IsWhole) (arg18 : Memref sig .tc .vmem S1024x128 .f32) (harg18 : arg18.IsWhole) (arg19 : Memref sig .tc .vmem S1024x128 .f32) (harg19 : arg19.IsWhole) (x2 : Vec F S1x1024x1024 .bf16) (x3 : Vec F S3x4096x1024 .fp8e4m3) (x4 : Vec F S3x1024 .f32) (x5 : Vec F S3x1024 .f32) (x6 : Vec F S1x1024 .f32) (x7 : Vec F S1x1024 .f32) (x8 : Vec F S1x256x4096 .fp8e4m3) (x9 : Vec F S1x1x256 .f32)
    (h1 : ¬ k0_cond1 i = 1#1) (h2 : ¬ k0_cond2 i = 1#1) (h3 : k0_cond3 i = 1#1) :
    HeldV c arg2 arg3 arg4 arg5 arg6 arg7 arg8 arg9 arg10 arg11 arg12 arg13 arg14 arg15 arg16 arg17 arg18 arg19 x2 x3 x4 x5 x6 x7 x8 x9
      ⊢ wp frame (wpE (defs₀ (F := F)) Variants.none c none) E (cc0_pyramid i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (fun _ => HeldV c arg2 arg3 arg4 arg5 arg6 arg7 arg8 arg9 arg10 arg11 arg12 arg13 arg14 arg15 arg16 arg17 arg18 arg19 x2 x3 x4 x5 x6 x7 x8 x9) := by
  simp only [cc0_pyramid_eq_skeleton]; unfold cc0_pyramid_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton]
  unfold HeldV owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
  sl_exec (disch := first | sl_exact h1 | sl_exact h2 | sl_exact h3)
  sl_step
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists _, _; isplitr
    swap; · iexact H10
    ipureintro; rfl
  isplitl [H11]
  · iexists _, _; isplitr
    swap; · iexact H11
    ipureintro; rfl
  isplitl [H12]
  · iexists _, _; isplitr
    swap; · iexact H12
    ipureintro; rfl
  isplitl [H13]
  · iexists _, _; isplitr
    swap; · iexact H13
    ipureintro; rfl
  isplitl [H14]
  · iexists _, _; isplitr
    swap; · iexact H14
    ipureintro; rfl
  isplitl [H15]
  · iexists _, _; isplitr
    swap; · iexact H15
    ipureintro; rfl
  isplitl [H16]
  · iexists _, _; isplitr
    swap; · iexact H16
    ipureintro; rfl
  isplitl [H17]
  · iexists _, _; isplitr
    swap; · iexact H17
    ipureintro; rfl
  isplitl [H18]
  · iexists _, _; isplitr
    swap; · iexact H18
    ipureintro; rfl
  iexists _, _; isplitr
  swap; · iexact H19
  ipureintro; rfl

end Cert.PyramidIdeal.Gen

end
-- ==== Proof.PyramidIdealRun.lean ====
/-
  The run of the pyramid with the codes and the scales of its windows named.
-/
module

public import proofs.«01_k».proof.Proof.PyramidIdealFrame
public import proofs.«01_k».proof.Proof.WindowFirst
public import proofs.«01_k».proof.Proof.WindowKeep
public import Idealize.ShloMosaic.Lib.Pipeline.TableIdle

@[expose] public section

set_option maxRecDepth 16384

noncomputable section

namespace Cert.PyramidIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

variable (m : (ℓ : Loc nD τ sig) → Buf (Elt F) ℓ) (ρ : Dev nD → PrngReg)

/-- The outputs of which nothing is said: all but the windows' codes and scales. -/
def vforgets0 : Fin 14 → Bool := ![false, false, false, false, false, false, false, false, true, true, true, true, true, true]

/-- The proof data: the inputs' buffers at their blocks after the body, the windows' codes and scales at those of
    the point's windows, the other outputs' not named. -/
def vdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => codesF (iblk m c 0 t)
    | ⟨7, _⟩ => scalesF (iblk m c 0 t)
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q _ := fullShare
  owed _ := 0

theorem vA_eq (c : Dev nD) (w : Fin cfg0.W) : (vdats m 0 c).A w = V m c (Pipeline.arrRef spec0 w) := by
  dsimp only [vdats]

theorem vafter0_0 (c : Dev nD) (t : Fin cfg0.N) : (vdats m 0 c).after 0 t = iblk m c 0 t := by dsimp only [vdats]
theorem vafter0_1 (c : Dev nD) (t : Fin cfg0.N) : (vdats m 0 c).after 1 t = iblk m c 1 t := by dsimp only [vdats]
theorem vafter0_2 (c : Dev nD) (t : Fin cfg0.N) : (vdats m 0 c).after 2 t = iblk m c 2 t := by dsimp only [vdats]
theorem vafter0_3 (c : Dev nD) (t : Fin cfg0.N) : (vdats m 0 c).after 3 t = iblk m c 3 t := by dsimp only [vdats]
theorem vafter0_4 (c : Dev nD) (t : Fin cfg0.N) : (vdats m 0 c).after 4 t = iblk m c 4 t := by dsimp only [vdats]
theorem vafter0_5 (c : Dev nD) (t : Fin cfg0.N) : (vdats m 0 c).after 5 t = iblk m c 5 t := by dsimp only [vdats]
theorem vafter0_6 (c : Dev nD) (t : Fin cfg0.N) : (vdats m 0 c).after 6 t = codesF (iblk m c 0 t) := by dsimp only [vdats]
theorem vafter0_7 (c : Dev nD) (t : Fin cfg0.N) : (vdats m 0 c).after 7 t = scalesF (iblk m c 0 t) := by dsimp only [vdats]

theorem vbefore0_0 (c : Dev nD) (t : Fin cfg0.N) (d) : (vdats m 0 c).before 0 t d = iblk m c 0 t :=
  before0_0_of m (vdats m 0 c) (vA_eq m c 0) (vafter0_0 m c) t d
theorem vbefore0_1 (c : Dev nD) (t : Fin cfg0.N) (d) : (vdats m 0 c).before 1 t d = iblk m c 1 t :=
  before0_1_of m (vdats m 0 c) (vA_eq m c 1) (vafter0_1 m c) t d
theorem vbefore0_2 (c : Dev nD) (t : Fin cfg0.N) (d) : (vdats m 0 c).before 2 t d = iblk m c 2 t :=
  before0_2_of m (vdats m 0 c) (vA_eq m c 2) (vafter0_2 m c) t d
theorem vbefore0_3 (c : Dev nD) (t : Fin cfg0.N) (d) : (vdats m 0 c).before 3 t d = iblk m c 3 t :=
  before0_3_of m (vdats m 0 c) (vA_eq m c 3) (vafter0_3 m c) t d
theorem vbefore0_4 (c : Dev nD) (t : Fin cfg0.N) (d) : (vdats m 0 c).before 4 t d = iblk m c 4 t :=
  before0_4_of m (vdats m 0 c) (vA_eq m c 4) (vafter0_4 m c) t d
theorem vbefore0_5 (c : Dev nD) (t : Fin cfg0.N) (d) : (vdats m 0 c).before 5 t d = iblk m c 5 t :=
  before0_5_of m (vdats m 0 c) (vA_eq m c 5) (vafter0_5 m c) t d

theorem past (w : Fin cfg0.W) (hw : w = 6 ∨ w = 7) (t : Fin cfg0.N) (h1 : ¬ k0_cond1 (grid0.coords t) = 1#1) :
    t.val ≠ 0 ∧ cfg0.fresh w t.val = false ∧ cfg0.idle w (grid0.coords t) = true := by
  revert h1; revert t
  rcases hw with rfl | rfl <;> decide +kernel

theorem live (w : Fin cfg0.W) (hw : w = 6 ∨ w = 7) (t : Fin cfg0.N) (h1 : k0_cond1 (grid0.coords t) = 1#1) :
    cfg0.idle w (grid0.coords t) = false := by
  revert h1; revert t
  rcases hw with rfl | rfl <;> decide +kernel

theorem not_first (w : Fin cfg0.W) (hw : w = 6 ∨ w = 7) (t : Fin cfg0.N) (h : cfg0.idle w (grid0.coords t) = true) :
    ¬ k0_cond1 (grid0.coords t) = 1#1 := fun h1 => by
  rw [live w hw t h1] at h; exact Bool.false_ne_true h

theorem same_map (t : Fin cfg0.N) (h1 : ¬ k0_cond1 (grid0.coords t) = 1#1) (a : Fin 3) :
    cc0_transform_0 (grid0.coords ⟨t.val - 1, Nat.lt_of_le_of_lt (Nat.sub_le _ _) t.isLt⟩) a = cc0_transform_0 (grid0.coords t) a := by
  revert a; revert h1; revert t
  decide +kernel

/-- Past the window stage the input's block is that of the point before. -/
theorem same_blk (c : Dev nD) (t : Fin cfg0.N) (h1 : ¬ k0_cond1 (grid0.coords t) = 1#1) :
    (iblk m c 0 ⟨t.val - 1, Nat.lt_of_le_of_lt (Nat.sub_le _ _) t.isLt⟩ : Vec F S1x1024x1024 .bf16) = iblk m c 0 t := by
  funext x
  refine congrArg (V m c main_arg0) (funext fun a => Fin.ext ?_)
  refine (win0_0.rect_emb_val _ x a).trans (Eq.trans ?_ (win0_0.rect_emb_val t x a).symm)
  exact congrArg (fun n => n * _ + (x a).val) (same_map t h1 a)

theorem vcarry0_6 (c : Dev nD) (t : Fin cfg0.N) (h1 : ¬ k0_cond1 (grid0.coords t) = 1#1) :
    (vdats m 0 c).after 6 t = (vdats m 0 c).after 6 ⟨t.val - 1, Nat.lt_of_le_of_lt (Nat.sub_le _ _) t.isLt⟩ := by
  rw [vafter0_6, vafter0_6]
  exact (congrArg codesF (same_blk m c t h1)).symm

theorem vbefore0_6 (c : Dev nD) (t : Fin cfg0.N) (h1 : ¬ k0_cond1 (grid0.coords t) = 1#1) (d) :
    (vdats m 0 c).before 6 t d = codesF (iblk m c 0 t) := by
  refine ((vdats m 0 c).before_out_traj 6 rfl (fun _ _ => rfl)
    (fun t _ hi _ => vcarry0_6 m c t (not_first 6 (.inl rfl) t hi)) t.val t rfl d).trans ?_
  rw [(past 6 (.inl rfl) t h1).2.1, if_neg Bool.false_ne_true, ← vcarry0_6 m c t h1, vafter0_6]

theorem vcarry0_7 (c : Dev nD) (t : Fin cfg0.N) (h1 : ¬ k0_cond1 (grid0.coords t) = 1#1) :
    (vdats m 0 c).after 7 t = (vdats m 0 c).after 7 ⟨t.val - 1, Nat.lt_of_le_of_lt (Nat.sub_le _ _) t.isLt⟩ := by
  rw [vafter0_7, vafter0_7]
  exact (congrArg scalesF (same_blk m c t h1)).symm

theorem vbefore0_7 (c : Dev nD) (t : Fin cfg0.N) (h1 : ¬ k0_cond1 (grid0.coords t) = 1#1) (d) :
    (vdats m 0 c).before 7 t d = scalesF (iblk m c 0 t) := by
  refine ((vdats m 0 c).before_out_traj 7 rfl (fun _ _ => rfl)
    (fun t _ hi _ => vcarry0_7 m c t (not_first 7 (.inr rfl) t hi)) t.val t rfl d).trans ?_
  rw [(past 7 (.inr rfl) t h1).2.1, if_neg Bool.false_ne_true, ← vcarry0_7 m c t h1, vafter0_7]

/-- The body table's row at point `t`'s slots. -/
theorem vdefs₀_row (t : Fin cfg0.N) :
    defs₀ (F := F) .tc cfg0.body (cfg0.bodyArgs t (cfg0.slots t)) = bodyAt0 t := by
  unfold defs₀; rw [Defs.onTc_tc]

set_option maxHeartbeats 4000000 in
/-- The body at any point. -/
theorem vbody_obligation (c : Dev nD) : BodyObligationLoose (vdats (F := F) m 0 c) (defs₀ (F := F)) Variants.none () Set.univ vforgets0 := fun t => by
  rw [bigSep_W0, bigSep_W0, vdefs₀_row]
  simp only [show vforgets0 0 = false from rfl, show vforgets0 1 = false from rfl, show vforgets0 2 = false from rfl, show vforgets0 3 = false from rfl, show vforgets0 4 = false from rfl, show vforgets0 5 = false from rfl, show vforgets0 6 = false from rfl, show vforgets0 7 = false from rfl, show vforgets0 8 = true from rfl, show vforgets0 9 = true from rfl, show vforgets0 10 = true from rfl, show vforgets0 11 = true from rfl, show vforgets0 12 = true from rfl, show vforgets0 13 = true from rfl]
  unfold bodyAt0
  rw [show (vdats m 0 c).Φ t.succ = (vdats m 0 c).Φ t.castSucc from rfl,
    show (vdats m 0 c).owesAt () t.succ = (vdats m 0 c).owesAt () t.castSucc from rfl]
  rw [show (vdats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, H11, H12, H13⟩
  rw [vbefore0_0, vbefore0_1, vbefore0_2, vbefore0_3, vbefore0_4, vbefore0_5]
  rcases branch (grid0.coords t) with ⟨h1, h2, h3⟩ | ⟨h1, h2, h3⟩ | ⟨h1, h2, h3⟩
  · iapply (wp_frame_wand (window_first c Set.univ _ _ _ _ _ _ _ _ _ _ _ _ _ _ _ _ _ _ _ _ _ _ _ _ _ _ _ _ _ _ _ _ _ _ _ _ _
      (iblk m c 0 t) (iblk m c 1 t) (iblk m c 2 t) (iblk m c 3 t) (iblk m c 4 t) (iblk m c 5 t)
      ((vdats m 0 c).before 6 t d6) ((vdats m 0 c).before 7 t d7) h1 h2 h3))
    unfold HeldV
    isplitl [H0 H1 H2 H3 H4 H5 H6 H7 H8 H9 H10 H11 H12 H13 HS0 HS1 HS2 HS3]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS0]; · iexact HS0
      isplitl [HS1]; · iexact HS1
      isplitl [HS2]; · iexact HS2
      iexact HS3
    iintro ⟨H0, H1, H2, H3, H4, H5, H6, H7, H8, H9, H10, H11, H12, H13, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]
    · change _ ⊢ owns (c : Thread nD τ) (stage0_0 (cfg0.slots t 0)) fullShare ((vdats m 0 c).after 0 t)
      rw [vafter0_0]
    isplitl [H1]
    · change _ ⊢ owns (c : Thread nD τ) (stage0_1 (cfg0.slots t 1)) fullShare ((vdats m 0 c).after 1 t)
      rw [vafter0_1]
    isplitl [H2]
    · change _ ⊢ owns (c : Thread nD τ) (stage0_2 (cfg0.slots t 2)) fullShare ((vdats m 0 c).after 2 t)
      rw [vafter0_2]
    isplitl [H3]
    · change _ ⊢ owns (c : Thread nD τ) (stage0_3 (cfg0.slots t 3)) fullShare ((vdats m 0 c).after 3 t)
      rw [vafter0_3]
    isplitl [H4]
    · change _ ⊢ owns (c : Thread nD τ) (stage0_4 (cfg0.slots t 4)) fullShare ((vdats m 0 c).after 4 t)
      rw [vafter0_4]
    isplitl [H5]
    · change _ ⊢ owns (c : Thread nD τ) (stage0_5 (cfg0.slots t 5)) fullShare ((vdats m 0 c).after 5 t)
      rw [vafter0_5]
    isplitl [H6]
    · simp only [show idle0 6 (grid0.coords t) = false from live 6 (.inl rfl) t h1]
      change _ ⊢ owns (c : Thread nD τ) (stage0_6 (cfg0.slots t 6)) fullShare ((vdats m 0 c).after 6 t)
      rw [vafter0_6]
    isplitl [H7]
    · simp only [show idle0 7 (grid0.coords t) = false from live 7 (.inr rfl) t h1]
      change _ ⊢ owns (c : Thread nD τ) (stage0_7 (cfg0.slots t 7)) fullShare ((vdats m 0 c).after 7 t)
      rw [vafter0_7]
    isplitl [H8]; · iexact H8
    isplitl [H9]; · iexact H9
    isplitl [H10]; · iexact H10
    isplitl [H11]; · iexact H11
    isplitl [H12]; · iexact H12
    iexact H13
  · rw [vbefore0_6 m c t h1, vbefore0_7 m c t h1]
    iapply (wp_frame_wand (window_middle c Set.univ _ _ _ _ _ _ _ _ _ _ _ _ _ _ _ _ _ _ _ _ _ _ _ _ _ _ _ _ _ _ _ _ _ _ _ _ _
      (iblk m c 0 t) (iblk m c 1 t) (iblk m c 2 t) (iblk m c 3 t) (iblk m c 4 t) (iblk m c 5 t)
      (codesF (iblk m c 0 t)) (scalesF (iblk m c 0 t)) h1 h2 h3))
    unfold HeldV
    isplitl [H0 H1 H2 H3 H4 H5 H6 H7 H8 H9 H10 H11 H12 H13 HS0 HS1 HS2 HS3]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS0]; · iexact HS0
      isplitl [HS1]; · iexact HS1
      isplitl [HS2]; · iexact HS2
      iexact HS3
    iintro ⟨H0, H1, H2, H3, H4, H5, H6, H7, H8, H9, H10, H11, H12, H13, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]
    · change _ ⊢ owns (c : Thread nD τ) (stage0_0 (cfg0.slots t 0)) fullShare ((vdats m 0 c).after 0 t)
      rw [vafter0_0]
    isplitl [H1]
    · change _ ⊢ owns (c : Thread nD τ) (stage0_1 (cfg0.slots t 1)) fullShare ((vdats m 0 c).after 1 t)
      rw [vafter0_1]
    isplitl [H2]
    · change _ ⊢ owns (c : Thread nD τ) (stage0_2 (cfg0.slots t 2)) fullShare ((vdats m 0 c).after 2 t)
      rw [vafter0_2]
    isplitl [H3]
    · change _ ⊢ owns (c : Thread nD τ) (stage0_3 (cfg0.slots t 3)) fullShare ((vdats m 0 c).after 3 t)
      rw [vafter0_3]
    isplitl [H4]
    · change _ ⊢ owns (c : Thread nD τ) (stage0_4 (cfg0.slots t 4)) fullShare ((vdats m 0 c).after 4 t)
      rw [vafter0_4]
    isplitl [H5]
    · change _ ⊢ owns (c : Thread nD τ) (stage0_5 (cfg0.slots t 5)) fullShare ((vdats m 0 c).after 5 t)
      rw [vafter0_5]
    isplitl [H6]
    · simp only [show idle0 6 (grid0.coords t) = true from (past 6 (.inl rfl) t h1).2.2]
      cases (win0 6).flush t
      · iexists d6; rw [vbefore0_6 m c t h1]; iexact H6
      · change _ ⊢ owns (c : Thread nD τ) (stage0_6 (cfg0.slots t 6)) fullShare ((vdats m 0 c).after 6 t)
        rw [vafter0_6]
    isplitl [H7]
    · simp only [show idle0 7 (grid0.coords t) = true from (past 7 (.inr rfl) t h1).2.2]
      cases (win0 7).flush t
      · iexists d7; rw [vbefore0_7 m c t h1]; iexact H7
      · change _ ⊢ owns (c : Thread nD τ) (stage0_7 (cfg0.slots t 7)) fullShare ((vdats m 0 c).after 7 t)
        rw [vafter0_7]
    isplitl [H8]; · iexact H8
    isplitl [H9]; · iexact H9
    isplitl [H10]; · iexact H10
    isplitl [H11]; · iexact H11
    isplitl [H12]; · iexact H12
    iexact H13
  · rw [vbefore0_6 m c t h1, vbefore0_7 m c t h1]
    iapply (wp_frame_wand (window_last c Set.univ _ _ _ _ _ _ _ _ _ _ _ _ _ _ _ _ _ _ _ _ _ _ _ _ _ _ _ _ _ _ _ _ _ _ _ _ _
      (iblk m c 0 t) (iblk m c 1 t) (iblk m c 2 t) (iblk m c 3 t) (iblk m c 4 t) (iblk m c 5 t)
      (codesF (iblk m c 0 t)) (scalesF (iblk m c 0 t)) h1 h2 h3))
    unfold HeldV
    isplitl [H0 H1 H2 H3 H4 H5 H6 H7 H8 H9 H10 H11 H12 H13 HS0 HS1 HS2 HS3]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS0]; · iexact HS0
      isplitl [HS1]; · iexact HS1
      isplitl [HS2]; · iexact HS2
      iexact HS3
    iintro ⟨H0, H1, H2, H3, H4, H5, H6, H7, H8, H9, H10, H11, H12, H13, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]
    · change _ ⊢ owns (c : Thread nD τ) (stage0_0 (cfg0.slots t 0)) fullShare ((vdats m 0 c).after 0 t)
      rw [vafter0_0]
    isplitl [H1]
    · change _ ⊢ owns (c : Thread nD τ) (stage0_1 (cfg0.slots t 1)) fullShare ((vdats m 0 c).after 1 t)
      rw [vafter0_1]
    isplitl [H2]
    · change _ ⊢ owns (c : Thread nD τ) (stage0_2 (cfg0.slots t 2)) fullShare ((vdats m 0 c).after 2 t)
      rw [vafter0_2]
    isplitl [H3]
    · change _ ⊢ owns (c : Thread nD τ) (stage0_3 (cfg0.slots t 3)) fullShare ((vdats m 0 c).after 3 t)
      rw [vafter0_3]
    isplitl [H4]
    · change _ ⊢ owns (c : Thread nD τ) (stage0_4 (cfg0.slots t 4)) fullShare ((vdats m 0 c).after 4 t)
      rw [vafter0_4]
    isplitl [H5]
    · change _ ⊢ owns (c : Thread nD τ) (stage0_5 (cfg0.slots t 5)) fullShare ((vdats m 0 c).after 5 t)
      rw [vafter0_5]
    isplitl [H6]
    · simp only [show idle0 6 (grid0.coords t) = true from (past 6 (.inl rfl) t h1).2.2]
      cases (win0 6).flush t
      · iexists d6; rw [vbefore0_6 m c t h1]; iexact H6
      · change _ ⊢ owns (c : Thread nD τ) (stage0_6 (cfg0.slots t 6)) fullShare ((vdats m 0 c).after 6 t)
        rw [vafter0_6]
    isplitl [H7]
    · simp only [show idle0 7 (grid0.coords t) = true from (past 7 (.inr rfl) t h1).2.2]
      cases (win0 7).flush t
      · iexists d7; rw [vbefore0_7 m c t h1]; iexact H7
      · change _ ⊢ owns (c : Thread nD τ) (stage0_7 (cfg0.slots t 7)) fullShare ((vdats m 0 c).after 7 t)
        rw [vafter0_7]
    isplitl [H8]; · iexact H8
    isplitl [H9]; · iexact H9
    isplitl [H10]; · iexact H10
    isplitl [H11]; · iexact H11
    isplitl [H12]; · iexact H12
    iexact H13

set_option backward.isDefEq.respectTransparency.types false in
theorem vrun_main : θ_run defs (onTc (τ := τ) (main (F := F))) (s₀ m ρ) (Pipeline.RDat.FramePost (cfgs 0) (fun c => (vdats m 0 c).toRForget vforgets0) (V m)) :=
  Pipeline.θ_run_frame_forget cfgs (vdats m) (0 : Fin 1) launch0 defs₀ Variants.none vforgets0 m ρ main
    (hbody := fun c => vbody_obligation m c) (hshare := fun c => (vdats m 0 c).share_full fun _ => rfl)
    (howed := fun _ _ => rfl) (V := V m) (hmain := hmain m Variants.none) (hA := vA_eq m) (hΦ := fun _ _ => rfl)

end Cert.PyramidIdeal.Gen

end
-- ==== Proof.WindowMath.lean ====
/-
  A window of four rows over the extended reals: its entries, the largest magnitude among them, its codes and
  its scale.
-/
module

public import proofs.«01_k».proof.Proof.Math
public import Idealize.ShloMosaic.Lib.ValueLayout

@[expose] public section

noncomputable section

namespace Cert.Win

open Idealize.ShloMosaic Idealize.ShloMosaic.ValueIdx
open Cert.Proj (expE codeE scaleE)

abbrev Ax : Shape := ⟨3, ![2, 8192, 1024]⟩
abbrev Ac : Shape := ⟨3, ![2, 2048, 4096]⟩
abbrev As : Shape := ⟨3, ![2, 1, 2048]⟩

/-- Entry `q` of window `w` of graph `b`: the window's four rows one after the other. -/
def entry (x : Vec Ideal Ax .bf16) (b : Fin 2) (w : Fin 2048) (q : Fin 4096) : EReal :=
  x (ix3 b (⟨4 * w.val + q.val / 1024, by omega⟩ : Fin 8192) (⟨q.val % 1024, by omega⟩ : Fin 1024))

/-- A window's largest magnitude. -/
def top (x : Vec Ideal Ax .bf16) (b : Fin 2) (w : Fin 2048) : EReal :=
  Finset.univ.sup fun q : Fin 4096 => max (entry x b w q) (-(entry x b w q))

/-- The windows' codes, -/
def codes (x : Vec Ideal Ax .bf16) : Vec Ideal Ac .fp8e4m3 := fun j => codeE (top x (j 0) (j 1)) (entry x (j 0) (j 1) (j 2))
/-- and their scales. -/
def scales (x : Vec Ideal Ax .bf16) : Vec Ideal As .f32 := fun j => scaleE (top x (j 0) (j 2))

/-- The largest of a row's thousand-odd entries, for each of four rows, and then of the four. -/
theorem sup4 (f : Fin 4096 → EReal) (g : Fin 4 → EReal)
    (h : ∀ r : Fin 4, g r = Finset.univ.sup fun k : Fin 1024 => f ⟨1024 * r.val + k.val, by omega⟩) :
    max (max (max (g 0) (g 1)) (g 2)) (g 3) = Finset.univ.sup f := by
  refine le_antisymm ?_ (Finset.sup_le fun q _ => ?_)
  · have hg : ∀ r, g r ≤ Finset.univ.sup f := fun r => by
      rw [h]; exact Finset.sup_le fun k _ => Finset.le_sup (f := f) (Finset.mem_univ _)
    simp only [max_le_iff, hg, and_self]
  · have e : f q ≤ g ⟨q.val / 1024, by omega⟩ := by
      rw [h]
      refine le_trans (le_of_eq (congrArg f (Fin.ext ?_)))
        (Finset.le_sup (f := fun k : Fin 1024 => f ⟨1024 * (q.val / 1024) + k.val, by omega⟩) (Finset.mem_univ (⟨q.val % 1024, by omega⟩ : Fin 1024)))
      show q.val = 1024 * (q.val / 1024) + q.val % 1024
      omega
    refine e.trans ?_
    generalize (⟨q.val / 1024, by omega⟩ : Fin 4) = r
    fin_cases r <;> simp [le_max_iff]

end Cert.Win

end
-- ==== Proof.PyramidIdealSpec.lean ====
/-
  The codes and the scales of the pyramid's windows over the extended reals, index by index.
-/
module

public import proofs.«01_k».proof.Proof.WindowFirst
public import proofs.«01_k».proof.Proof.WindowMath
public import proofs.«01_k».proof.Proof.RefSpec

@[expose] public section

set_option maxRecDepth 16384

noncomputable section

namespace Cert.PyramidIdeal.Gen

open Idealize.ShloMosaic Idealize.SL.Sem Idealize.ShloMosaic.ValueIdx
open Cert.Proj (expE codeE scaleE)
open Cert.ReferenceIdeal.Gen (expR expR_apply downR downR_apply clipR clipR_apply exp2_read)

theorem pay5_apply (v : Vec Ideal S1x64x1024 .bf16) (r : Fin 64) (k : Fin 1024) :
    k0_pay5 v (ValueIdx.ix2 r k) = v (ValueIdx.ix3 (0 : Fin 1) r k) := by
  unfold k0_pay5
  refine shapeCast_apply _ _ _ (ValueIdx.ix3 (0 : Fin 1) r k) ?_
  rw [Shape.rowMajor_val_three, Shape.rowMajor_val_two]
  show (0 * 64 + r.val) * 1024 + k.val = r.val * 1024 + k.val
  omega

theorem pay6_apply (v : Vec Ideal S1x64x1024 .bf16) (r : Fin 64) (k : Fin 1024) :
    k0_pay6 v (ValueIdx.ix2 r k) = v (ValueIdx.ix3 (0 : Fin 1) r k) :=
  pay5_apply v r k

/-- Widening over the reals is the identity. -/
theorem wide_apply {s : Shape} (x : FVec Ideal s .bf16) (h : FTy.bf16.bits < FTy.f32.bits) (i : s.Idx) :
    (extf .f32 x h : FVec Ideal s .f32) i = x i := rfl

theorem pay16_apply (v : FVec Ideal S64x1024 .bf16) (r : Fin 64) (l : Fin 128) :
    k0_pay16 v (ValueIdx.ix2 r l) = Finset.univ.sup fun k : Fin 1024 => (max (v (ValueIdx.ix2 r k)) (-(v (ValueIdx.ix2 r k))) : EReal) := by
  unfold k0_pay16
  refine (shapeCast_apply _ _ _ (ValueIdx.ix2 r l) rfl).trans ?_
  refine (broadcastTo_apply _ _ _ (ValueIdx.ix2 r (0 : Fin 1)) fun a => ?_).trans ?_
  · match a with
    | ⟨0, _⟩ => rfl
    | ⟨1, _⟩ => rfl
  refine (shapeCast_apply _ _ _ (ValueIdx.ix2 r (0 : Fin 1)) rfl).trans ?_
  refine (wide_apply _ _ _).trans ?_
  refine (shapeCast_apply (s := S64) (t := S64x1) _ _ (ValueIdx.ix2 r (0 : Fin 1)) (ValueIdx.ix1 r) ?_).trans ?_
  · rw [Shape.rowMajor_val_one, Shape.rowMajor_val_two]
    show r.val = r.val * 1 + 0
    omega
  refine (Ideal.multiReduction_maximumf_single _ _ _ _ _ _).trans ?_
  have hbot : (FloatOps.ofBits (F := Ideal) .bf16 0xFF80#16 : EReal) = ⊥ := by
    show Ideal.ofBits .bf16 0xFF80#16 = ⊥
    simp [Ideal.ofBits, Ideal.ieee]
  show Finset.fold max (FloatOps.ofBits (F := Ideal) .bf16 0xFF80#16 : EReal) _ _ = _
  rw [hbot, Finset.sup_def]
  refine Finset.fold_congr fun k _ => ?_
  have hl : reduces_S64x1024_S64.lift (ValueIdx.ix1 r) k = ValueIdx.ix2 r k := by
    funext c; refine Fin.ext ?_
    match c with
    | ⟨0, _⟩ => rfl
    | ⟨1, _⟩ => rfl
  show (max (v _) (-(v _)) : EReal) = _
  rw [hl]
  rfl

variable (x : Vec Ideal S1x1024x1024 .bf16)

theorem chunk_apply (n r : Fin 1024) (k : Fin 1024) (hn : n = r) :
    chunk x (n.val / 64) (ValueIdx.ix3 (0 : Fin 1) (⟨n.val % 64, Nat.mod_lt _ (by omega)⟩ : Fin 64) k) = x (ValueIdx.ix3 (0 : Fin 1) r k) := by
  subst hn
  unfold chunk
  refine congrArg (fun r : Fin 1024 => x (ValueIdx.ix3 (0 : Fin 1) r k)) (Fin.ext ?_)
  show (64 * (n.val / 64) + n.val % 64) % 1024 = n.val
  omega

theorem rowsF_apply (t : Fin 8) (n : Fin 1024) (l : Fin 128) :
    rowsF x (ValueIdx.ix3 t n l) = x (ValueIdx.ix3 (0 : Fin 1) n (⟨128 * t.val + l.val, by omega⟩ : Fin 1024)) := by
  unfold rowsF
  refine (pay6_apply _ _ _).trans ((chunk_apply x n n _ rfl).trans ?_)
  refine congrArg (fun k : Fin 1024 => x (ValueIdx.ix3 (0 : Fin 1) n k)) (Fin.ext ?_)
  show (128 * t.val + l.val) % 1024 = 128 * t.val + l.val
  omega

theorem topsF_apply (n : Fin 1024) (l : Fin 128) :
    topsF x (ValueIdx.ix2 n l) = Finset.univ.sup fun k : Fin 1024 => (max (x (ValueIdx.ix3 (0 : Fin 1) n k)) (-(x (ValueIdx.ix3 (0 : Fin 1) n k))) : EReal) := by
  unfold topsF
  refine (pay16_apply _ _ _).trans (Finset.sup_congr rfl fun k _ => ?_)
  exact congrArg (fun a : EReal => max a (-a)) ((pay5_apply _ _ _).trans (chunk_apply x n n k rfl))

/-- Entry `q` of the block's window `w`. -/
def bentry (w : Fin 256) (q : Fin 4096) : EReal :=
  x (ValueIdx.ix3 (0 : Fin 1) (⟨4 * w.val + q.val / 1024, by omega⟩ : Fin 1024) (⟨q.val % 1024, by omega⟩ : Fin 1024))

/-- The block's window's largest magnitude. -/
def btop (w : Fin 256) : EReal := Finset.univ.sup fun q : Fin 4096 => max (bentry x w q) (-(bentry x w q))

theorem winTop_apply (w : Fin 256) (l : Fin 128) : winTop x (ValueIdx.ix2 w l) = btop x w := by
  unfold btop
  refine Eq.trans ?_ (Win.sup4 (fun q => max (bentry x w q) (-(bentry x w q)))
    (fun r => topsF x (ValueIdx.ix2 (⟨r.val + 4 * w.val, by omega⟩ : Fin 1024) l)) (fun r => ?_))
  · rfl
  · rw [topsF_apply]
    refine Finset.sup_congr rfl fun k _ => ?_
    refine congrArg (fun a : EReal => max a (-a)) ?_
    unfold bentry
    refine congrArg₂ (fun (a : Fin 1024) (b : Fin 1024) => x (ValueIdx.ix3 (0 : Fin 1) a b)) (Fin.ext ?_) (Fin.ext ?_)
    · show r.val + 4 * w.val = 4 * w.val + (1024 * r.val + k.val) / 1024; omega
    · show k.val = (1024 * r.val + k.val) % 1024; omega

theorem pay24_eq (v : FVec Ideal S256x128 .f32) : k0_pay24 v (Scalar.ofBits .f32 0x3B124925#32) = expR v := by
  unfold k0_pay24 expR
  rfl

theorem pay26_apply (v : FVec Ideal S256x128 .f32) (y : S256x128.Idx) :
    k0_pay26 v (Scalar.ofBits .f32 0x3B124925#32) y = Ideal.exp2 (0 - expE (v y)) := by
  have e : k0_pay26 v (Scalar.ofBits .f32 0x3B124925#32) = downR (expR v) := by
    unfold k0_pay26 downR
    rw [pay24_eq]
  rw [e, downR_apply, expR_apply]

theorem pay25_apply (v : FVec Ideal S256x128 .f32) (y : S256x128.Idx) :
    k0_pay25 v (Scalar.ofBits .f32 0x3B124925#32) y = scaleE (v y) := by
  unfold k0_pay25
  rw [pay24_eq]
  exact (exp2_read _ _).trans (congrArg Ideal.exp2 (expR_apply v y))

theorem pay29_apply (d : FVec Ideal S256x128 .f32) (v : Vec Ideal S1x256x128 .f32) (w : Fin 256) (l : Fin 128) (a : EReal)
    (hd : d (ValueIdx.ix2 w l) = Ideal.exp2 (0 - expE a)) : k0_pay29 d v (ValueIdx.ix3 (0 : Fin 1) w l) = codeE a (v (ValueIdx.ix3 (0 : Fin 1) w l)) := by
  unfold k0_pay29
  refine (shapeCast_apply _ _ _ (ValueIdx.ix2 w l) ?_).trans ?_
  · rw [Shape.rowMajor_val_three, Shape.rowMajor_val_two]
    show w.val * 128 + l.val = (0 * 256 + w.val) * 128 + l.val
    omega
  refine (clipR_apply _ d (ValueIdx.ix2 w l) a hd).trans (congrArg (codeE a) ?_)
  refine shapeCast_apply _ _ _ (ValueIdx.ix3 (0 : Fin 1) w l) ?_
  rw [Shape.rowMajor_val_three, Shape.rowMajor_val_two]
  show (0 * 256 + w.val) * 128 + l.val = w.val * 128 + l.val
  omega

theorem codesF_apply (w : Fin 256) (q : Fin 4096) : codesF x (ValueIdx.ix3 (0 : Fin 1) w q) = codeE (btop x w) (bentry x w q) := by
  unfold codesF
  refine (pay29_apply _ _ w _ (btop x w) ?_).trans (congrArg (codeE (btop x w)) ?_)
  · rw [pay26_apply, winTop_apply]
  · unfold tileF bentry
    refine (rowsF_apply x _ _ _).trans ?_
    refine congrArg₂ (fun (a : Fin 1024) (b : Fin 1024) => x (ValueIdx.ix3 (0 : Fin 1) a b)) (Fin.ext ?_) (Fin.ext ?_)
    · show q.val / 128 / 8 + 4 * w.val = 4 * w.val + q.val / 1024; omega
    · show 128 * (q.val / 128 % 8) + q.val % 128 = q.val % 1024; omega

theorem scalesF_apply (w : Fin 256) : scalesF x (ValueIdx.ix3 (0 : Fin 1) (0 : Fin 1) w) = scaleE (btop x w) := by
  unfold scalesF k0_pay27
  refine (shapeCast_apply _ _ _ (ValueIdx.ix2 (0 : Fin 1) w) ?_).trans ?_
  · rw [Shape.rowMajor_val_three, Shape.rowMajor_val_two]
    show 0 * 256 + w.val = (0 * 1 + 0) * 256 + w.val
    omega
  by_cases hw : w.val < 128
  · refine (concatenate_pair_apply_left (t := S1x256) (s₁ := S1x128) (s₂ := S1x128) _ _ _ _ _ rfl (ValueIdx.ix2 (0 : Fin 1) (⟨w.val, hw⟩ : Fin 128)) fun a => ?_).trans ?_
    · match a with
      | ⟨0, _⟩ => rfl
      | ⟨1, _⟩ => rfl
    refine (extractStridedSlice_apply _ _ _ _ (ValueIdx.ix2 (0 : Fin 128) (⟨w.val, hw⟩ : Fin 128)) fun a => ?_).trans ?_
    · match a with
      | ⟨0, _⟩ => rfl
      | ⟨1, _⟩ => exact (Nat.zero_add _).symm
    refine (transpose_apply _ _ _ _ (ValueIdx.ix2 (⟨w.val, hw⟩ : Fin 128) (0 : Fin 128)) fun a => ?_).trans ?_
    · match a with
      | ⟨0, _⟩ => rfl
      | ⟨1, _⟩ => rfl
    refine (extractStridedSlice_apply _ _ _ _ (ValueIdx.ix2 w (0 : Fin 128)) fun a => ?_).trans ?_
    · match a with
      | ⟨0, _⟩ => show w.val = 0 + w.val; omega
      | ⟨1, _⟩ => rfl
    rw [pay25_apply, winTop_apply]
  · refine (concatenate_pair_apply_right (t := S1x256) (s₁ := S1x128) (s₂ := S1x128) _ _ _ _ _ rfl rfl (ValueIdx.ix2 (0 : Fin 1) (⟨w.val - 128, by omega⟩ : Fin 128)) (fun a ha => ?_) ?_).trans ?_
    · match a, ha with
      | ⟨0, _⟩, _ => rfl
      | ⟨1, _⟩, ha => exact absurd rfl ha
    · show w.val - 128 + 128 = w.val; omega
    refine (extractStridedSlice_apply _ _ _ _ (ValueIdx.ix2 (0 : Fin 128) (⟨w.val - 128, by omega⟩ : Fin 128)) fun a => ?_).trans ?_
    · match a with
      | ⟨0, _⟩ => rfl
      | ⟨1, _⟩ => exact (Nat.zero_add _).symm
    refine (transpose_apply _ _ _ _ (ValueIdx.ix2 (⟨w.val - 128, by omega⟩ : Fin 128) (0 : Fin 128)) fun a => ?_).trans ?_
    · match a with
      | ⟨0, _⟩ => rfl
      | ⟨1, _⟩ => rfl
    refine (extractStridedSlice_apply _ _ _ _ (ValueIdx.ix2 w (0 : Fin 128)) fun a => ?_).trans ?_
    · match a with
      | ⟨0, _⟩ => show w.val = 128 + (w.val - 128); omega
      | ⟨1, _⟩ => rfl
    rw [pay25_apply, winTop_apply]

end Cert.PyramidIdeal.Gen

end
-- ==== Proof.PyramidIdealBlocks.lean ====
/-
  The pyramid's results 2 and 3 over the extended reals: the codes and the scales of the windows of the whole
  input.
-/
module

public import proofs.«01_k».proof.Proof.PyramidIdealRun
public import proofs.«01_k».proof.Proof.PyramidIdealSpec
public import Idealize.ShloMosaic.Lib.Pipeline.Covers

@[expose] public section

set_option maxRecDepth 16384

noncomputable section

namespace Cert.PyramidIdeal.Gen

open Idealize.ShloMosaic Idealize.ShloMosaic.TcCoe
open Idealize.SL.Sem
open Idealize.ShloMosaic.Pipeline (Dat Cfg Window)

variable (m : (ℓ : Loc nD τ sig) → Buf (Elt Ideal) ℓ)

/-- The block of windows point `t` works on. -/
def strip (t : Fin cfg0.N) : Nat := min (grid0.coords t 1).val 7

theorem map0 (t : Fin cfg0.N) (a : Fin 3) :
    cc0_transform_0 (grid0.coords t) a = (![(grid0.coords t 0).val, strip t, 0] : Fin 3 → Nat) a := by
  revert a; revert t; decide +kernel
theorem map6 (t : Fin cfg0.N) (a : Fin 3) :
    cc0_transform_6 (grid0.coords t) a = (![(grid0.coords t 0).val, strip t, 0] : Fin 3 → Nat) a := by
  revert a; revert t; decide +kernel
theorem map7 (t : Fin cfg0.N) (a : Fin 3) :
    cc0_transform_7 (grid0.coords t) a = (![(grid0.coords t 0).val, 0, strip t] : Fin 3 → Nat) a := by
  revert a; revert t; decide +kernel

theorem xblk (c : Dev nD) (t : Fin cfg0.N) (b : Fin 2) (r : Fin 1024) (R : Fin 8192) (k : Fin 1024)
    (hb : b.val = (grid0.coords t 0).val) (hR : R.val = strip t * 1024 + r.val) :
    (iblk m c 0 t : Vec Ideal S1x1024x1024 .bf16) (ValueIdx.ix3 (0 : Fin 1) r k) = V m c main_arg0 (ValueIdx.ix3 b R k) := by
  refine congrArg (V m c main_arg0) (funext fun a => Fin.ext ?_)
  refine (win0_0.rect_emb_val t _ a).trans ?_
  show cc0_transform_0 (grid0.coords t) a * _ + _ = _
  rw [map0]
  match a with
  | ⟨0, _⟩ => show (grid0.coords t 0).val * 1 + 0 = b.val; omega
  | ⟨1, _⟩ => show strip t * 1024 + r.val = R.val; omega
  | ⟨2, _⟩ => show 0 * 1024 + k.val = k.val; omega

theorem entry_blk (c : Dev nD) (t : Fin cfg0.N) (b : Fin 2) (w : Fin 256) (W : Fin 2048) (q : Fin 4096)
    (hb : b.val = (grid0.coords t 0).val) (hW : W.val = strip t * 256 + w.val) :
    bentry (iblk m c 0 t) w q = Win.entry (V m c main_arg0) b W q := by
  unfold bentry Win.entry
  refine xblk m c t b _ _ _ hb ?_
  show 4 * W.val + q.val / 1024 = strip t * 1024 + (4 * w.val + q.val / 1024)
  omega

theorem top_blk (c : Dev nD) (t : Fin cfg0.N) (b : Fin 2) (w : Fin 256) (W : Fin 2048)
    (hb : b.val = (grid0.coords t 0).val) (hW : W.val = strip t * 256 + w.val) :
    btop (iblk m c 0 t) w = Win.top (V m c main_arg0) b W := by
  unfold btop Win.top
  refine Finset.sup_congr rfl fun q _ => ?_
  rw [entry_blk m c t b w W q hb hW]

theorem point6 (c : Dev nD) (t : Fin cfg0.N) (y : S1x256x4096.Idx) :
    codesF (iblk m c 0 t) y = Win.codes (V m c main_arg0) ((win0_6.rect t).emb y) := by
  have y0 : (y 0).val < 1 := (y 0).isLt
  have e0 : (((win0_6.rect t).emb y) 0).val = (grid0.coords t 0).val := by
    refine (win0_6.rect_emb_val t y 0).trans ?_
    show cc0_transform_6 (grid0.coords t) 0 * 1 + (y 0).val = _
    rw [map6]
    show (grid0.coords t 0).val * 1 + (y 0).val = _
    omega
  have e1 : (((win0_6.rect t).emb y) 1).val = strip t * 256 + (y 1).val := by
    refine (win0_6.rect_emb_val t y 1).trans ?_
    show cc0_transform_6 (grid0.coords t) 1 * 256 + (y 1).val = _
    rw [map6]
    rfl
  have e2 : (y 2) = (((win0_6.rect t).emb y) 2) := by
    refine Fin.ext ((win0_6.rect_emb_val t y 2).trans ?_).symm
    show cc0_transform_6 (grid0.coords t) 2 * 4096 + (y 2).val = _
    rw [map6]
    show 0 * 4096 + (y 2).val = _
    omega
  have ey : y = ValueIdx.ix3 (0 : Fin 1) (y 1) (y 2) := by
    refine idx3_ext ?_ rfl rfl
    show (y 0).val = 0; omega
  refine (congrArg (codesF (iblk m c 0 t)) ey).trans ((codesF_apply (iblk m c 0 t) (y 1) (y 2)).trans ?_)
  unfold Win.codes
  rw [top_blk m c t _ (y 1) _ e0 e1, entry_blk m c t _ (y 1) _ (y 2) e0 e1, e2]

theorem point7 (c : Dev nD) (t : Fin cfg0.N) (y : S1x1x256.Idx) :
    scalesF (iblk m c 0 t) y = Win.scales (V m c main_arg0) ((win0_7.rect t).emb y) := by
  have y0 : (y 0).val < 1 := (y 0).isLt
  have y1 : (y 1).val < 1 := (y 1).isLt
  have e0 : (((win0_7.rect t).emb y) 0).val = (grid0.coords t 0).val := by
    refine (win0_7.rect_emb_val t y 0).trans ?_
    show cc0_transform_7 (grid0.coords t) 0 * 1 + (y 0).val = _
    rw [map7]
    show (grid0.coords t 0).val * 1 + (y 0).val = _
    omega
  have e2 : (((win0_7.rect t).emb y) 2).val = strip t * 256 + (y 2).val := by
    refine (win0_7.rect_emb_val t y 2).trans ?_
    show cc0_transform_7 (grid0.coords t) 2 * 256 + (y 2).val = _
    rw [map7]
    rfl
  have ey : y = ValueIdx.ix3 (0 : Fin 1) (0 : Fin 1) (y 2) := by
    refine idx3_ext ?_ ?_ rfl
    · show (y 0).val = 0; omega
    · show (y 1).val = 0; omega
  refine (congrArg (scalesF (iblk m c 0 t)) ey).trans ((scalesF_apply (iblk m c 0 t) (y 2)).trans ?_)
  unfold Win.scales
  rw [top_blk m c t _ (y 2) _ e0 e2]

/-- Each strip of windows is written back at some point. -/
theorem flushed (w : Fin cfg0.W) (hw : w = 6 ∨ w = 7) (b : Fin 2) (s : Fin 8) :
    ∃ t : Fin cfg0.N, (cfg0.win w).flush t = true ∧ (grid0.coords t 0).val = b.val ∧ strip t = s.val := by
  revert b s
  rcases hw with rfl | rfl <;> decide +kernel

theorem cover6 (y : S2x2048x4096.Idx) : ∃ t : Fin cfg0.N, win0_6.flush t = true ∧ y ∈ (win0_6.rect t).set := by
  have y1 : (y 1).val < 2048 := (y 1).isLt
  obtain ⟨t, hf, h0, h1⟩ := flushed 6 (.inl rfl) (y 0) (⟨(y 1).val / 256, by omega⟩ : Fin 8)
  have h1' : strip t = (y 1).val / 256 := h1
  refine ⟨t, hf, Rect.mem_set_unit.mpr fun a => ?_⟩
  show cc0_transform_6 (grid0.coords t) a * win0_6.size a ≤ (y a).val ∧ (y a).val < cc0_transform_6 (grid0.coords t) a * win0_6.size a + win0_6.size a
  rw [map6]
  match a with
  | ⟨0, _⟩ =>
    show (grid0.coords t 0).val * 1 ≤ (y 0).val ∧ (y 0).val < (grid0.coords t 0).val * 1 + 1
    omega
  | ⟨1, _⟩ =>
    show strip t * 256 ≤ (y 1).val ∧ (y 1).val < strip t * 256 + 256
    omega
  | ⟨2, _⟩ =>
    have y2' : (y 2).val < 4096 := (y 2).isLt
    show 0 * 4096 ≤ (y 2).val ∧ (y 2).val < 0 * 4096 + 4096
    omega

theorem cover7 (y : S2x1x2048.Idx) : ∃ t : Fin cfg0.N, win0_7.flush t = true ∧ y ∈ (win0_7.rect t).set := by
  have y1 : (y 1).val < 1 := (y 1).isLt
  have y2 : (y 2).val < 2048 := (y 2).isLt
  obtain ⟨t, hf, h0, h1⟩ := flushed 7 (.inr rfl) (y 0) (⟨(y 2).val / 256, by omega⟩ : Fin 8)
  have h1' : strip t = (y 2).val / 256 := h1
  refine ⟨t, hf, Rect.mem_set_unit.mpr fun a => ?_⟩
  show cc0_transform_7 (grid0.coords t) a * win0_7.size a ≤ (y a).val ∧ (y a).val < cc0_transform_7 (grid0.coords t) a * win0_7.size a + win0_7.size a
  rw [map7]
  match a with
  | ⟨0, _⟩ =>
    show (grid0.coords t 0).val * 1 ≤ (y 0).val ∧ (y 0).val < (grid0.coords t 0).val * 1 + 1
    omega
  | ⟨1, _⟩ =>
    show 0 * 1 ≤ (y 1).val ∧ (y 1).val < 0 * 1 + 1
    omega
  | ⟨2, _⟩ =>
    show strip t * 256 ≤ (y 2).val ∧ (y 2).val < strip t * 256 + 256
    omega

theorem arr6 (c : Dev nD) : (vdats m 0 c).arrAt 6 cfg0.N = Win.codes (V m c main_arg0) :=
  (vdats m 0 c).arrAt_eq_of_cover 6 (Win.codes (V m c main_arg0))
    (fun t _ => by
      refine Eq.trans (b := fun y => codesF (iblk m c 0 t) y) ?_ (funext fun y => point6 m c t y)
      refine (congrArg (win0_6.cut (grid0.coords t)) (vafter0_6 m c t)).trans ?_
      rfl)
    (fun y => by
      obtain ⟨t, hf, hy⟩ := cover6 y
      exact ⟨t, hf, (Finset.ext_iff.mp (View.set_slice_whole main_v2_0 (win0_6.rect t)) y).mpr hy⟩)

theorem arr7 (c : Dev nD) : (vdats m 0 c).arrAt 7 cfg0.N = Win.scales (V m c main_arg0) :=
  (vdats m 0 c).arrAt_eq_of_cover 7 (Win.scales (V m c main_arg0))
    (fun t _ => by
      refine Eq.trans (b := fun y => scalesF (iblk m c 0 t) y) ?_ (funext fun y => point7 m c t y)
      refine (congrArg (win0_7.cut (grid0.coords t)) (vafter0_7 m c t)).trans ?_
      rfl)
    (fun y => by
      obtain ⟨t, hf, hy⟩ := cover7 y
      exact ⟨t, hf, (Finset.ext_iff.mp (View.set_slice_whole main_v2_1 (win0_7.rect t)) y).mpr hy⟩)

end Cert.PyramidIdeal.Gen

end
-- ==== Proof.WindowsRun.lean ====
/-
  The windows' reference over the extended reals: its two results, index by index.
-/
module

public import proofs.«01_k».proof.Proof.Gen.WindowsIdeal.Frame
public import proofs.«01_k».proof.Proof.WindowMath
public import proofs.«01_k».proof.Proof.RefSpec
public import Idealize.ShloMosaic.Lib.Pipeline.ValueKit

@[expose] public section

set_option maxRecDepth 16384

noncomputable section

namespace Cert.WindowsIdeal.Gen

open Idealize.ShloMosaic Idealize.ShloMosaic.TcCoe
open Idealize.SL.Sem
open Idealize.ShloMosaic.Pipeline (Dat Cfg Window)
open Cert.Proj (expE codeE scaleE)
open Cert.ReferenceIdeal.Gen (expR expR_apply downR downR_apply clipR clipR_apply exp2_read)

variable (m : (ℓ : Loc nD τ sig) → Buf (Elt Ideal) ℓ)

section

variable (v : Vec Ideal S2x2048x4096 .bf16)

theorem pay1_apply (y : S2x2048x4096.Idx) : k0_pay1 v y = v y := by
  unfold k0_pay1
  exact shapeCast_apply _ _ _ y rfl

/-- The largest magnitudes, as the reference computes them. -/
def tops : FVec Ideal S2x2048x1 .f32 :=
  shapeCast S2x2048x1 (multiReduction .maximumf [2] S2x2048 (absf (k0_pay1 v)) 0xFF800000#32 reduces_S2x2048x4096_S2x2048 (.inl rfl) rfl : FVec Ideal S2x2048 .f32)
    shapeCasts_S2x2048_S2x2048x1

/-- A row's largest magnitude. -/
def rtop (b : Fin 2) (w : Fin 2048) : EReal :=
  Finset.univ.sup fun q : Fin 4096 => max (v (ValueIdx.ix3 b w q)) (-(v (ValueIdx.ix3 b w q)))

theorem tops_apply (b : Fin 2) (w : Fin 2048) : tops v (ValueIdx.ix3 b w (0 : Fin 1)) = rtop v b w := by
  unfold tops rtop
  refine (shapeCast_apply (s := S2x2048) (t := S2x2048x1) _ _ (ValueIdx.ix3 b w (0 : Fin 1)) (ValueIdx.ix2 b w) ?_).trans ?_
  · rw [Shape.rowMajor_val_three, Shape.rowMajor_val_two]
    show b.val * 2048 + w.val = (b.val * 2048 + w.val) * 1 + 0
    omega
  refine (Ideal.multiReduction_maximumf_single _ _ _ _ _ _).trans ?_
  have hbot : (FloatOps.ofBits (F := Ideal) .f32 0xFF800000#32 : EReal) = ⊥ := by
    show Ideal.ofBits .f32 0xFF800000#32 = ⊥
    simp [Ideal.ofBits, Ideal.ieee]
  show Finset.fold max (FloatOps.ofBits (F := Ideal) .f32 0xFF800000#32 : EReal) _ _ = _
  rw [hbot, Finset.sup_def]
  refine Finset.fold_congr fun q _ => ?_
  have hl : reduces_S2x2048x4096_S2x2048.lift (ValueIdx.ix2 b w) q = ValueIdx.ix3 b w q := by
    funext c; refine Fin.ext ?_
    match c with
    | ⟨0, _⟩ => rfl
    | ⟨1, _⟩ => rfl
    | ⟨2, _⟩ => rfl
  show (max (k0_pay1 v _) (-(k0_pay1 v _)) : EReal) = _
  rw [hl]
  exact congrArg (fun a : EReal => max a (-a)) (pay1_apply v _)

theorem pay2_eq : k0_pay2 v = expR (tops v) := by
  unfold k0_pay2 expR tops
  rfl

theorem pay3_eq : k0_pay3 v = clipR (k0_pay1 v) (broadcastTo S2x2048x4096 (downR (k0_pay2 v)) broadcasts_S2x2048x1_S2x2048x4096) := by
  unfold k0_pay3 clipR downR
  rfl

theorem pay3_apply (b : Fin 2) (w : Fin 2048) (q : Fin 4096) :
    k0_pay3 v (ValueIdx.ix3 b w q) = codeE (rtop v b w) (v (ValueIdx.ix3 b w q)) := by
  rw [pay3_eq]
  refine (clipR_apply _ _ _ (rtop v b w) ?_).trans (congrArg (codeE _) (pay1_apply v _))
  refine (broadcastTo_apply _ _ _ (ValueIdx.ix3 b w (0 : Fin 1)) fun a => ?_).trans ?_
  · match a with
    | ⟨0, _⟩ => rfl
    | ⟨1, _⟩ => rfl
    | ⟨2, _⟩ => rfl
  rw [downR_apply, pay2_eq, expR_apply, tops_apply]

theorem pay4_apply (b : Fin 2) (w : Fin 2048) :
    k0_pay4 v (ValueIdx.ix3 b (0 : Fin 1) w) = scaleE (rtop v b w) := by
  unfold k0_pay4
  refine (shapeCast_apply (s := S2x2048) (t := S2x1x2048) _ _ _ (ValueIdx.ix2 b w) ?_).trans ?_
  · rw [Shape.rowMajor_val_three, Shape.rowMajor_val_two]
    show b.val * 2048 + w.val = (b.val * 1 + 0) * 2048 + w.val
    omega
  refine (shapeCast_apply (s := S2x2048x1) (t := S2x2048) _ _ _ (ValueIdx.ix3 b w (0 : Fin 1)) ?_).trans ?_
  · rw [Shape.rowMajor_val_three, Shape.rowMajor_val_two]
    show (b.val * 2048 + w.val) * 1 + 0 = b.val * 2048 + w.val
    omega
  refine (exp2_read _ _).trans (congrArg Ideal.exp2 ?_)
  rw [pay2_eq, expR_apply, tops_apply]

theorem ld0 : View.ld v r0_0 = v := View.ld_unit_lit _ _ (by decide)

theorem out1_eq : out0_1 v = k0_pay3 v := by
  unfold out0_1
  refine (View.canon_cons_unit_lit _ _ _ (by decide)).trans ?_
  rw [ld0]

theorem out2_eq : out0_2 v = k0_pay4 v := by
  unfold out0_2
  refine (View.canon_cons_unit_lit _ _ _ (by decide)).trans ?_
  rw [ld0]

end

theorem blk0_eq (c : Dev nD) (t : Fin cfg0.N) : iblk m c 0 t = V m c main_v0 := by
  unfold iblk
  funext x
  refine congrArg (V m c main_v0) (funext fun a => Fin.ext ?_)
  exact win0_0.rect_emb_val_of_index_zero t a rfl x

theorem V_v0 (c : Dev nD) (b : Fin 2) (w : Fin 2048) (q : Fin 4096) :
    V m c main_v0 (ValueIdx.ix3 b w q) = Win.entry (m ((c : Thread nD τ).loc main_arg0)) b w q := by
  entry_read
  refine shapeCast_apply _ _ _ (ValueIdx.ix3 b (⟨4 * w.val + q.val / 1024, by omega⟩ : Fin 8192) (⟨q.val % 1024, by omega⟩ : Fin 1024)) ?_
  refine (Shape.rowMajor_val_three (d := ![2, 8192, 1024]) _).trans (Eq.trans ?_ (Shape.rowMajor_val_three (d := ![2, 2048, 4096]) _).symm)
  show (b.val * 8192 + (4 * w.val + q.val / 1024)) * 1024 + q.val % 1024 = (b.val * 2048 + w.val) * 4096 + q.val
  omega

theorem top_eq (c : Dev nD) (b : Fin 2) (w : Fin 2048) :
    rtop (V m c main_v0) b w = Win.top (m ((c : Thread nD τ).loc main_arg0)) b w := by
  unfold rtop Win.top
  refine Finset.sup_congr rfl fun q _ => ?_
  rw [V_v0]

theorem codes_eq (c : Dev nD) : k0_pay3 (V m c main_v0) = Win.codes (m ((c : Thread nD τ).loc main_arg0)) := by
  funext j
  have ej : j = ValueIdx.ix3 (j 0) (j 1) (j 2) := by
    funext a
    match a with
    | ⟨0, _⟩ => rfl
    | ⟨1, _⟩ => rfl
    | ⟨2, _⟩ => rfl
  refine (congrArg (k0_pay3 (V m c main_v0)) ej).trans ((pay3_apply _ _ _ _).trans ?_)
  exact congrArg₂ codeE (top_eq m c (j 0) (j 1)) (V_v0 m c (j 0) (j 1) (j 2))

theorem scales_eq (c : Dev nD) : k0_pay4 (V m c main_v0) = Win.scales (m ((c : Thread nD τ).loc main_arg0)) := by
  funext j
  have ej : j = ValueIdx.ix3 (j 0) (0 : Fin 1) (j 2) := by
    funext a
    match a with
    | ⟨0, _⟩ => rfl
    | ⟨1, _⟩ => exact Fin.ext (by have : (j 1).val < 1 := (j 1).isLt; show (j 1).val = 0; omega)
    | ⟨2, _⟩ => rfl
  refine (congrArg (k0_pay4 (V m c main_v0)) ej).trans ((pay4_apply _ _ _).trans ?_)
  exact congrArg scaleE (top_eq m c (j 0) (j 2))

theorem arr1 (c : Dev nD) : (dats m 0 c).arrAt 1 cfg0.N = Win.codes (m ((c : Thread nD τ).loc main_arg0)) := by
  refine (dats m 0 c).arrAt_eq_of_after_last 1 t0_0 (by decide +kernel) _ fun j => ?_
  have h := (after0_1 m c t0_0).trans (out1_eq ..)
  rw [blk0_eq, codes_eq] at h
  exact congrFun h j

theorem arr2 (c : Dev nD) : (dats m 0 c).arrAt 2 cfg0.N = Win.scales (m ((c : Thread nD τ).loc main_arg0)) := by
  refine (dats m 0 c).arrAt_eq_of_after_last 2 t0_0 (by decide +kernel) _ fun j => ?_
  have h := (after0_2 m c t0_0).trans (out2_eq ..)
  rw [blk0_eq, scales_eq] at h
  exact congrFun h j

end Cert.WindowsIdeal.Gen

end
-- ==== Proof.WindowValue.lean ====
/-
  The second value claim: from equal arguments the pyramid call and its reference end with equal codes and scales
  of the windows.
-/
module

public import proofs.«01_k».proof.Defs
public import proofs.«01_k».proof.Proof.PyramidIdealBlocks
public import proofs.«01_k».proof.Proof.WindowsRun

@[expose] public section

set_option maxRecDepth 16384

noncomputable section

namespace Cert.Proof

open Idealize.ShloMosaic Idealize.ShloMosaic.TcCoe Idealize.SL.Sem

set_option backward.isDefEq.respectTransparency.types false in
theorem algebraic_windows : Cert.algebraic_PyramidIdeal_WindowsIdeal := by
  intro m g m' g' hpre hm
  refine ⟨fun c => Win.codes (m ((c.tc : Thread Cert.PyramidIdeal.nD Cert.PyramidIdeal.τ).loc Cert.PyramidIdeal.main_arg0)),
    fun c => Win.scales (m ((c.tc : Thread Cert.PyramidIdeal.nD Cert.PyramidIdeal.τ).loc Cert.PyramidIdeal.main_arg0)), ?_, ?_⟩
  · refine (θ_run _ _ _).mono (fun r h c => ?_) (Cert.PyramidIdeal.Gen.vrun_main m g)
    have e0 := Cert.PyramidIdeal.Gen.V_main_arg0 m c
    have h6 := ((Cert.PyramidIdeal.Gen.vdats m 0 c).toRForget_arrAt_iff (fgt := Cert.PyramidIdeal.Gen.vforgets0) (w := 6) rfl _ _).mp ((h c).1 6)
    have h7 := ((Cert.PyramidIdeal.Gen.vdats m 0 c).toRForget_arrAt_iff (fgt := Cert.PyramidIdeal.Gen.vforgets0) (w := 7) rfl _ _).mp ((h c).1 7)
    refine ⟨(h6.trans (Cert.PyramidIdeal.Gen.arr6 m c)).trans (congrArg Win.codes e0),
      (h7.trans (Cert.PyramidIdeal.Gen.arr7 m c)).trans (congrArg Win.scales e0),
      (Eq.mp (congrFun (Pipeline.RDat.ArrAt_in ((Cert.PyramidIdeal.Gen.vdats m 0 c).toRForget Cert.PyramidIdeal.Gen.vforgets0) 0 rfl _) _) ((h c).1 0)).trans (Cert.PyramidIdeal.Gen.V_main_arg0 m c),
      (Eq.mp (congrFun (Pipeline.RDat.ArrAt_in ((Cert.PyramidIdeal.Gen.vdats m 0 c).toRForget Cert.PyramidIdeal.Gen.vforgets0) 1 rfl _) _) ((h c).1 1)).trans (Cert.PyramidIdeal.Gen.V_main_arg1 m c),
      (Eq.mp (congrFun (Pipeline.RDat.ArrAt_in ((Cert.PyramidIdeal.Gen.vdats m 0 c).toRForget Cert.PyramidIdeal.Gen.vforgets0) 2 rfl _) _) ((h c).1 2)).trans (Cert.PyramidIdeal.Gen.V_main_arg2 m c),
      (Eq.mp (congrFun (Pipeline.RDat.ArrAt_in ((Cert.PyramidIdeal.Gen.vdats m 0 c).toRForget Cert.PyramidIdeal.Gen.vforgets0) 3 rfl _) _) ((h c).1 3)).trans (Cert.PyramidIdeal.Gen.V_main_arg3 m c),
      ((h c).2 Cert.PyramidIdeal.main_arg4 (Pipeline.mem_restRefs_of Cert.PyramidIdeal.main_arg4 (by decide) (by decide))).trans (Cert.PyramidIdeal.Gen.V_main_arg4 m c),
      ((h c).2 Cert.PyramidIdeal.main_arg5 (Pipeline.mem_restRefs_of Cert.PyramidIdeal.main_arg5 (by decide) (by decide))).trans (Cert.PyramidIdeal.Gen.V_main_arg5 m c)⟩
  · refine (θ_run _ _ _).mono (fun r h c => ?_) (Cert.WindowsIdeal.Gen.run_main m' g')
    obtain ⟨e0, e1, e2, e3, e4, e5⟩ := hm c
    refine ⟨(((h c).1 1).trans (Cert.WindowsIdeal.Gen.arr1 m' c)).trans (congrArg Win.codes e0),
      (((h c).1 2).trans (Cert.WindowsIdeal.Gen.arr2 m' c)).trans (congrArg Win.scales e0),
      ((h c).2 Cert.WindowsIdeal.main_arg0 (Pipeline.mem_restRefs_of Cert.WindowsIdeal.main_arg0 (by decide) (by decide))).trans (Cert.WindowsIdeal.Gen.V_main_arg0 m' c),
      ((h c).2 Cert.WindowsIdeal.main_arg1 (Pipeline.mem_restRefs_of Cert.WindowsIdeal.main_arg1 (by decide) (by decide))).trans (Cert.WindowsIdeal.Gen.V_main_arg1 m' c),
      ((h c).2 Cert.WindowsIdeal.main_arg2 (Pipeline.mem_restRefs_of Cert.WindowsIdeal.main_arg2 (by decide) (by decide))).trans (Cert.WindowsIdeal.Gen.V_main_arg2 m' c),
      ((h c).2 Cert.WindowsIdeal.main_arg3 (Pipeline.mem_restRefs_of Cert.WindowsIdeal.main_arg3 (by decide) (by decide))).trans (Cert.WindowsIdeal.Gen.V_main_arg3 m' c),
      ((h c).2 Cert.WindowsIdeal.main_arg4 (Pipeline.mem_restRefs_of Cert.WindowsIdeal.main_arg4 (by decide) (by decide))).trans (Cert.WindowsIdeal.Gen.V_main_arg4 m' c),
      ((h c).2 Cert.WindowsIdeal.main_arg5 (Pipeline.mem_restRefs_of Cert.WindowsIdeal.main_arg5 (by decide) (by decide))).trans (Cert.WindowsIdeal.Gen.V_main_arg5 m' c)⟩

end Cert.Proof

end
-- ==== Proof.lean ====
/-
  The claims of this directory, put together: the frames by `Proof/KernelFrame.lean`,
  `Proof/KernelIdealFrame.lean`, `Proof/PyramidFrame.lean`, `Proof/PyramidIdealFrame.lean` and the generated
  certificates of the references, the equality of the results by `Proof/Value.lean` and
  `Proof/WindowValue.lean`.
-/
module

public import proofs.«01_k».proof.Defs
public import proofs.«01_k».proof.Proof.KernelFrame
public import proofs.«01_k».proof.Proof.KernelIdealFrame
public import proofs.«01_k».proof.Proof.Gen.ReferenceIdeal.Frame
public import proofs.«01_k».proof.Proof.Value
public import proofs.«01_k».proof.Proof.PyramidFrame
public import proofs.«01_k».proof.Proof.PyramidIdealFrame
public import proofs.«01_k».proof.Proof.WindowValue

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pyramid.Gen.facts,
    Cert.PyramidIdeal.Gen.facts, Cert.WindowsIdeal.Gen.facts, Cert.Pre_pre.facts,
    fun m ρ _ => Cert.Kernel.Gen.frame m ρ, fun m ρ _ => Cert.KernelIdeal.Gen.frame m ρ,
    fun m ρ _ => Cert.KernelIdeal.Gen.frame m ρ, fun m ρ _ => Cert.ReferenceIdeal.Gen.frame m ρ,
    fun m ρ _ => Cert.ReferenceIdeal.Gen.frame m ρ, fun m ρ _ => Cert.Pyramid.Gen.frame m ρ,
    fun m ρ _ => Cert.PyramidIdeal.Gen.frame m ρ, fun m ρ _ => Cert.WindowsIdeal.Gen.frame m ρ,
    trivial, algebraic, trivial, algebraic_windows⟩

end Cert.Proof

end
